-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_reals [hPre_reals : Cert.Pre_reals.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_reals.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_reals.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_reals.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_reals.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_reals [hPre_reals : Cert.Pre_reals.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_reals.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_reals.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_reals.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_reals.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_reals [hKernel2Ideal : Cert.Kernel2Ideal.Facts] [hPre_reals : Cert.Pre_reals.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_reals m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_reals [hReference2Ideal : Cert.Reference2Ideal.Facts] [hPre_reals : Cert.Pre_reals.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_reals m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_reals [hKernel2Ideal : Cert.Kernel2Ideal.Facts] [hReference2Ideal : Cert.Reference2Ideal.Facts] [hPre_reals : Cert.Pre_reals.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_reals m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "q_scale" .f32 0x3DD53B95#32 ((((Real.sqrt 192) * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_1)) (v2 : (c : Dev Cert.Kernel3Ideal.nD) → Buf (Elt Ideal) ((c.tc : Thread Cert.Kernel3Ideal.nD Cert.Kernel3Ideal.τ).loc Cert.Kernel3Ideal.main_v61_2)) (v3 : (c : Dev Cert.Kernel3Ideal.nD) → Buf (Elt Ideal) ((c.tc : Thread Cert.Kernel3Ideal.nD Cert.Kernel3Ideal.τ).loc Cert.Kernel3Ideal.main_v61_3)) (v4 : (c : Dev Cert.Kernel3Ideal.nD) → Buf (Elt Ideal) ((c.tc : Thread Cert.Kernel3Ideal.nD Cert.Kernel3Ideal.τ).loc Cert.Kernel3Ideal.main_v61_4)) (v5 : (c : Dev Cert.Kernel3Ideal.nD) → Buf (Elt Ideal) ((c.tc : Thread Cert.Kernel3Ideal.nD Cert.Kernel3Ideal.τ).loc Cert.Kernel3Ideal.main_v61_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_1) = v1 c
          ∧ r.2.mem ((c.tc : Thread Cert.Kernel3Ideal.nD Cert.Kernel3Ideal.τ).loc Cert.Kernel3Ideal.main_v61_2) = v2 c
          ∧ r.2.mem ((c.tc : Thread Cert.Kernel3Ideal.nD Cert.Kernel3Ideal.τ).loc Cert.Kernel3Ideal.main_v61_3) = v3 c
          ∧ r.2.mem ((c.tc : Thread Cert.Kernel3Ideal.nD Cert.Kernel3Ideal.τ).loc Cert.Kernel3Ideal.main_v61_4) = v4 c
          ∧ r.2.mem ((c.tc : Thread Cert.Kernel3Ideal.nD Cert.Kernel3Ideal.τ).loc Cert.Kernel3Ideal.main_v61_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_v119) = v1 c
          ∧ r.2.mem ((c.tc : Thread Cert.Reference3Ideal.nD Cert.Reference3Ideal.τ).loc Cert.Reference3Ideal.main_v121) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v122) = v4 c
          ∧ r.2.mem ((c.tc : Thread Cert.Reference3Ideal.nD Cert.Reference3Ideal.τ).loc Cert.Reference3Ideal.main_v123) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_ok : Cert.Pre_tables_ok.Facts) (hPre_reals : Cert.Pre_reals.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal) (hPre_tables_ok := hPre_tables_ok)
    ∧ quiescent_Kernel2 (hKernel2 := hKernel2)
    ∧ quiescent_Kernel2Ideal (hKernel2Ideal := hKernel2Ideal)
    ∧ quiescent_Kernel2Ideal_pre_reals (hKernel2Ideal := hKernel2Ideal) (hPre_reals := hPre_reals)
    ∧ quiescent_Reference2Ideal (hReference2Ideal := hReference2Ideal)
    ∧ quiescent_Reference2Ideal_pre_reals (hReference2Ideal := hReference2Ideal) (hPre_reals := hPre_reals)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_tables_ok := hPre_tables_ok)
    ∧ preserves_Kernel2_Kernel2Ideal
    ∧ algebraic_Kernel2Ideal_Reference2Ideal_pre_reals (hKernel2Ideal := hKernel2Ideal) (hReference2Ideal := hReference2Ideal) (hPre_reals := hPre_reals)
    ∧ preserves_Kernel3_Kernel3Ideal
    ∧ algebraic_Kernel3Ideal_Reference3Ideal (hKernel3Ideal := hKernel3Ideal) (hReference3Ideal := hReference3Ideal)
-- ==== Pre_reals.lean ====
abbrev S2x8192x4x128 : Shape := ⟨4, ![2, 8192, 4, 128]⟩
abbrev S2x8192x4x64 : Shape := ⟨4, ![2, 8192, 4, 64]⟩
abbrev S2x8192x64 : Shape := ⟨3, ![2, 8192, 64]⟩
abbrev S_ : Shape := ⟨0, ![]⟩

class Facts : Prop where
  bcast_S_S2x8192x4x128 : S_.BroadcastsInDim S2x8192x4x128 (![] : Fin 0 → Fin S2x8192x4x128.rank)
  bcast_S_S2x8192x4x64 : S_.BroadcastsInDim S2x8192x4x64 (![] : Fin 0 → Fin S2x8192x4x64.rank)
  bcast_S_S2x8192x64 : S_.BroadcastsInDim S2x8192x64 (![] : Fin 0 → Fin S2x8192x64.rank)

variable [Facts]

def fn {F : FTy → Type} [FloatOps F] (main_arg0 : FVec F S2x8192x4x128 .f32) (main_arg1 : FVec F S2x8192x4x64 .f32) (main_arg2 : FVec F S2x8192x4x128 .f32) (main_arg3 : FVec F S2x8192x64 .f32) (main_arg4 : FVec F S2x8192x4x128 .f32) : IVec S2x8192x4x128 1 × IVec S2x8192x4x64 1 × IVec S2x8192x4x128 1 × IVec S2x8192x64 1 :=
  let main_v0 : FVec F S2x8192x4x128 .f32 := Host.absf main_arg0
  let main_cst : FVec F S_ .f32 := constant S_ .f32 0x7F800000#32
  let main_v1 : FVec F S2x8192x4x128 .f32 := broadcastInDim S2x8192x4x128 ![] bcast_S_S2x8192x4x128 main_cst
  let main_v2 : IVec S2x8192x4x128 1 := cmpf .olt main_v0 main_v1
  let main_v3 : FVec F S2x8192x4x64 .f32 := Host.absf main_arg1
  let main_cst_0 : FVec F S_ .f32 := constant S_ .f32 0x7F800000#32
  let main_v4 : FVec F S2x8192x4x64 .f32 := broadcastInDim S2x8192x4x64 ![] bcast_S_S2x8192x4x64 main_cst_0
  let main_v5 : IVec S2x8192x4x64 1 := cmpf .olt main_v3 main_v4
  let main_v6 : FVec F S2x8192x4x128 .f32 := Host.absf main_arg2
  let main_cst_1 : FVec F S_ .f32 := constant S_ .f32 0x7F800000#32
  let main_v7 : FVec F S2x8192x4x128 .f32 := broadcastInDim S2x8192x4x128 ![] bcast_S_S2x8192x4x128 main_cst_1
  let main_v8 : IVec S2x8192x4x128 1 := cmpf .olt main_v6 main_v7
  let main_v9 : FVec F S2x8192x64 .f32 := Host.absf main_arg3
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  (main_v2, main_v5, main_v8, main_v11)
-- ==== Pre_tables_ok.lean ====
abbrev S349 : Shape := ⟨1, ![349]⟩
abbrev S89344x640 : Shape := ⟨2, ![89344, 640]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S348 : Shape := ⟨1, ![348]⟩
abbrev S1 : Shape := ⟨1, ![1]⟩
abbrev S_ : Shape := ⟨0, ![]⟩

class Facts : Prop where
  slices_S349_S348_1 : S349.Slices ![1] S348
  slices_S349_S1_348 : S349.Slices ![348] S1
  concatenates_S348_S1_S349_d0 : Shape.Concatenates [S348, S1] S349 0
  bcast_S_S1 : S_.BroadcastsInDim S1 (![] : Fin 0 → Fin S1.rank)
  bcast_S_S349 : S_.BroadcastsInDim S349 (![] : Fin 0 → Fin S349.rank)

variable [Facts]

def fn_where {F : FTy → Type} [FloatOps F] (arg0 : IVec S349 1) (arg1 : IVec S349 1) (arg2 : IVec S349 1) : IVec S349 1 :=
  let v0 : IVec S349 1 := select arg0 arg1 arg2
  v0

def fn {F : FTy → Type} [FloatOps F] (main_arg0 : IVec S349 32) (main_arg1 : IVec S349 32) (main_arg2 : IVec S349 32) (main_arg3 : IVec S89344x640 32) (main_arg4 : FVec F S2x32x1024x2048 .f32) (main_arg5 : FVec F S2x32x2048 .f32) (main_arg6 : FVec F S2x32x1024x1024 .f32) (main_arg7 : FVec F S2x32x1024 .f32) : IVec S349 1 :=
  let main_v0 : IVec S348 32 := (extractStridedSlice S348 ![1] · slices_S349_S348_1) main_arg0
  let main_v1 : IVec S1 32 := (extractStridedSlice S1 ![348] · slices_S349_S1_348) main_arg0
  let main_v2 : IVec S349 32 := (fun a b => concatenate S349 0 [⟨S348, a⟩, ⟨S1, b⟩] concatenates_S348_S1_S349_d0) main_v0 main_v1
  let main_v3 : IVec S348 32 := (extractStridedSlice S348 ![1] · slices_S349_S348_1) main_arg2
  let main_c : IVec S_ 32 := constantI S_ 32 4294967295#32
  let main_v4 : IVec S1 32 := broadcastInDim S1 ![] bcast_S_S1 main_c
  let main_v5 : IVec S349 32 := (fun a b => concatenate S349 0 [⟨S348, a⟩, ⟨S1, b⟩] concatenates_S348_S1_S349_d0) main_v3 main_v4
  let main_v6 : IVec S349 1 := cmpi .eq main_v2 main_arg0
  let main_v7 : IVec S349 1 := cmpi .eq main_arg2 main_v5
  let main_v8 : IVec S349 1 := cmpi .eq main_arg2 main_v2
  let main_v9 : IVec S349 1 := fn_where (F := F) main_v6 main_v7 main_v8
  let main_c_0 : IVec S_ 32 := constantI S_ 32 0#32
  let main_v10 : IVec S349 32 := broadcastInDim S349 ![] bcast_S_S349 main_c_0
  let main_v11 : IVec S349 1 := cmpi .sge main_arg0 main_v10
  let main_c_1 : IVec S_ 32 := constantI S_ 32 64#32
  let main_v12 : IVec S349 32 := broadcastInDim S349 ![] bcast_S_S349 main_c_1
  let main_v13 : IVec S349 1 := cmpi .slt main_arg0 main_v12
  let main_v14 : IVec S349 1 := andi main_v11 main_v13
  let main_c_2 : IVec S_ 32 := constantI S_ 32 0#32
  let main_v15 : IVec S349 32 := broadcastInDim S349 ![] bcast_S_S349 main_c_2
  let main_v16 : IVec S349 1 := cmpi .sge main_arg1 main_v15
  let main_v17 : IVec S349 1 := andi main_v14 main_v16
  let main_v18 : IVec S349 1 := andi main_v17 main_v9
  main_v18
-- ==== Kernel.lean ====
abbrev S349 : Shape := ⟨1, ![349]⟩
abbrev S89344x640 : Shape := ⟨2, ![89344, 640]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S89344x1024 : Shape := ⟨2, ![89344, 1024]⟩
abbrev S256x640 : Shape := ⟨2, ![256, 640]⟩
abbrev S1x1x2048 : Shape := ⟨3, ![1, 1, 2048]⟩
abbrev S1 : Shape := ⟨1, ![1]⟩
abbrev S1x1x1024 : Shape := ⟨3, ![1, 1, 1024]⟩
abbrev S256x1024 : Shape := ⟨2, ![256, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S256x1 : Shape := ⟨2, ![256, 1]⟩
abbrev S256x512 : Shape := ⟨2, ![256, 512]⟩
abbrev S256x128 : Shape := ⟨2, ![256, 128]⟩
abbrev S512x2048 : Shape := ⟨2, ![512, 2048]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 10
  | .vmem => 12
  | .smem => 3
  | _ => 0

abbrev bufTy : (tb : Table) → Fin (tcTables nBuf tb) → BufTy
  | .hbm, ⟨0, _⟩ => ⟨S89344x640, .i32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S64x1024x2048, .f32⟩
  | .hbm, ⟨6, _⟩ => ⟨S64x1x2048, .f32⟩
  | .hbm, ⟨7, _⟩ => ⟨S64x1024x1024, .f32⟩
  | .hbm, ⟨8, _⟩ => ⟨S64x1x1024, .f32⟩
  | .hbm, ⟨9, _⟩ => ⟨S89344x1024, .f32⟩
  | .local _ .vmem, ⟨0, _⟩ => ⟨S256x640, .i32⟩
  | .local _ .vmem, ⟨1, _⟩ => ⟨S256x640, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S349, .i32⟩
  | .local _ .smem, ⟨1, _⟩ => ⟨S349, .i32⟩
  | .local _ .smem, ⟨2, _⟩ => ⟨S349, .i32⟩
  | _, _ => ⟨S89344x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![349], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond1 (i : grid0.Coords) : BitVec 1 :=
  let arg0 : BitVec 32 := BitVec.ofNat 32 (i 0).val
  let c0_i32_1 : BitVec 32 := 0#32
  let v9 : BitVec 1 := Scalar.cmpi .eq arg0 c0_i32_1
  let v10 : BitVec 32 := Scalar.extui v9
  let c0_i32_2 : BitVec 32 := 0#32
  let v11 : BitVec 1 := Scalar.cmpi .ne v10 c0_i32_2
  v11

def k0_off3 (v1 : BitVec 32) : Fin 3 → Nat :=
  let c0_i32_9 : BitVec 32 := 0#32
  let c0_i32_10 : BitVec 32 := 0#32
  ![v1.toNat, 0, 0]

def k0_off4 (v1 : BitVec 32) : Fin 3 → Nat :=
  let c0_i32_12 : BitVec 32 := 0#32
  let c0_i32_13 : BitVec 32 := 0#32
  ![v1.toNat, 0, 0]

def k0_chk1 (i : grid0.Coords) (v1 : BitVec 32) : Prop :=
  (∀ (k0_h1 : k0_cond1 i = 1#1), ∀ a, (k0_off3 v1) a + S1x1024x2048.size a ≤ S64x1024x2048.size a) ∧
  (∀ (k0_h1 : k0_cond1 i = 1#1), ∀ a, (k0_off4 v1) a + S1x1024x1024.size a ≤ S64x1024x1024.size a)
theorem k0_off3_inb : ∀ (i : grid0.Coords) (v1 : BitVec 32) (k0_hw1 : k0_chk1 i v1), ∀ (k0_h1 : k0_cond1 i = 1#1), ∀ a, (k0_off3 v1) a + S1x1024x2048.size a ≤ S64x1024x2048.size a := fun i v1 k0_hw1 k0_h1 => k0_hw1.1 k0_h1
theorem k0_off4_inb : ∀ (i : grid0.Coords) (v1 : BitVec 32) (k0_hw1 : k0_chk1 i v1), ∀ (k0_h1 : k0_cond1 i = 1#1), ∀ a, (k0_off4 v1) a + S1x1024x1024.size a ≤ S64x1024x1024.size a := fun i v1 k0_hw1 k0_h1 => k0_hw1.2 k0_h1

def k0_off5 (v1 : BitVec 32) : Fin 3 → Nat :=
  let c0_i32_9 : BitVec 32 := 0#32
  let c0_i32_10 : BitVec 32 := 0#32
  ![v1.toNat, 0, 0]
def k0_cond2 (i : grid0.Coords) (v1 : BitVec 32) (v6 : BitVec 32) : BitVec 1 :=
  let arg0 : BitVec 32 := BitVec.ofNat 32 (i 0).val
  let c0_i32 : BitVec 32 := 0#32
  let v2 : BitVec 1 := Scalar.cmpi .eq arg0 c0_i32
  let v7 : BitVec 1 := Scalar.cmpi .ne v6 v1
  let v8 : BitVec 1 := Scalar.ori v2 v7
  let v12 : BitVec 32 := Scalar.extui v8
  let c0_i32_3 : BitVec 32 := 0#32
  let v13 : BitVec 1 := Scalar.cmpi .ne v12 c0_i32_3
  v13

def k0_off6 (v1 : BitVec 32) : Fin 3 → Nat :=
  let c0_i32_12 : BitVec 32 := 0#32
  let c0_i32_13 : BitVec 32 := 0#32
  ![v1.toNat, 0, 0]

def k0_chk2 (i : grid0.Coords) (v1 : BitVec 32) (v6 : BitVec 32) : Prop :=
  (∀ (k0_h2 : k0_cond2 i v1 v6 = 1#1), ∀ a, (k0_off5 v1) a + S1x1024x2048.size a ≤ S64x1024x2048.size a) ∧
  (∀ (k0_h2 : k0_cond2 i v1 v6 = 1#1), ∀ a, (k0_off6 v1) a + S1x1024x1024.size a ≤ S64x1024x1024.size a)
theorem k0_off5_inb : ∀ (i : grid0.Coords) (v1 : BitVec 32) (v6 : BitVec 32) (k0_hw2 : k0_chk2 i v1 v6), ∀ (k0_h2 : k0_cond2 i v1 v6 = 1#1), ∀ a, (k0_off5 v1) a + S1x1024x2048.size a ≤ S64x1024x2048.size a := fun i v1 v6 k0_hw2 k0_h2 => k0_hw2.1 k0_h2
theorem k0_off6_inb : ∀ (i : grid0.Coords) (v1 : BitVec 32) (v6 : BitVec 32) (k0_hw2 : k0_chk2 i v1 v6), ∀ (k0_h2 : k0_cond2 i v1 v6 = 1#1), ∀ a, (k0_off6 v1) a + S1x1024x1024.size a ≤ S64x1024x1024.size a := fun i v1 v6 k0_hw2 k0_h2 => k0_hw2.2 k0_h2

def k0_off7 (i : grid0.Coords) : Fin 1 → Nat :=
  let arg0 : BitVec 32 := BitVec.ofNat 32 (i 0).val
  let v42 : Index := Scalar.indexCast arg0
  ![v42.toNat]
def k0_off8 (i : grid0.Coords) : Fin 1 → Nat :=
  let arg0 : BitVec 32 := BitVec.ofNat 32 (i 0).val
  let v47 : Index := Scalar.indexCast arg0
  ![v47.toNat]
def k0_off9 (v48 : BitVec 32) : Fin 3 → Nat :=
  let c0_i32_24 : BitVec 32 := 0#32
  let c0_i32_25 : BitVec 32 := 0#32
  ![v48.toNat, 0, 0]
def k0_cond3 (v43 : BitVec 32) : BitVec 1 :=
  let c0_i32_21 : BitVec 32 := 0#32
  let v44 : BitVec 1 := Scalar.cmpi .sge v43 c0_i32_21
  let v45 : BitVec 32 := Scalar.extui v44
  let c0_i32_22 : BitVec 32 := 0#32
  let v46 : BitVec 1 := Scalar.cmpi .ne v45 c0_i32_22
  v46

def k0_off10 (v48 : BitVec 32) : Fin 3 → Nat :=
  let c0_i32_27 : BitVec 32 := 0#32
  let c0_i32_28 : BitVec 32 := 0#32
  ![v48.toNat, 0, 0]

def k0_chk3 (i : grid0.Coords) (v1 : BitVec 32) (v6 : BitVec 32) (v43 : BitVec 32) (v48 : BitVec 32) : Prop :=
  (∀ (k0_h2 : k0_cond2 i v1 v6 = 1#1), ∀ (k0_h3 : k0_cond3 v43 = 1#1), ∀ a, (k0_off9 v48) a + S1x1024x2048.size a ≤ S64x1024x2048.size a) ∧
  (∀ (k0_h2 : k0_cond2 i v1 v6 = 1#1), ∀ (k0_h3 : k0_cond3 v43 = 1#1), ∀ a, (k0_off10 v48) a + S1x1024x1024.size a ≤ S64x1024x1024.size a)
theorem k0_off9_inb : ∀ (i : grid0.Coords) (v1 : BitVec 32) (v6 : BitVec 32) (v43 : BitVec 32) (v48 : BitVec 32) (k0_hw3 : k0_chk3 i v1 v6 v43 v48), ∀ (k0_h2 : k0_cond2 i v1 v6 = 1#1), ∀ (k0_h3 : k0_cond3 v43 = 1#1), ∀ a, (k0_off9 v48) a + S1x1024x2048.size a ≤ S64x1024x2048.size a := fun i v1 v6 v43 v48 k0_hw3 k0_h2 k0_h3 => k0_hw3.1 k0_h2 k0_h3
theorem k0_off10_inb : ∀ (i : grid0.Coords) (v1 : BitVec 32) (v6 : BitVec 32) (v43 : BitVec 32) (v48 : BitVec 32) (k0_hw3 : k0_chk3 i v1 v6 v43 v48), ∀ (k0_h2 : k0_cond2 i v1 v6 = 1#1), ∀ (k0_h3 : k0_cond3 v43 = 1#1), ∀ a, (k0_off10 v48) a + S1x1024x1024.size a ≤ S64x1024x1024.size a := fun i v1 v6 v43 v48 k0_hw3 k0_h2 k0_h3 => k0_hw3.2 k0_h2 k0_h3

def k0_off11 (i : grid0.Coords) : Fin 1 → Nat :=
  let arg0 : BitVec 32 := BitVec.ofNat 32 (i 0).val
  let v14 : Index := Scalar.indexCast arg0
  ![v14.toNat]
def k0_off12 (i : grid0.Coords) : Fin 1 → Nat :=
  let arg0 : BitVec 32 := BitVec.ofNat 32 (i 0).val
  let v25 : Index := Scalar.indexCast arg0
  ![v25.toNat]
def k0_off13 (i : grid0.Coords) : Fin 1 → Nat :=
  let arg0 : BitVec 32 := BitVec.ofNat 32 (i 0).val
  let v19 : Index := Scalar.indexCast arg0
  ![v19.toNat]
def k0_cond4 (v15 : BitVec 32) : BitVec 1 :=
  let c0_i32_4 : BitVec 32 := 0#32
  let v16 : BitVec 1 := Scalar.cmpi .sgt v15 c0_i32_4
  let v17 : BitVec 32 := Scalar.extui v16
  let c0_i32_5 : BitVec 32 := 0#32
  let v18 : BitVec 1 := Scalar.cmpi .ne v17 c0_i32_5
  v18

def k0_cond5 (v20 : BitVec 32) : BitVec 1 :=
  let c0_i32_6 : BitVec 32 := 0#32
  let v21 : BitVec 1 := Scalar.cmpi .eq v20 c0_i32_6
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S349 : Shape := ⟨1, ![349]⟩
abbrev S89344x640 : Shape := ⟨2, ![89344, 640]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S64x1024x2048 : Shape := ⟨3, ![64, 1024, 2048]⟩
abbrev S64x2048 : Shape := ⟨2, ![64, 2048]⟩
abbrev S64x1024x1024 : Shape := ⟨3, ![64, 1024, 1024]⟩
abbrev S64x1024 : Shape := ⟨2, ![64, 1024]⟩
abbrev S_ : Shape := ⟨0, ![]⟩
abbrev S256 : Shape := ⟨1, ![256]⟩
abbrev S1x256 : Shape := ⟨2, ![1, 256]⟩
abbrev S349x1 : Shape := ⟨2, ![349, 1]⟩
abbrev S349x256 : Shape := ⟨2, ![349, 256]⟩
abbrev S89344 : Shape := ⟨1, ![89344]⟩
abbrev S89344x1 : Shape := ⟨2, ![89344, 1]⟩
abbrev S89344x512 : Shape := ⟨2, ![89344, 512]⟩
abbrev S89344x1024 : Shape := ⟨2, ![89344, 1024]⟩
abbrev S349x256x1024 : Shape := ⟨3, ![349, 256, 1024]⟩
abbrev S349x1024x2048 : Shape := ⟨3, ![349, 1024, 2048]⟩
abbrev S349x256x2048 : Shape := ⟨3, ![349, 256, 2048]⟩
abbrev S349x2048 : Shape := ⟨2, ![349, 2048]⟩
abbrev S349x1x2048 : Shape := ⟨3, ![349, 1, 2048]⟩
abbrev S349x1024x1024 : Shape := ⟨3, ![349, 1024, 1024]⟩
abbrev S349x1024 : Shape := ⟨2, ![349, 1024]⟩
abbrev S349x1x1024 : Shape := ⟨3, ![349, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S349, .i32⟩
  | .hbm, ⟨1, _⟩ => ⟨S349, .i32⟩
  | .hbm, ⟨2, _⟩ => ⟨S349, .i32⟩
  | .hbm, ⟨3, _⟩ => ⟨S89344x640, .i32⟩
  | .hbm, ⟨4, _⟩ => ⟨S2x32x1024x2048, .f32⟩
  | .hbm, ⟨5, _⟩ => ⟨S2x32x2048, .f32⟩
  | .hbm, ⟨6, _⟩ => ⟨S2x32x1024x1024, .f32⟩
  | .hbm, ⟨7, _⟩ => ⟨S2x32x1024, .f32⟩
  | .hbm, ⟨8, _⟩ => ⟨S64x1024x2048, .f32⟩
  | .hbm, ⟨9, _⟩ => ⟨S64x2048, .f32⟩
  | .hbm, ⟨10, _⟩ => ⟨S64x1024x1024, .f32⟩
  | .hbm, ⟨11, _⟩ => ⟨S64x1024, .f32⟩
  | .hbm, ⟨12, _⟩ => ⟨S_, .i32⟩
  | .hbm, ⟨13, _⟩ => ⟨S89344x640, .i32⟩
  | .hbm, ⟨14, _⟩ => ⟨S89344x640, .i32⟩
  | .hbm, ⟨15, _⟩ => ⟨S89344x640, .f32⟩
  | .hbm, ⟨16, _⟩ => ⟨S_, .i32⟩
  | .hbm, ⟨17, _⟩ => ⟨S89344x640, .i32⟩
  | .hbm, ⟨18, _⟩ => ⟨S89344x640, .i32⟩
  | .hbm, ⟨19, _⟩ => ⟨S89344x640, .f32⟩
  | .hbm, ⟨20, _⟩ => ⟨S256, .i32⟩
  | .hbm, ⟨21, _⟩ => ⟨S1x256, .i32⟩
  | .hbm, ⟨22, _⟩ => ⟨S349x1, .i32⟩
  | .hbm, ⟨23, _⟩ => ⟨S349x256, .i32⟩
  | .hbm, ⟨24, _⟩ => ⟨S349x256, .i32⟩
  | .hbm, ⟨25, _⟩ => ⟨S349x256, .i1⟩
  | .hbm, ⟨26, _⟩ => ⟨S89344, .i1⟩
  | .hbm, ⟨27, _⟩ => ⟨S89344x1, .i1⟩
  | .hbm, ⟨28, _⟩ => ⟨S89344x512, .f32⟩
  | .hbm, ⟨29, _⟩ => ⟨S89344x512, .f32⟩
  | .hbm, ⟨30, _⟩ => ⟨S89344x1024, .f32⟩
  | .hbm, ⟨31, _⟩ => ⟨S_, .f32⟩
  | .hbm, ⟨32, _⟩ => ⟨S_, .f32⟩
  | .hbm, ⟨33, _⟩ => ⟨S89344x1024, .i1⟩
  | .hbm, ⟨34, _⟩ => ⟨S89344x1024, .f32⟩
  | .hbm, ⟨35, _⟩ => ⟨S89344x1024, .f32⟩
  | .hbm, ⟨36, _⟩ => ⟨S89344x1, .f32⟩
  | .hbm, ⟨37, _⟩ => ⟨S89344, .f32⟩
  | .hbm, ⟨38, _⟩ => ⟨S89344x1, .f32⟩
  | .hbm, ⟨39, _⟩ => ⟨S89344, .f32⟩
  | .hbm, ⟨40, _⟩ => ⟨S89344, .f32⟩
  | .hbm, ⟨41, _⟩ => ⟨S_, .f32⟩
  | .hbm, ⟨42, _⟩ => ⟨S_, .f32⟩
  | .hbm, ⟨43, _⟩ => ⟨S89344, .f32⟩
  | .hbm, ⟨44, _⟩ => ⟨S89344, .f32⟩
  | .hbm, ⟨45, _⟩ => ⟨S349x256x1024, .f32⟩
  | .hbm, ⟨46, _⟩ => ⟨S_, .i32⟩
  | .hbm, ⟨47, _⟩ => ⟨S349, .i32⟩
  | .hbm, ⟨48, _⟩ => ⟨S349, .i1⟩
  | .hbm, ⟨49, _⟩ => ⟨S_, .i32⟩
  | .hbm, ⟨50, _⟩ => ⟨S349, .i32⟩
  | .hbm, ⟨51, _⟩ => ⟨S349, .i32⟩
  | .hbm, ⟨52, _⟩ => ⟨S349, .i32⟩
  | .hbm, ⟨53, _⟩ => ⟨S349x1, .i32⟩
  | .hbm, ⟨54, _⟩ => ⟨S349x1024x2048, .f32⟩
  | .hbm, ⟨55, _⟩ => ⟨S349x256x2048, .f32⟩
  | .hbm, ⟨56, _⟩ => ⟨S_, .i32⟩
  | .hbm, ⟨57, _⟩ => ⟨S349, .i32⟩
  | .hbm, ⟨58, _⟩ => ⟨S349, .i1⟩
  | .hbm, ⟨59, _⟩ => ⟨S_, .i32⟩
  | .hbm, ⟨60, _⟩ => ⟨S349, .i32⟩
  | .hbm, ⟨61, _⟩ => ⟨S349, .i32⟩
  | .hbm, ⟨62, _⟩ => ⟨S349, .i32⟩
  | .hbm, ⟨63, _⟩ => ⟨S349x1, .i32⟩
  | .hbm, ⟨64, _⟩ => ⟨S349x2048, .f32⟩
  | .hbm, ⟨65, _⟩ => ⟨S349x1x2048, .f32⟩
  | .hbm, ⟨66, _⟩ => ⟨S349x256x2048, .f32⟩
  | .hbm, ⟨67, _⟩ => ⟨S349x256x2048, .f32⟩
  | .hbm, ⟨68, _⟩ => ⟨S349x256x1024, .f32⟩
  | .hbm, ⟨69, _⟩ => ⟨S_, .f32⟩
  | .hbm, ⟨70, _⟩ => ⟨S349x256x1024, .f32⟩
  | .hbm, ⟨71, _⟩ => ⟨S349x256x1024, .f32⟩
  | .hbm, ⟨72, _⟩ => ⟨S349x256x1024, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S349x256x1024, .f32⟩
  | .hbm, ⟨77, _⟩ => ⟨S349x256x1024, .f32⟩
  | .hbm, ⟨78, _⟩ => ⟨S_, .f32⟩
  | .hbm, ⟨79, _⟩ => ⟨S349x256x1024, .f32⟩
  | .hbm, ⟨80, _⟩ => ⟨S349x256x1024, .f32⟩
  | .hbm, ⟨81, _⟩ => ⟨S_, .f32⟩
  | .hbm, ⟨82, _⟩ => ⟨S349x256x1024, .f32⟩
  | .hbm, ⟨83, _⟩ => ⟨S349x256x1024, .f32⟩
  | .hbm, ⟨84, _⟩ => ⟨S_, .f32⟩
  | .hbm, ⟨85, _⟩ => ⟨S349x256x1024, .f32⟩
  | .hbm, ⟨86, _⟩ => ⟨S349x256x1024, .f32⟩
  | .hbm, ⟨87, _⟩ => ⟨S349x256x1024, .f32⟩
  | .hbm, ⟨88, _⟩ => ⟨S349x256x1024, .f32⟩
  | .hbm, ⟨89, _⟩ => ⟨S_, .f32⟩
  | .hbm, ⟨90, _⟩ => ⟨S349x256x1024, .f32⟩
  | .hbm, ⟨91, _⟩ => ⟨S349x256x1024, .f32⟩
  | .hbm, ⟨92, _⟩ => ⟨S_, .f32⟩
  | .hbm, ⟨93, _⟩ => ⟨S349x256x1024, .f32⟩
  | .hbm, ⟨94, _⟩ => ⟨S349x256x1024, .f32⟩
  | .hbm, ⟨95, _⟩ => ⟨S349x256x1024, .f32⟩
  | .hbm, ⟨96, _⟩ => ⟨S349x256x1024, .f32⟩
  | .hbm, ⟨97, _⟩ => ⟨S_, .i32⟩
  | .hbm, ⟨98, _⟩ => ⟨S349, .i32⟩
  | .hbm, ⟨99, _⟩ => ⟨S349, .i1⟩
  | .hbm, ⟨100, _⟩ => ⟨S_, .i32⟩
  | .hbm, ⟨101, _⟩ => ⟨S349, .i32⟩
  | .hbm, ⟨102, _⟩ => ⟨S349, .i32⟩
  | .hbm, ⟨103, _⟩ => ⟨S349, .i32⟩
  | .hbm, ⟨104, _⟩ => ⟨S349x1, .i32⟩
  | .hbm, ⟨105, _⟩ => ⟨S349x1024x1024, .f32⟩
  | .hbm, ⟨106, _⟩ => ⟨S349x256x1024, .f32⟩
  | .hbm, ⟨107, _⟩ => ⟨S_, .i32⟩
  | .hbm, ⟨108, _⟩ => ⟨S349, .i32⟩
  | .hbm, ⟨109, _⟩ => ⟨S349, .i1⟩
  | .hbm, ⟨110, _⟩ => ⟨S_, .i32⟩
  | .hbm, ⟨111, _⟩ => ⟨S349, .i32⟩
  | .hbm, ⟨112, _⟩ => ⟨S349, .i32⟩
  | .hbm, ⟨113, _⟩ => ⟨S349, .i32⟩
  | .hbm, ⟨114, _⟩ => ⟨S349x1, .i32⟩
  | .hbm, ⟨115, _⟩ => ⟨S349x1024, .f32⟩
  | .hbm, ⟨116, _⟩ => ⟨S349x1x1024, .f32⟩
  | .hbm, ⟨117, _⟩ => ⟨S349x256x1024, .f32⟩
  | .hbm, ⟨118, _⟩ => ⟨S349x256x1024, .f32⟩
  | .hbm, ⟨119, _⟩ => ⟨S89344x1024, .f32⟩
  | .hbm, ⟨120, _⟩ => ⟨S89344x1, .f32⟩
  | .hbm, ⟨121, _⟩ => ⟨S89344x1024, .f32⟩
  | .hbm, ⟨122, _⟩ => ⟨S89344x1024, .f32⟩
  | _, _ => ⟨S349, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Kernel2.lean ====
abbrev S2x8192x4x128 : Shape := ⟨4, ![2, 8192, 4, 128]⟩
abbrev S2x8192x4x64 : Shape := ⟨4, ![2, 8192, 4, 64]⟩
abbrev S2x8192x64 : Shape := ⟨3, ![2, 8192, 64]⟩
abbrev S_ : Shape := ⟨0, ![]⟩
abbrev S2x8192x4x256 : Shape := ⟨4, ![2, 8192, 4, 256]⟩
abbrev S16384x1024 : Shape := ⟨2, ![16384, 1024]⟩
abbrev S2x8192x1x64 : Shape := ⟨4, ![2, 8192, 1, 64]⟩
abbrev S16384x512 : Shape := ⟨2, ![16384, 512]⟩
abbrev S1024x512 : Shape := ⟨2, ![1024, 512]⟩
abbrev S8192x512 : Shape := ⟨2, ![8192, 512]⟩
abbrev S8192x256 : Shape := ⟨2, ![8192, 256]⟩
abbrev S1024x256 : Shape := ⟨2, ![1024, 256]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 25
  | .vmem => 8
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x64, .f32⟩
  | .hbm, ⟨2, _⟩ => ⟨S2x8192x4x128, .f32⟩
  | .hbm, ⟨3, _⟩ => ⟨S2x8192x64, .f32⟩
  | .hbm, ⟨4, _⟩ => ⟨S2x8192x4x128, .f32⟩
  | .hbm, ⟨5, _⟩ => ⟨S_, .f32⟩
  | .hbm, ⟨6, _⟩ => ⟨S2x8192x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x4x256, .f32⟩
  | .hbm, ⟨13, _⟩ => ⟨S2x8192x4x256, .f32⟩
  | .hbm, ⟨14, _⟩ => ⟨S2x8192x4x256, .f32⟩
  | .hbm, ⟨15, _⟩ => ⟨S2x8192x4x256, .bf16⟩
  | .hbm, ⟨16, _⟩ => ⟨S16384x1024, .bf16⟩
  | .hbm, ⟨17, _⟩ => ⟨S2x8192x1x64, .f32⟩
  | .hbm, ⟨18, _⟩ => ⟨S2x8192x4x64, .f32⟩
  | .hbm, ⟨19, _⟩ => ⟨S2x8192x4x256, .f32⟩
  | .hbm, ⟨20, _⟩ => ⟨S2x8192x4x256, .bf16⟩
  | .hbm, ⟨21, _⟩ => ⟨S16384x1024, .bf16⟩
  | .hbm, ⟨22, _⟩ => ⟨S2x8192x4x128, .bf16⟩
  | .hbm, ⟨23, _⟩ => ⟨S16384x512, .bf16⟩
  | .hbm, ⟨24, _⟩ => ⟨S16384x512, .f32⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S8192x512, .bf16⟩
  | .local _ .vmem, ⟨4, _⟩ => ⟨S8192x256, .bf16⟩
  | .local _ .vmem, ⟨5, _⟩ => ⟨S8192x256, .bf16⟩
  | .local _ .vmem, ⟨6, _⟩ => ⟨S1024x256, .f32⟩
  | .local _ .vmem, ⟨7, _⟩ => ⟨S1024x256, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_36 : BitVec 32 := 1024#32
  let v126 : BitVec 32 := Scalar.muli arg7 c1024_i32_36
  v126
def k0_off1 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_36 : BitVec 32 := 1024#32
  let v126 : BitVec 32 := Scalar.muli arg7 c1024_i32_36
  let v127 : BitVec 32 := v126
  let v128 : Index := Scalar.indexCast v127
  let c0_37 : Index := 0#32
  ![v128.toNat, 0]
def k0_off2 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_36 : BitVec 32 := 1024#32
  let v126 : BitVec 32 := Scalar.muli arg7 c1024_i32_36
  let v127 : BitVec 32 := v126
  let v147 : Index := Scalar.indexCast v127
  let c0_41 : Index := 0#32
  ![v147.toNat, 0]
def k0_off3 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_36 : BitVec 32 := 1024#32
  let v126 : BitVec 32 := Scalar.muli arg7 c1024_i32_36
  let v127 : BitVec 32 := v126
  let v152 : Index := Scalar.indexCast v127
  let c256_43 : Index := 256#32
  ![v152.toNat, 256]
def k0_off4 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_36 : BitVec 32 := 1024#32
  let v126 : BitVec 32 := Scalar.muli arg7 c1024_i32_36
  let v127 : BitVec 32 := v126
  let v171 : Index := Scalar.indexCast v127
  let c128_47 : Index := 128#32
  ![v171.toNat, 128]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c1024_i32_36 : BitVec 32 := 1024#32
  let v126 : BitVec 32 := Scalar.muli arg7 c1024_i32_36
  v126
def k0_off5 (i : grid0.Coords) (k0_t2 : Fin (k0_t2_loop i).trips) : Fin 2 → Nat :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c1024_i32_36 : BitVec 32 := 1024#32
  let v126 : BitVec 32 := Scalar.muli arg7 c1024_i32_36
  let v127 : BitVec 32 := v126
  let v128 : Index := Scalar.indexCast v127
  let c0_37 : Index := 0#32
  ![v128.toNat, 0]
def k0_off6 (i : grid0.Coords) (k0_t2 : Fin (k0_t2_loop i).trips) : Fin 2 → Nat :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c1024_i32_36 : BitVec 32 := 1024#32
  let v126 : BitVec 32 := Scalar.muli arg7 c1024_i32_36
  let v127 : BitVec 32 := v126
  let v147 : Index := Scalar.indexCast v127
  let c0_41 : Index := 0#32
  ![v147.toNat, 0]
def k0_off7 (i : grid0.Coords) (k0_t2 : Fin (k0_t2_loop i).trips) : Fin 2 → Nat :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c1024_i32_36 : BitVec 32 := 1024#32
  let v126 : BitVec 32 := Scalar.muli arg7 c1024_i32_36
  let v127 : BitVec 32 := v126
  let v152 : Index := Scalar.indexCast v127
  let c256_43 : Index := 256#32
  ![v152.toNat, 256]
def k0_off8 (i : grid0.Coords) (k0_t2 : Fin (k0_t2_loop i).trips) : Fin 2 → Nat :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c1024_i32_36 : BitVec 32 := 1024#32
  let v126 : BitVec 32 := Scalar.muli arg7 c1024_i32_36
  let v127 : BitVec 32 := v126
  let v171 : Index := Scalar.indexCast v127
  let c128_47 : Index := 128#32
  ![v171.toNat, 128]
def k0_mult3 (i : grid0.Coords) : BitVec 32 :=
  let arg2 : BitVec 32 := BitVec.ofNat 32 (i 2).val
  let c1024_i32 : BitVec 32 := 1024#32
  let v14 : BitVec 32 := Scalar.muli arg2 c1024_i32
  v14
def k0_off9 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v67 : Index := Scalar.indexCast v15
  let c0_19 : Index := 0#32
  ![v67.toNat, 0]
def k0_off10 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v88 : Index := Scalar.indexCast v15
  let c0_24 : Index := 0#32
  ![v88.toNat, 0]
def k0_off11 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v97 : Index := Scalar.indexCast v15
  let c256_28 : Index := 256#32
  ![v97.toNat, 256]
def k0_off12 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v118 : Index := Scalar.indexCast v15
  let c128 : Index := 128#32
  ![v118.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S2x8192x4x128 : Shape := ⟨4, ![2, 8192, 4, 128]⟩
abbrev S2x8192x4x64 : Shape := ⟨4, ![2, 8192, 4, 64]⟩
abbrev S2x8192x64 : Shape := ⟨3, ![2, 8192, 64]⟩
abbrev S8192 : Shape := ⟨1, ![8192]⟩
abbrev S2x4x8192x8192 : Shape := ⟨4, ![2, 4, 8192, 8192]⟩
abbrev S2x8192x8192x4 : Shape := ⟨4, ![2, 8192, 8192, 4]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x512 : Shape := ⟨2, ![16384, 512]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x64, .f32⟩
  | .hbm, ⟨2, _⟩ => ⟨S2x8192x4x128, .f32⟩
  | .hbm, ⟨3, _⟩ => ⟨S2x8192x64, .f32⟩
  | .hbm, ⟨4, _⟩ => ⟨S2x8192x4x128, .f32⟩
  | .hbm, ⟨5, _⟩ => ⟨S8192, .i32⟩
  | .hbm, ⟨6, _⟩ => ⟨S2x4x8192x8192, .f32⟩
  | .hbm, ⟨7, _⟩ => ⟨S2x8192x8192x4, .f32⟩
  | .hbm, ⟨8, _⟩ => ⟨S2x4x8192x8192, .f32⟩
  | .hbm, ⟨9, _⟩ => ⟨S2x4x8192x8192, .f32⟩
  | .hbm, ⟨10, _⟩ => ⟨S_, .f32⟩
  | .hbm, ⟨11, _⟩ => ⟨S_, .f32⟩
  | .hbm, ⟨12, _⟩ => ⟨S2x4x8192x8192, .f32⟩
  | .hbm, ⟨13, _⟩ => ⟨S2x4x8192x8192, .f32⟩
  | .hbm, ⟨14, _⟩ => ⟨S1x8192, .i32⟩
  | .hbm, ⟨15, _⟩ => ⟨S_, .i32⟩
  | .hbm, ⟨16, _⟩ => ⟨S_, .i32⟩
  | .hbm, ⟨17, _⟩ => ⟨S1x8192, .i32⟩
  | .hbm, ⟨18, _⟩ => ⟨S1x8192, .i32⟩
  | .hbm, ⟨19, _⟩ => ⟨S1x8192, .i32⟩
  | .hbm, ⟨20, _⟩ => ⟨S_, .i32⟩
  | .hbm, ⟨21, _⟩ => ⟨S1x8192, .i32⟩
  | .hbm, ⟨22, _⟩ => ⟨S1x8192, .i1⟩
  | .hbm, ⟨23, _⟩ => ⟨S1x8192, .i32⟩
  | .hbm, ⟨24, _⟩ => ⟨S1x8192, .i32⟩
  | .hbm, ⟨25, _⟩ => ⟨S_, .i32⟩
  | .hbm, ⟨26, _⟩ => ⟨S1x8192, .i32⟩
  | .hbm, ⟨27, _⟩ => ⟨S1x8192, .i1⟩
  | .hbm, ⟨28, _⟩ => ⟨S1x8192, .i1⟩
  | .hbm, ⟨29, _⟩ => ⟨S_, .i32⟩
  | .hbm, ⟨30, _⟩ => ⟨S1x8192, .i32⟩
  | .hbm, ⟨31, _⟩ => ⟨S1x8192, .i32⟩
  | .hbm, ⟨32, _⟩ => ⟨S1x8192, .i32⟩
  | .hbm, ⟨33, _⟩ => ⟨S8192x1, .i32⟩
  | .hbm, ⟨34, _⟩ => ⟨S_, .i32⟩
  | .hbm, ⟨35, _⟩ => ⟨S_, .i32⟩
  | .hbm, ⟨36, _⟩ => ⟨S8192x1, .i32⟩
  | .hbm, ⟨37, _⟩ => ⟨S8192x1, .i32⟩
  | .hbm, ⟨38, _⟩ => ⟨S8192x1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S8192x1, .i32⟩
  | .hbm, ⟨43, _⟩ => ⟨S8192x1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S8192x1, .i1⟩
  | .hbm, ⟨48, _⟩ => ⟨S_, .i32⟩
  | .hbm, ⟨49, _⟩ => ⟨S8192x1, .i32⟩
  | .hbm, ⟨50, _⟩ => ⟨S8192x1, .i32⟩
  | .hbm, ⟨51, _⟩ => ⟨S8192x1, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S1x1x8192x8192, .i1⟩
  | .hbm, ⟨56, _⟩ => ⟨S_, .f32⟩
  | .hbm, ⟨57, _⟩ => ⟨S_, .f32⟩
  | .hbm, ⟨58, _⟩ => ⟨S2x4x8192x8192, .i1⟩
  | .hbm, ⟨59, _⟩ => ⟨S2x4x8192x8192, .f32⟩
  | .hbm, ⟨60, _⟩ => ⟨S2x4x8192x8192, .f32⟩
  | .hbm, ⟨61, _⟩ => ⟨S_, .f32⟩
  | .hbm, ⟨62, _⟩ => ⟨S2x4x8192, .f32⟩
  | .hbm, ⟨63, _⟩ => ⟨S_, .f32⟩
  | .hbm, ⟨64, _⟩ => ⟨S2x4x8192, .f32⟩
  | .hbm, ⟨65, _⟩ => ⟨S2x4x8192, .f32⟩
  | .hbm, ⟨66, _⟩ => ⟨S2x4x8192x1, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S_, .f32⟩
  | .hbm, ⟨71, _⟩ => ⟨S2x4x8192, .f32⟩
  | .hbm, ⟨72, _⟩ => ⟨S2x4x8192x1, .f32⟩
  | .hbm, ⟨73, _⟩ => ⟨S2x4x8192x8192, .f32⟩
  | .hbm, ⟨74, _⟩ => ⟨S2x4x8192x8192, .f32⟩
  | .hbm, ⟨75, _⟩ => ⟨S2x4x128x8192, .f32⟩
  | .hbm, ⟨76, _⟩ => ⟨S2x8192x4x128, .f32⟩
  | .hbm, ⟨77, _⟩ => ⟨S16384x512, .f32⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v16 : Ref sig .tc := ⟨.hbm, 60, rfl⟩
abbrev main_cst_2 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_4 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩

abbrev nD : Nat := 1
abbrev τ : Topo := Topo.v7x

variable {F : FTy → Type} [FloatOps F]
-- ==== Kernel3.lean ====
abbrev S2x8192x1024 : Shape := ⟨3, ![2, 8192, 1024]⟩
abbrev S8x32x1024 : Shape := ⟨3, ![8, 32, 1024]⟩
abbrev S1024x1216 : Shape := ⟨2, ![1024, 1216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2x128x512 : Shape := ⟨3, ![2, 128, 512]⟩
abbrev S2x128x256 : Shape := ⟨3, ![2, 128, 256]⟩
abbrev S8192 : Shape := ⟨1, ![8192]⟩
abbrev S32 : Shape := ⟨1, ![32]⟩
abbrev S_ : Shape := ⟨0, ![]⟩
abbrev S1x32 : Shape := ⟨2, ![1, 32]⟩
abbrev S8x32 : Shape := ⟨2, ![8, 32]⟩
abbrev S8448 : Shape := ⟨1, ![8448]⟩
abbrev S8448x1 : Shape := ⟨2, ![8448, 1]⟩
abbrev S8448x32 : Shape := ⟨2, ![8448, 32]⟩
abbrev S8448x64 : Shape := ⟨2, ![8448, 64]⟩
abbrev S8448x128 : Shape := ⟨2, ![8448, 128]⟩
abbrev S1024x64 : Shape := ⟨2, ![1024, 64]⟩
abbrev S1024x768 : Shape := ⟨2, ![1024, 768]⟩
abbrev S1024x384 : Shape := ⟨2, ![1024, 384]⟩
abbrev S1024x32 : Shape := ⟨2, ![1024, 32]⟩
abbrev S1024x1408 : Shape := ⟨2, ![1024, 1408]⟩
abbrev S256x4x192 : Shape := ⟨3, ![256, 4, 192]⟩
abbrev S256x4x64 : Shape := ⟨3, ![256, 4, 64]⟩
abbrev S256x4x256 : Shape := ⟨3, ![256, 4, 256]⟩
abbrev S256x1024 : Shape := ⟨2, ![256, 1024]⟩
abbrev S256x4x32 : Shape := ⟨3, ![256, 4, 32]⟩
abbrev S256x4x128 : Shape := ⟨3, ![256, 4, 128]⟩
abbrev S256x512 : Shape := ⟨2, ![256, 512]⟩
abbrev S256x1536 : Shape := ⟨2, ![256, 1536]⟩
abbrev S1x256 : Shape := ⟨2, ![1, 256]⟩
abbrev S1x128 : Shape := ⟨2, ![1, 128]⟩
abbrev S256x1 : Shape := ⟨2, ![256, 1]⟩
abbrev S256x256 : Shape := ⟨2, ![256, 256]⟩
abbrev S16384x1024 : Shape := ⟨2, ![16384, 1024]⟩
abbrev S16640x1024 : Shape := ⟨2, ![16640, 1024]⟩
abbrev S16640x512 : Shape := ⟨2, ![16640, 512]⟩
abbrev S16640x128 : Shape := ⟨2, ![16640, 128]⟩
abbrev S16640x64 : Shape := ⟨2, ![16640, 64]⟩
abbrev S16640x256 : Shape := ⟨2, ![16640, 256]⟩
abbrev S256x128 : Shape := ⟨2, ![256, 128]⟩
abbrev S1x128x512 : Shape := ⟨3, ![1, 128, 512]⟩
abbrev S1x128x256 : Shape := ⟨3, ![1, 128, 256]⟩
abbrev S256x64 : Shape := ⟨2, ![256, 64]⟩
abbrev S256x1408 : Shape := ⟨2, ![256, 1408]⟩
abbrev S128x256 : Shape := ⟨2, ![128, 256]⟩
abbrev S128x512 : Shape := ⟨2, ![128, 512]⟩
abbrev S512x256 : Shape := ⟨2, ![512, 256]⟩

abbrev nBuf : Space → Nat
  | .hbm => 107
  | .vmem => 36
  | .smem => 0
  | _ => 0

abbrev bufTy : (tb : Table) → Fin (tcTables nBuf tb) → BufTy
  | .hbm, ⟨0, _⟩ => ⟨S2x8192x1024, .f32⟩
  | .hbm, ⟨1, _⟩ => ⟨S8x32x1024, .f32⟩
  | .hbm, ⟨2, _⟩ => ⟨S1024x1216, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S256, .f32⟩
  | .hbm, ⟨8, _⟩ => ⟨S256, .f32⟩
  | .hbm, ⟨9, _⟩ => ⟨S2x128x512, .bf16⟩
  | .hbm, ⟨10, _⟩ => ⟨S2x128x256, .f32⟩
  | .hbm, ⟨11, _⟩ => ⟨S8192, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S1x32, .i32⟩
  | .hbm, ⟨17, _⟩ => ⟨S8x32, .i32⟩
  | .hbm, ⟨18, _⟩ => ⟨S256, .i32⟩
  | .hbm, ⟨19, _⟩ => ⟨S8448, .i32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S8448, .f32⟩
  | .hbm, ⟨29, _⟩ => ⟨S8448x1, .f32⟩
  | .hbm, ⟨30, _⟩ => ⟨S1x32, .f32⟩
  | .hbm, ⟨31, _⟩ => ⟨S8448x32, .f32⟩
  | .hbm, ⟨32, _⟩ => ⟨S8448x32, .f32⟩
  | .hbm, ⟨33, _⟩ => ⟨S8448x32, .f32⟩
  | .hbm, ⟨34, _⟩ => ⟨S8448x32, .f32⟩
  | .hbm, ⟨35, _⟩ => ⟨S8448x32, .f32⟩
  | .hbm, ⟨36, _⟩ => ⟨S_, .f32⟩
  | .hbm, ⟨37, _⟩ => ⟨S8448x64, .f32⟩
  | .hbm, ⟨38, _⟩ => ⟨S8448x128, .f32⟩
  | .hbm, ⟨39, _⟩ => ⟨S8448x32, .f32⟩
  | .hbm, ⟨40, _⟩ => ⟨S8448x128, .f32⟩
  | .hbm, ⟨41, _⟩ => ⟨S1024x64, .f32⟩
  | .hbm, ⟨42, _⟩ => ⟨S_, .f32⟩
  | .hbm, ⟨43, _⟩ => ⟨S1024x64, .f32⟩
  | .hbm, ⟨44, _⟩ => ⟨S1024x768, .f32⟩
  | .hbm, ⟨45, _⟩ => ⟨S1024x384, .f32⟩
  | .hbm, ⟨46, _⟩ => ⟨S1024x32, .f32⟩
  | .hbm, ⟨47, _⟩ => ⟨S1024x32, .f32⟩
  | .hbm, ⟨48, _⟩ => ⟨S1024x1408, .f32⟩
  | .hbm, ⟨49, _⟩ => ⟨S1024x1408, .bf16⟩
  | .hbm, ⟨50, _⟩ => ⟨S256x4x192, .f32⟩
  | .hbm, ⟨51, _⟩ => ⟨S_, .f32⟩
  | .hbm, ⟨52, _⟩ => ⟨S256x4x64, .f32⟩
  | .hbm, ⟨53, _⟩ => ⟨S256x4x64, .f32⟩
  | .hbm, ⟨54, _⟩ => ⟨S256x4x256, .f32⟩
  | .hbm, ⟨55, _⟩ => ⟨S256x1024, .f32⟩
  | .hbm, ⟨56, _⟩ => ⟨S256x4x32, .f32⟩
  | .hbm, ⟨57, _⟩ => ⟨S256x4x32, .f32⟩
  | .hbm, ⟨58, _⟩ => ⟨S256x4x128, .f32⟩
  | .hbm, ⟨59, _⟩ => ⟨S256x512, .f32⟩
  | .hbm, ⟨60, _⟩ => ⟨S256x1536, .f32⟩
  | .hbm, ⟨61, _⟩ => ⟨S256x1536, .bf16⟩
  | .hbm, ⟨62, _⟩ => ⟨S1x256, .f32⟩
  | .hbm, ⟨63, _⟩ => ⟨S1x128, .f32⟩
  | .hbm, ⟨64, _⟩ => ⟨S128x1024, .bf16⟩
  | .hbm, ⟨65, _⟩ => ⟨S1x256, .f32⟩
  | .hbm, ⟨66, _⟩ => ⟨S1x256, .f32⟩
  | .hbm, ⟨67, _⟩ => ⟨S256, .i32⟩
  | .hbm, ⟨68, _⟩ => ⟨S_, .i32⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S256, .i32⟩
  | .hbm, ⟨73, _⟩ => ⟨S_, .i32⟩
  | .hbm, ⟨74, _⟩ => ⟨S256, .i32⟩
  | .hbm, ⟨75, _⟩ => ⟨S256, .i1⟩
  | .hbm, ⟨76, _⟩ => ⟨S256, .i32⟩
  | .hbm, ⟨77, _⟩ => ⟨S256, .i32⟩
  | .hbm, ⟨78, _⟩ => ⟨S_, .i32⟩
  | .hbm, ⟨79, _⟩ => ⟨S256, .i32⟩
  | .hbm, ⟨80, _⟩ => ⟨S256, .i1⟩
  | .hbm, ⟨81, _⟩ => ⟨S256, .i1⟩
  | .hbm, ⟨82, _⟩ => ⟨S_, .i32⟩
  | .hbm, ⟨83, _⟩ => ⟨S256, .i32⟩
  | .hbm, ⟨84, _⟩ => ⟨S256, .i32⟩
  | .hbm, ⟨85, _⟩ => ⟨S256, .i32⟩
  | .hbm, ⟨86, _⟩ => ⟨S256x1, .i32⟩
  | .hbm, ⟨87, _⟩ => ⟨S1x256, .i32⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S_, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S16384x1024, .f32⟩
  | .hbm, ⟨98, _⟩ => ⟨S256x1024, .f32⟩
  | .hbm, ⟨99, _⟩ => ⟨S16640x1024, .bf16⟩
  | .hbm, ⟨100, _⟩ => ⟨S16640x1024, .bf16⟩
  | .hbm, ⟨101, _⟩ => ⟨S16640x512, .bf16⟩
  | .hbm, ⟨102, _⟩ => ⟨S16640x128, .f32⟩
  | .hbm, ⟨103, _⟩ => ⟨S16640x64, .f32⟩
  | .hbm, ⟨104, _⟩ => ⟨S16640x256, .f32⟩
  | .hbm, ⟨105, _⟩ => ⟨S16640x256, .f32⟩
  | .hbm, ⟨106, _⟩ => ⟨S16640x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1408, .bf16⟩
  | .local _ .vmem, ⟨5, _⟩ => ⟨S1x256, .f32⟩
  | .local _ .vmem, ⟨6, _⟩ => ⟨S256x1536, .bf16⟩
  | .local _ .vmem, ⟨7, _⟩ => ⟨S1x128, .f32⟩
  | .local _ .vmem, ⟨8, _⟩ => ⟨S128x1024, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x256, .f32⟩
  | .local _ .vmem, ⟨19, _⟩ => ⟨S1x128x256, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x512, .bf16⟩
  | .local _ .vmem, ⟨25, _⟩ => ⟨S256x512, .bf16⟩
  | .local _ .vmem, ⟨26, _⟩ => ⟨S256x128, .f32⟩
  | .local _ .vmem, ⟨27, _⟩ => ⟨S256x128, .f32⟩
  | .local _ .vmem, ⟨28, _⟩ => ⟨S256x64, .f32⟩
  | .local _ .vmem, ⟨29, _⟩ => ⟨S256x64, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_4 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_5 : Ref sig .tc := ⟨.hbm, 91, rfl⟩
abbrev main_cst_6 : Ref sig .tc := ⟨.hbm, 92, rfl⟩
abbrev main_call1_v0 : Ref sig .tc := ⟨.hbm, 93, rfl⟩
abbrev main_call1_v1 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61_0 : Ref sig .tc := ⟨.hbm, 99, rfl⟩
abbrev main_v61_1 : Ref sig .tc := ⟨.hbm, 100, rfl⟩
abbrev main_v61_2 : Ref sig .tc := ⟨.hbm, 101, rfl⟩
abbrev main_v61_3 : Ref sig .tc := ⟨.hbm, 102, rfl⟩
abbrev main_v61_4 : Ref sig .tc := ⟨.hbm, 103, rfl⟩
abbrev main_v61_5 : Ref sig .tc := ⟨.hbm, 104, rfl⟩
abbrev main_v61_6 : Ref sig .tc := ⟨.hbm, 105, rfl⟩
abbrev main_v61_7 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c32_i32_4 : BitVec 32 := 32#32
  let v12 : BitVec 32 := Scalar.addi v11 c32_i32_4
  let v13 : BitVec 32 := Scalar.select v0 v10 v12
  let c0_i32_5 : BitVec 32 := 0#32
  let c0_i32_6 : BitVec 32 := 0#32
  ![v13.toNat, c0_i32_5.toNat]

def cc0_transform_8 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c32_i32_4 : BitVec 32 := 32#32
  let v12 : BitVec 32 := Scalar.addi v11 c32_i32_4
  let v13 : BitVec 32 := Scalar.select v0 v10 v12
  let c0_i32_5 : BitVec 32 := 0#32
  let c0_i32_6 : BitVec 32 := 0#32
  ![v13.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel3Ideal.lean ====
variable {F : FTy → Type} [FloatOps F] [Named F]
def κ : String → Option EReal := fun
  | "q_scale" => some ((((Real.sqrt 192) * (Real.log 2))⁻¹ : ℝ) : EReal)
  | _ => none
-- ==== Reference3Ideal.lean ====
abbrev S2x8192x1024 : Shape := ⟨3, ![2, 8192, 1024]⟩
abbrev S8x32x1024 : Shape := ⟨3, ![8, 32, 1024]⟩
abbrev S1024x1216 : Shape := ⟨2, ![1024, 1216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2x128x512 : Shape := ⟨3, ![2, 128, 512]⟩
abbrev S2x128x256 : Shape := ⟨3, ![2, 128, 256]⟩
abbrev S16384x1024 : Shape := ⟨2, ![16384, 1024]⟩
abbrev S256x1024 : Shape := ⟨2, ![256, 1024]⟩
abbrev S16640x1024 : Shape := ⟨2, ![16640, 1024]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S8x32 : Shape := ⟨2, ![8, 32]⟩
abbrev S16640 : Shape := ⟨1, ![16640]⟩
abbrev S16640x1216 : Shape := ⟨2, ![16640, 1216]⟩
abbrev S16640x256 : Shape := ⟨2, ![16640, 256]⟩
abbrev S16640x1 : Shape := ⟨2, ![16640, 1]⟩
abbrev S1x256 : Shape := ⟨2, ![1, 256]⟩
abbrev S16640x768 : Shape := ⟨2, ![16640, 768]⟩
abbrev S16640x4x192 : Shape := ⟨3, ![16640, 4, 192]⟩
abbrev S16640x4x128 : Shape := ⟨3, ![16640, 4, 128]⟩
abbrev S16640x4x64 : Shape := ⟨3, ![16640, 4, 64]⟩
abbrev S16640x32 : Shape := ⟨2, ![16640, 32]⟩
abbrev S16640x1x32 : Shape := ⟨3, ![16640, 1, 32]⟩
abbrev S16640x4x32 : Shape := ⟨3, ![16640, 4, 32]⟩
abbrev S16640x128 : Shape := ⟨2, ![16640, 128]⟩
abbrev S1x128 : Shape := ⟨2, ![1, 128]⟩
abbrev S16640x64 : Shape := ⟨2, ![16640, 64]⟩
abbrev S16640x1x64 : Shape := ⟨3, ![16640, 1, 64]⟩
abbrev S16640x4x256 : Shape := ⟨3, ![16640, 4, 256]⟩
abbrev S16640x512 : Shape := ⟨2, ![16640, 512]⟩

abbrev nBuf : Space → Nat
  | .hbm => 149
  | .vmem => 0
  | .smem => 0
  | _ => 0

abbrev hbmTy0_0 (i : Nat) : BufTy := match i % 128 with
  | 0 => ⟨S2x8192x1024, .f32⟩
  | 1 => ⟨S8x32x1024, .f32⟩
  | 2 => ⟨S1024x1216, .f32⟩
  | 3 => ⟨S256, .f32⟩
  | 4 => ⟨S256x768, .f32⟩
  | 5 => ⟨S128, .f32⟩
  | 6 => ⟨S128x1024, .f32⟩
  | 7 => ⟨S256, .f32⟩
  | 8 => ⟨S256, .f32⟩
  | 9 => ⟨S2x128x512, .bf16⟩
  | 10 => ⟨S2x128x256, .f32⟩
  | 11 => ⟨S16384x1024, .f32⟩
  | 12 => ⟨S256x1024, .f32⟩
  | 13 => ⟨S16640x1024, .f32⟩
  | 14 => ⟨S8192, .i32⟩
  | 15 => ⟨S1x8192, .i32⟩
  | 16 => ⟨S2x8192, .i32⟩
  | 17 => ⟨S16384, .i32⟩
  | 18 => ⟨S32, .i32⟩
  | 19 => ⟨S_, .i32⟩
  | 20 => ⟨S32, .i32⟩
  | 21 => ⟨S32, .i32⟩
  | 22 => ⟨S1x32, .i32⟩
  | 23 => ⟨S8x32, .i32⟩
  | 24 => ⟨S256, .i32⟩
  | 25 => ⟨S16640, .i32⟩
  | 26 => ⟨S16640x1216, .f32⟩
  | 27 => ⟨S16640x256, .f32⟩
  | 28 => ⟨S16640x256, .f32⟩
  | 29 => ⟨S_, .f32⟩
  | 30 => ⟨S16640, .f32⟩
  | 31 => ⟨S16640x1, .f32⟩
  | 32 => ⟨S_, .f32⟩
  | 33 => ⟨S16640x1, .f32⟩
  | 34 => ⟨S16640x1, .f32⟩
  | 35 => ⟨S_, .f32⟩
  | 36 => ⟨S16640x1, .f32⟩
  | 37 => ⟨S16640x1, .f32⟩
  | 38 => ⟨S16640x1, .f32⟩
  | 39 => ⟨S16640x256, .f32⟩
  | 40 => ⟨S16640x256, .f32⟩
  | 41 => ⟨S1x256, .f32⟩
  | 42 => ⟨S16640x256, .f32⟩
  | 43 => ⟨S16640x256, .f32⟩
  | 44 => ⟨S16640x768, .f32⟩
  | 45 => ⟨S16640x4x192, .f32⟩
  | 46 => ⟨S16640x4x128, .f32⟩
  | 47 => ⟨S16640x4x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S16640, .f32⟩
  | 57 => ⟨S16640x1, .f32⟩
  | 58 => ⟨S1x32, .f32⟩
  | 59 => ⟨S16640x32, .f32⟩
  | 60 => ⟨S16640x32, .f32⟩
  | 61 => ⟨S16640x32, .f32⟩
  | 62 => ⟨S16640x32, .f32⟩
  | 63 => ⟨S16640x1x32, .f32⟩
  | 64 => ⟨S16640x32, .f32⟩
  | 65 => ⟨S16640x1x32, .f32⟩
  | 66 => ⟨S16640x4x32, .f32⟩
  | 67 => ⟨S16640x4x32, .f32⟩
  | 68 => ⟨S16640x4x32, .f32⟩
  | 69 => ⟨S16640x4x32, .f32⟩
  | 70 => ⟨S16640x4x32, .f32⟩
  | 71 => ⟨S16640x4x32, .f32⟩
  | 72 => ⟨S16640x4x32, .f32⟩
  | 73 => ⟨S16640x4x32, .f32⟩
  | 74 => ⟨S16640x4x32, .f32⟩
  | 75 => ⟨S16640x4x32, .f32⟩
  | 76 => ⟨S16640x4x32, .f32⟩
  | 77 => ⟨S16640x4x32, .f32⟩
  | 78 => ⟨S16640x4x64, .f32⟩
  | 79 => ⟨S16640x128, .f32⟩
  | 80 => ⟨S16640x128, .f32⟩
  | 81 => ⟨S_, .f32⟩
  | 82 => ⟨S16640, .f32⟩
  | 83 => ⟨S16640x1, .f32⟩
  | 84 => ⟨S_, .f32⟩
  | 85 => ⟨S16640x1, .f32⟩
  | 86 => ⟨S16640x1, .f32⟩
  | 87 => ⟨S_, .f32⟩
  | 88 => ⟨S16640x1, .f32⟩
  | 89 => ⟨S16640x1, .f32⟩
  | 90 => ⟨S16640x1, .f32⟩
  | 91 => ⟨S16640x128, .f32⟩
  | 92 => ⟨S16640x128, .f32⟩
  | 93 => ⟨S1x128, .f32⟩
  | 94 => ⟨S16640x128, .f32⟩
  | 95 => ⟨S16640x128, .f32⟩
  | 96 => ⟨S16640x64, .f32⟩
  | 97 => ⟨S16640x1x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S16640, .f32⟩
  | 107 => ⟨S16640x1, .f32⟩
  | 108 => ⟨S1x32, .f32⟩
  | 109 => ⟨S16640x32, .f32⟩
  | 110 => ⟨S16640x32, .f32⟩
  | 111 => ⟨S16640x32, .f32⟩
  | 112 => ⟨S16640x32, .f32⟩
  | 113 => ⟨S16640x1x32, .f32⟩
  | 114 => ⟨S16640x32, .f32⟩
  | 115 => ⟨S16640x1x32, .f32⟩
  | 116 => ⟨S16640x1x32, .f32⟩
  | 117 => ⟨S16640x1x32, .f32⟩
  | 118 => ⟨S16640x1x32, .f32⟩
  | 119 => ⟨S16640x1x32, .f32⟩
  | 120 => ⟨S16640x1x32, .f32⟩
  | 121 => ⟨S16640x1x32, .f32⟩
  | 122 => ⟨S16640x1x32, .f32⟩
  | 123 => ⟨S16640x1x32, .f32⟩
  | 124 => ⟨S16640x1x64, .f32⟩
  | 125 => ⟨S16640x1024, .f32⟩
  | 126 => ⟨S16640x4x256, .f32⟩
  | 127 => ⟨S16640x4x128, .f32⟩
  | _ => ⟨S2x8192x1024, .f32⟩

abbrev hbmTy0_1 (i : Nat) : BufTy := match i % 128 with
  | 0 => ⟨S16640x4x128, .f32⟩
  | 1 => ⟨S_, .f32⟩
  | 2 => ⟨S16640x4x64, .f32⟩
  | 3 => ⟨S16640x4x256, .f32⟩
  | 4 => ⟨S_, .f32⟩
  | 5 => ⟨S_, .f32⟩
  | 6 => ⟨S_, .f32⟩
  | 7 => ⟨S_, .f32⟩
  | 8 => ⟨S_, .f32⟩
  | 9 => ⟨S16640x4x256, .f32⟩
  | 10 => ⟨S16640x4x256, .f32⟩
  | 11 => ⟨S16640x4x64, .f32⟩
  | 12 => ⟨S16640x4x256, .f32⟩
  | 13 => ⟨S16640x1024, .f32⟩
  | 14 => ⟨S16640x1024, .bf16⟩
  | 15 => ⟨S16640x1024, .f32⟩
  | 16 => ⟨S16640x1024, .bf16⟩
  | 17 => ⟨S16640x512, .f32⟩
  | 18 => ⟨S16640x512, .bf16⟩
  | 19 => ⟨S16640x64, .f32⟩
  | 20 => ⟨S16640x256, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_7 : Ref sig .tc := ⟨.hbm, 100, rfl⟩
abbrev main_v80 : Ref sig .tc := ⟨.hbm, 101, rfl⟩
abbrev main_v81 : Ref sig .tc := ⟨.hbm, 102, rfl⟩
abbrev main_cst_8 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_9 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_cst_11 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩

abbrev nD : Nat := 1
abbrev τ : Topo := Topo.v7x

variable {F : FTy → Type} [FloatOps F]
-- ==== Proof.Proj.FrameIdeal.lean ====
/- The frame of the idealized projections' kernel: what each point stores, the obligation of a point, and the run. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of this size (`View.cover_of_tiled`) recurses once per coordinate of its long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 12).trans (((dats 0 c).arrAt_in 12 rfl _).trans ((hA c 12).trans (V_main_arg9 m c))),
      ((h c).1 13).trans (((dats 0 c).arrAt_in 13 rfl _).trans ((hA c 13).trans (V_main_arg10 m c)))⟩) h

/-! ## The body's accesses -/

abbrev r0_0 : Rect S256x1024 := Rect.unit (s := S256x1024) ![0, 0] S256x1024.size inb_S256x1024_S256x1024_0_0
abbrev r0_1 : Rect S1024x1408 := Rect.unit (s := S1024x1408) ![0, 0] S1024x1408.size inb_S1024x1408_S1024x1408_0_0
abbrev r0_2 : Rect S256x128 := Rect.unit (s := S256x128) ![0, 0] S256x128.size inb_S256x128_S256x128_0_0
abbrev r0_3 : Rect S1x256 := Rect.unit (s := S1x256) ![0, 0] S1x256.size inb_S1x256_S1x256_0_0
abbrev r0_4 : Rect S256x1536 := Rect.unit (s := S256x1536) ![0, 0] S256x1536.size inb_S256x1536_S256x1536_0_0
abbrev r0_5 : Rect S256x1024 := Rect.unit (s := S256x1024) ![0, 0] S256x128.size inb_S256x1024_S256x128_0_0
abbrev r0_6 : Rect S256x1024 := Rect.unit (s := S256x1024) ![0, 128] S256x128.size inb_S256x1024_S256x128_0_128
abbrev r0_7 : Rect S256x1024 := Rect.unit (s := S256x1024) ![0, 256] S256x128.size inb_S256x1024_S256x128_0_256
abbrev r0_8 : Rect S256x1024 := Rect.unit (s := S256x1024) ![0, 384] S256x128.size inb_S256x1024_S256x128_0_384
abbrev r0_9 : Rect S256x1024 := Rect.unit (s := S256x1024) ![0, 512] S256x128.size inb_S256x1024_S256x128_0_512
abbrev r0_10 : Rect S256x1024 := Rect.unit (s := S256x1024) ![0, 640] S256x128.size inb_S256x1024_S256x128_0_640
abbrev r0_11 : Rect S256x1024 := Rect.unit (s := S256x1024) ![0, 768] S256x128.size inb_S256x1024_S256x128_0_768
abbrev r0_12 : Rect S256x1024 := Rect.unit (s := S256x1024) ![0, 896] S256x128.size inb_S256x1024_S256x128_0_896
abbrev r0_13 : Rect S1x128 := Rect.unit (s := S1x128) ![0, 0] S1x128.size inb_S1x128_S1x128_0_0
abbrev r0_14 : Rect S128x1024 := Rect.unit (s := S128x1024) ![0, 0] S128x1024.size inb_S128x1024_S128x1024_0_0
abbrev r0_15 : Rect S256x64 := Rect.unit (s := S256x64) ![0, 0] S256x64.size inb_S256x64_S256x64_0_0
abbrev r0_16 : Rect S256x512 := Rect.unit (s := S256x512) ![0, 0] S256x128.size inb_S256x512_S256x128_0_0
abbrev r0_17 : Rect S256x512 := Rect.unit (s := S256x512) ![0, 128] S256x128.size inb_S256x512_S256x128_0_128
abbrev r0_18 : Rect S256x512 := Rect.unit (s := S256x512) ![0, 256] S256x128.size inb_S256x512_S256x128_0_256
abbrev r0_19 : Rect S256x512 := Rect.unit (s := S256x512) ![0, 384] S256x128.size inb_S256x512_S256x128_0_384
abbrev r0_20 : Rect S256x256 := Rect.unit (s := S256x256) ![0, 0] S256x256.size inb_S256x256_S256x256_0_0
abbrev r0_21 : Rect S1x128x512 := Rect.unit (s := S1x128x512) ![0, 0, 0] S1x128x512.size inb_S1x128x512_S1x128x512_0_0_0
abbrev r0_22 : Rect S1x128x256 := Rect.unit (s := S1x128x256) ![0, 0, 0] S1x128x256.size inb_S1x128x256_S1x128x256_0_0_0
abbrev r0_23 : Rect S256x256 := Rect.unit (s := S256x256) ![0, 0] S128x256.size inb_S256x256_S128x256_0_0
abbrev r0_24 : Rect S256x256 := Rect.unit (s := S256x256) ![128, 0] S128x256.size inb_S256x256_S128x256_128_0

/-! ## What the body leaves in each output window's buffer -/

/-! ### Values of the body that several stores share

    Each is a vector the body binds, stated over the input windows' blocks and named once, so that `out0_W` and the
    values after it need not spell it out; the comment after each is the name the body binds it to. -/

def k0_pay54 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x1408 .f32 :=
  k0_pay2 i (View.ld x0 r0_0) (View.ld x1 r0_0) (View.ld x2 r0_1) -- `v9`
def k0_pay55 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x128 .f32 :=
  k0_pay3 (View.ld x7 r0_2) -- `v11`
def k0_pay56 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x128 .f32 :=
  k0_pay4 (View.ld x8 r0_2) -- `v13`
def k0_pay57 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x1536 .f32 :=
  k0_pay5 i (View.ld x0 r0_0) (View.ld x1 r0_0) (View.ld x2 r0_1) (View.ld x3 r0_3) (View.ld x4 r0_4) -- `v32`
def k0_pay58 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x1024 .f32 :=
  k0_pay17 (k0_pay54 i x0 x1 x2 x3 x4 x5 x6 x7 x8 x9 x10 x11 x12 x13) (View.ld x5 r0_13) (View.ld x6 r0_14) -- `v108`
def k0_pay59 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x128 .f32 :=
  k0_pay18 (k0_pay54 i x0 x1 x2 x3 x4 x5 x6 x7 x8 x9 x10 x11 x12 x13) (k0_pay55 i x0 x1 x2 x3 x4 x5 x6 x7 x8 x9 x10 x11 x12 x13) (k0_pay56 i x0 x1 x2 x3 x4 x5 x6 x7 x8 x9 x10 x11 x12 x13) -- `v113`
def k0_pay60 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x256 .f32 :=
  k0_pay31 (k0_pay54 i x0 x1 x2 x3 x4 x5 x6 x7 x8 x9 x10 x11 x12 x13) -- `v161`
def k0_pay61 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x256 .f32 :=
  k0_pay33 (k0_pay54 i x0 x1 x2 x3 x4 x5 x6 x7 x8 x9 x10 x11 x12 x13) (View.ld x11 r0_20) -- `v172`
def k0_pay62 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x256 .f32 :=
  k0_pay34 (k0_pay54 i x0 x1 x2 x3 x4 x5 x6 x7 x8 x9 x10 x11 x12 x13) (View.ld x11 r0_20) -- `v182`
def k0_pay63 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : IVec S128x256 32 :=
  iota .tc S128x256 32 [1] iota_S128x256_d1_w32 -- `v194`
def k0_pay64 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S256x256 .f32 :=
  k0_pay35 (k0_pay61 i x0 x1 x2 x3 x4 x5 x6 x7 x8 x9 x10 x11 x12 x13) (k0_pay62 i x0 x1 x2 x3 x4 x5 x6 x7 x8 x9 x10 x11 x12 x13) (View.ld x9 r0_3) (View.ld x10 r0_3) -- `v192`
def k0_pay65 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S128x512 .bf16 :=
  k0_pay36 (View.ld x12 r0_21) -- `v196`
def k0_pay66 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S128x256 .f32 :=
  k0_pay37 (View.ld x13 r0_22) -- `v198`
def k0_pay67 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S128x256 .bf16 :=
  k0_pay38 (k0_pay61 i x0 x1 x2 x3 x4 x5 x6 x7 x8 x9 x10 x11 x12 x13) (k0_pay62 i x0 x1 x2 x3 x4 x5 x6 x7 x8 x9 x10 x11 x12 x13) (View.ld x9 r0_3) (View.ld x10 r0_3) -- `v200`
def k0_pay68 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : FVec F S128x256 .bf16 :=
  k0_pay48 (k0_pay64 i x0 x1 x2 x3 x4 x5 x6 x7 x8 x9 x10 x11 x12 x13) -- `v320`

/-- Window 14's staging buffer after the body, from the input windows' blocks: its 8 stores as pieces, LAST
    FIRST, over the values stated above. -/
def out0_14 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x1024 .bf16 :=
  View.canon [⟨r0_12, k0_pay15 (k0_pay55 i x0 x1 x2 x3 x4 x5 x6 x7 x8 x9 x10 x11 x12 x13) (k0_pay56 i x0 x1 x2 x3 x4 x5 x6 x7 x8 x9 x10 x11 x12 x13) (k0_pay57 i x0 x1 x2 x3 x4 x5 x6 x7 x8 x9 x10 x11 x12 x13)⟩,
    ⟨r0_11, k0_pay14 (k0_pay57 i x0 x1 x2 x3 x4 x5 x6 x7 x8 x9 x10 x11 x12 x13)⟩,
    ⟨r0_10, k0_pay13 (k0_pay55 i x0 x1 x2 x3 x4 x5 x6 x7 x8 x9 x10 x11 x12 x13) (k0_pay56 i x0 x1 x2 x3 x4 x5 x6 x7 x8 x9 x10 x11 x12 x13) (k0_pay57 i x0 x1 x2 x3 x4 x5 x6 x7 x8 x9 x10 x11 x12 x13)⟩,
    ⟨r0_9, k0_pay12 (k0_pay57 i x0 x1 x2 x3 x4 x5 x6 x7 x8 x9 x10 x11 x12 x13)⟩,
    ⟨r0_8, k0_pay11 (k0_pay55 i x0 x1 x2 x3 x4 x5 x6 x7 x8 x9 x10 x11 x12 x13) (k0_pay56 i x0 x1 x2 x3 x4 x5 x6 x7 x8 x9 x10 x11 x12 x13) (k0_pay57 i x0 x1 x2 x3 x4 x5 x6 x7 x8 x9 x10 x11 x12 x13)⟩,
    ⟨r0_7, k0_pay10 (k0_pay57 i x0 x1 x2 x3 x4 x5 x6 x7 x8 x9 x10 x11 x12 x13)⟩,
    ⟨r0_6, k0_pay9 (k0_pay7 i (View.ld x0 r0_0) (View.ld x1 r0_0) (View.ld x2 r0_1) (View.ld x7 r0_2) (View.ld x8 r0_2) (View.ld x3 r0_3) (View.ld x4 r0_4))⟩,
    ⟨r0_5, k0_pay8 (k0_pay6 i (View.ld x0 r0_0) (View.ld x1 r0_0) (View.ld x2 r0_1) (View.ld x3 r0_3) (View.ld x4 r0_4))⟩]

/-- Its stores tile the buffer (checked by evaluation), so they cover it. -/
theorem cover0_14 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_12, p0⟩, ⟨r0_11, p1⟩, ⟨r0_10, p2⟩, ⟨r0_9, p3⟩, ⟨r0_8, p4⟩, ⟨r0_7, p5⟩, ⟨r0_6, p6⟩, ⟨r0_5, p7⟩] : List (View.Piece (Elt F) S256x1024 .bf16)), y ∈ pc.1.set :=
  View.cover_of_tiled [⟨r0_12, p0⟩, ⟨r0_11, p1⟩, ⟨r0_10, p2⟩, ⟨r0_9, p3⟩, ⟨r0_8, p4⟩, ⟨r0_7, p5⟩, ⟨r0_6, p6⟩, ⟨r0_5, p7⟩] S256x128.size (by rfl) y

/-- Window 15's staging buffer after the body, from the input windows' blocks: its 8 stores as pieces, LAST
    FIRST, over the values stated above. -/
def out0_15 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x1024 .bf16 :=
  View.canon [⟨r0_12, k0_pay20 (k0_pay59 i x0 x1 x2 x3 x4 x5 x6 x7 x8 x9 x10 x11 x12 x13)⟩,
    ⟨r0_11, k0_pay27 (k0_pay58 i x0 x1 x2 x3 x4 x5 x6 x7 x8 x9 x10 x11 x12 x13)⟩,
    ⟨r0_10, k0_pay20 (k0_pay59 i x0 x1 x2 x3 x4 x5 x6 x7 x8 x9 x10 x11 x12 x13)⟩,
    ⟨r0_9, k0_pay25 (k0_pay58 i x0 x1 x2 x3 x4 x5 x6 x7 x8 x9 x10 x11 x12 x13)⟩,
    ⟨r0_8, k0_pay20 (k0_pay59 i x0 x1 x2 x3 x4 x5 x6 x7 x8 x9 x10 x11 x12 x13)⟩,
    ⟨r0_7, k0_pay23 (k0_pay58 i x0 x1 x2 x3 x4 x5 x6 x7 x8 x9 x10 x11 x12 x13)⟩,
    ⟨r0_6, k0_pay20 (k0_pay59 i x0 x1 x2 x3 x4 x5 x6 x7 x8 x9 x10 x11 x12 x13)⟩,
    ⟨r0_5, k0_pay21 (k0_pay58 i x0 x1 x2 x3 x4 x5 x6 x7 x8 x9 x10 x11 x12 x13)⟩]

/-- Its stores tile the buffer (checked by evaluation), so they cover it. -/
theorem cover0_15 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_12, p0⟩, ⟨r0_11, p1⟩, ⟨r0_10, p2⟩, ⟨r0_9, p3⟩, ⟨r0_8, p4⟩, ⟨r0_7, p5⟩, ⟨r0_6, p6⟩, ⟨r0_5, p7⟩] : List (View.Piece (Elt F) S256x1024 .bf16)), y ∈ pc.1.set :=
  View.cover_of_tiled [⟨r0_12, p0⟩, ⟨r0_11, p1⟩, ⟨r0_10, p2⟩, ⟨r0_9, p3⟩, ⟨r0_8, p4⟩, ⟨r0_7, p5⟩, ⟨r0_6, p6⟩, ⟨r0_5, p7⟩] S256x128.size (by rfl) y

/-- Window 16's staging buffer after the body, from the input windows' blocks: its 4 stores as pieces, LAST
    FIRST, over the values stated above. -/
def out0_16 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x512 .bf16 :=
  View.canon [⟨r0_19, k0_pay28 (k0_pay58 i x0 x1 x2 x3 x4 x5 x6 x7 x8 x9 x10 x11 x12 x13)⟩,
    ⟨r0_18, k0_pay26 (k0_pay58 i x0 x1 x2 x3 x4 x5 x6 x7 x8 x9 x10 x11 x12 x13)⟩,
    ⟨r0_17, k0_pay24 (k0_pay58 i x0 x1 x2 x3 x4 x5 x6 x7 x8 x9 x10 x11 x12 x13)⟩,
    ⟨r0_16, k0_pay22 (k0_pay58 i x0 x1 x2 x3 x4 x5 x6 x7 x8 x9 x10 x11 x12 x13)⟩]

/-- Its stores tile the buffer (checked by evaluation), so they cover it. -/
theorem cover0_16 (p0 : Vec F S256x128 .bf16) (p1 : Vec F S256x128 .bf16) (p2 : Vec F S256x128 .bf16) (p3 : Vec F S256x128 .bf16) (y : S256x512.Idx) :
    ∃ pc ∈ ([⟨r0_19, p0⟩, ⟨r0_18, p1⟩, ⟨r0_17, p2⟩, ⟨r0_16, p3⟩] : List (View.Piece (Elt F) S256x512 .bf16)), y ∈ pc.1.set :=
  View.cover_of_tiled [⟨r0_19, p0⟩, ⟨r0_18, p1⟩, ⟨r0_17, p2⟩, ⟨r0_16, p3⟩] S256x128.size (by rfl) y

/-- Window 17's staging buffer after the body, from the input windows' blocks: its 1 store as pieces, LAST
    FIRST, over the values stated above. -/
def out0_17 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x128 .f32 :=
  View.canon [⟨r0_2, k0_pay16 (k0_pay54 i x0 x1 x2 x3 x4 x5 x6 x7 x8 x9 x10 x11 x12 x13) (View.ld x5 r0_13)⟩]

/-- Its stores tile the buffer (checked by evaluation), so they cover it. -/
theorem cover0_17 (p0 : Vec F S256x128 .f32) (y : S256x128.Idx) :
    ∃ pc ∈ ([⟨r0_2, p0⟩] : List (View.Piece (Elt F) S256x128 .f32)), y ∈ pc.1.set :=
  View.cover_of_tiled [⟨r0_2, p0⟩] S256x128.size (by rfl) y

/-- Window 18's staging buffer after the body, from the input windows' blocks: its 1 store as pieces, LAST
    FIRST, over the values stated above. -/
def out0_18 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x64 .f32 :=
  View.canon [⟨r0_15, k0_pay19 (k0_pay54 i x0 x1 x2 x3 x4 x5 x6 x7 x8 x9 x10 x11 x12 x13) (k0_pay55 i x0 x1 x2 x3 x4 x5 x6 x7 x8 x9 x10 x11 x12 x13) (k0_pay56 i x0 x1 x2 x3 x4 x5 x6 x7 x8 x9 x10 x11 x12 x13)⟩]

/-- Its stores tile the buffer (checked by evaluation), so they cover it. -/
theorem cover0_18 (p0 : Vec F S256x64 .f32) (y : S256x64.Idx) :
    ∃ pc ∈ ([⟨r0_15, p0⟩] : List (View.Piece (Elt F) S256x64 .f32)), y ∈ pc.1.set :=
  View.cover_of_tiled [⟨r0_15, p0⟩] S256x64.size (by rfl) y

/-- Window 19's staging buffer after the body, from the input windows' blocks: its 1 store as pieces, LAST
    FIRST, over the values stated above. -/
def out0_19 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x256 .f32 :=
  View.canon [⟨r0_20, k0_pay29 (k0_pay54 i x0 x1 x2 x3 x4 x5 x6 x7 x8 x9 x10 x11 x12 x13)⟩]

/-- Its stores tile the buffer (checked by evaluation), so they cover it. -/
theorem cover0_19 (p0 : Vec F S256x256 .f32) (y : S256x256.Idx) :
    ∃ pc ∈ ([⟨r0_20, p0⟩] : List (View.Piece (Elt F) S256x256 .f32)), y ∈ pc.1.set :=
  View.cover_of_tiled [⟨r0_20, p0⟩] S256x256.size (by rfl) y

/-- Window 20's staging buffer after the body, from the input windows' blocks: its 2 stores as pieces, LAST
    FIRST, over the values stated above. -/
def out0_20 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x256 .f32 :=
  View.canon [⟨r0_24, k0_pay1 (k0_pay60 i x0 x1 x2 x3 x4 x5 x6 x7 x8 x9 x10 x11 x12 x13) (k0_pay63 i x0 x1 x2 x3 x4 x5 x6 x7 x8 x9 x10 x11 x12 x13) (k0_pay65 i x0 x1 x2 x3 x4 x5 x6 x7 x8 x9 x10 x11 x12 x13) (k0_pay66 i x0 x1 x2 x3 x4 x5 x6 x7 x8 x9 x10 x11 x12 x13) (k0_pay68 i x0 x1 x2 x3 x4 x5 x6 x7 x8 x9 x10 x11 x12 x13) (k0_pay49 (k0_pay64 i x0 x1 x2 x3 x4 x5 x6 x7 x8 x9 x10 x11 x12 x13) (k0_pay63 i x0 x1 x2 x3 x4 x5 x6 x7 x8 x9 x10 x11 x12 x13)) (k0_pay52 (k0_pay63 i x0 x1 x2 x3 x4 x5 x6 x7 x8 x9 x10 x11 x12 x13) (k0_pay68 i x0 x1 x2 x3 x4 x5 x6 x7 x8 x9 x10 x11 x12 x13) 64#32 (k0_pay50 (k0_pay63 i x0 x1 x2 x3 x4 x5 x6 x7 x8 x9 x10 x11 x12 x13)) (k0_pay51 (k0_pay63 i x0 x1 x2 x3 x4 x5 x6 x7 x8 x9 x10 x11 x12 x13))) (k0_pay53 (k0_pay63 i x0 x1 x2 x3 x4 x5 x6 x7 x8 x9 x10 x11 x12 x13)) (Scalar.ofBits .bf16 0x0000#16)⟩,
    ⟨r0_23, k0_pay47 (k0_pay60 i x0 x1 x2 x3 x4 x5 x6 x7 x8 x9 x10 x11 x12 x13) (k0_pay65 i x0 x1 x2 x3 x4 x5 x6 x7 x8 x9 x10 x11 x12 x13) (k0_pay66 i x0 x1 x2 x3 x4 x5 x6 x7 x8 x9 x10 x11 x12 x13) (k0_pay46 (k0_pay63 i x0 x1 x2 x3 x4 x5 x6 x7 x8 x9 x10 x11 x12 x13) (k0_pay67 i x0 x1 x2 x3 x4 x5 x6 x7 x8 x9 x10 x11 x12 x13) (k0_pay42 (k0_pay67 i x0 x1 x2 x3 x4 x5 x6 x7 x8 x9 x10 x11 x12 x13) k0_pay39 k0_pay40 k0_pay41) (k0_pay43 (k0_pay63 i x0 x1 x2 x3 x4 x5 x6 x7 x8 x9 x10 x11 x12 x13) (k0_pay67 i x0 x1 x2 x3 x4 x5 x6 x7 x8 x9 x10 x11 x12 x13)) 64#32 (k0_pay44 (k0_pay63 i x0 x1 x2 x3 x4 x5 x6 x7 x8 x9 x10 x11 x12 x13)) (k0_pay45 (k0_pay63 i x0 x1 x2 x3 x4 x5 x6 x7 x8 x9 x10 x11 x12 x13)) (Scalar.extui (Scalar.cmpi .sgt 64#32 0#32)))⟩]

/-- Its stores tile the buffer (checked by evaluation), so they cover it. -/
theorem cover0_20 (p0 : Vec F S128x256 .f32) (p1 : Vec F S128x256 .f32) (y : S256x256.Idx) :
    ∃ pc ∈ ([⟨r0_24, p0⟩, ⟨r0_23, p1⟩] : List (View.Piece (Elt F) S256x256 .f32)), y ∈ pc.1.set :=
  View.cover_of_tiled [⟨r0_24, p0⟩, ⟨r0_23, p1⟩] S128x256.size (by rfl) y

/-- Window 21's staging buffer after the body, from the input windows' blocks: its 1 store as pieces, LAST
    FIRST, over the values stated above. -/
def out0_21 (i : grid0.Coords) (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) : Vec F S256x256 .f32 :=
  View.canon [⟨r0_20, k0_pay35 (k0_pay61 i x0 x1 x2 x3 x4 x5 x6 x7 x8 x9 x10 x11 x12 x13) (k0_pay62 i x0 x1 x2 x3 x4 x5 x6 x7 x8 x9 x10 x11 x12 x13) (View.ld x9 r0_3) (View.ld x10 r0_3)⟩]

/-- Its stores tile the buffer (checked by evaluation), so they cover it. -/
theorem cover0_21 (p0 : Vec F S256x256 .f32) (y : S256x256.Idx) :
    ∃ pc ∈ ([⟨r0_20, p0⟩] : List (View.Piece (Elt F) S256x256 .f32)), y ∈ pc.1.set :=
  View.cover_of_tiled [⟨r0_20, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x1408 .bf16) (harg3 : arg3.IsWhole) (arg4 : Memref sig .tc .vmem S1x256 .f32) (harg4 : arg4.IsWhole) (arg5 : Memref sig .tc .vmem S256x1536 .bf16) (harg5 : arg5.IsWhole) (arg6 : Memref sig .tc .vmem S1x128 .f32) (harg6 : arg6.IsWhole) (arg7 : Memref sig .tc .vmem S128x1024 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x128x512 .bf16) (harg13 : arg13.IsWhole) (arg14 : Memref sig .tc .vmem S1x128x256 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x512 .bf16) (harg17 : arg17.IsWhole) (arg18 : Memref sig .tc .vmem S256x128 .f32) (harg18 : arg18.IsWhole) (arg19 : Memref sig .tc .vmem S256x64 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole)
    (x0 : Vec F S256x1024 .f32) (x1 : Vec F S256x1024 .f32) (x2 : Vec F S1024x1408 .bf16) (x3 : Vec F S1x256 .f32) (x4 : Vec F S256x1536 .bf16) (x5 : Vec F S1x128 .f32) (x6 : Vec F S128x1024 .bf16) (x7 : Vec F S256x128 .f32) (x8 : Vec F S256x128 .f32) (x9 : Vec F S1x256 .f32) (x10 : Vec F S1x256 .f32) (x11 : Vec F S256x256 .bf16) (x12 : Vec F S1x128x512 .bf16) (x13 : Vec F S1x128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 i x0 x1 x2 x3 x4 x5 x6 x7 x8 x9 x10 x11 x12 x13) ∗ owns (c : Thread nD τ) arg16 fullShare (out0_15 i x0 x1 x2 x3 x4 x5 x6 x7 x8 x9 x10 x11 x12 x13) ∗ owns (c : Thread nD τ) arg17 fullShare (out0_16 i x0 x1 x2 x3 x4 x5 x6 x7 x8 x9 x10 x11 x12 x13) ∗ owns (c : Thread nD τ) arg18 fullShare (out0_17 i x0 x1 x2 x3 x4 x5 x6 x7 x8 x9 x10 x11 x12 x13) ∗ owns (c : Thread nD τ) arg19 fullShare (out0_18 i x0 x1 x2 x3 x4 x5 x6 x7 x8 x9 x10 x11 x12 x13) ∗ owns (c : Thread nD τ) arg20 fullShare (out0_19 i x0 x1 x2 x3 x4 x5 x6 x7 x8 x9 x10 x11 x12 x13) ∗ owns (c : Thread nD τ) arg21 fullShare (out0_20 i x0 x1 x2 x3 x4 x5 x6 x7 x8 x9 x10 x11 x12 x13) ∗ owns (c : Thread nD τ) arg22 fullShare (out0_21 i x0 x1 x2 x3 x4 x5 x6 x7 x8 x9 x10 x11 x12 x13)) -∗ K ⟨⟩))
      ⊢ wp frame (wpE (defs₀ (F := F)) Variants.none c none) E (cc0_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_pre_eq_skeleton]; unfold cc0_pre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    one of the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Gen

end
-- ==== Proof.Proj.Value.lean ====
/- The arrays of the idealized projections' kernel after its run, block by block. -/
module

public import proofs.«01_k».proof.Proof.Proj.FrameIdeal
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 14).cut (grid0.coords t) ((dats m 0 c).after 14 t) = _
  rw [after0_14]

/-- The index map sends distinct grid points to distinct block indices (decided over the 65 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S16640x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]

/-- The index map sends distinct grid points to distinct block indices (decided over the 65 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S16640x1024.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 16).cut (grid0.coords t) ((dats m 0 c).after 16 t) = _
  rw [after0_16]

/-- The index map sends distinct grid points to distinct block indices (decided over the 65 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S16640x512.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 17).cut (grid0.coords t) ((dats m 0 c).after 17 t) = _
  rw [after0_17]

/-- The index map sends distinct grid points to distinct block indices (decided over the 65 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S16640x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 18).cut (grid0.coords t) ((dats m 0 c).after 18 t) = _
  rw [after0_18]

/-- The index map sends distinct grid points to distinct block indices (decided over the 65 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S16640x64.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 19).cut (grid0.coords t) ((dats m 0 c).after 19 t) = _
  rw [after0_19]

/-- The index map sends distinct grid points to distinct block indices (decided over the 65 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S16640x256.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 20).cut (grid0.coords t) ((dats m 0 c).after 20 t) = _
  rw [after0_20]

/-- The index map sends distinct grid points to distinct block indices (decided over the 65 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S16640x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 21).cut (grid0.coords t) ((dats m 0 c).after 21 t) = _
  rw [after0_21]

/-- The index map sends distinct grid points to distinct block indices (decided over the 65 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S16640x256.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v61_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v61_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v61_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v61_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v61_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v61_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v61_6) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v61_7) = (dats m 0 c).arrAt 21 cfg0.N :=
  (h c).1 21

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 12 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 12).trans (((dats m 0 c).arrAt_in 12 rfl _).trans ((A_eq m c 12).trans (V_main_arg9 m c)))

/-- After the frame run, argument `main_arg10` is as launched: input window 13 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 13).trans (((dats m 0 c).arrAt_in 13 rfl _).trans ((A_eq m c 13).trans (V_main_arg10 m c)))

set_option maxHeartbeats 257180 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v61_0) = (dats m 0 c).arrAt 14 cfg0.N
      ∧ r.2.mem ((c : Thread nD τ).loc main_v61_1) = (dats m 0 c).arrAt 15 cfg0.N
      ∧ r.2.mem ((c : Thread nD τ).loc main_v61_2) = (dats m 0 c).arrAt 16 cfg0.N
      ∧ r.2.mem ((c : Thread nD τ).loc main_v61_3) = (dats m 0 c).arrAt 17 cfg0.N
      ∧ r.2.mem ((c : Thread nD τ).loc main_v61_4) = (dats m 0 c).arrAt 18 cfg0.N
      ∧ r.2.mem ((c : Thread nD τ).loc main_v61_5) = (dats m 0 c).arrAt 19 cfg0.N
      ∧ r.2.mem ((c : Thread nD τ).loc main_v61_6) = (dats m 0 c).arrAt 20 cfg0.N
      ∧ r.2.mem ((c : Thread nD τ).loc main_v61_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

end Cert.Kernel3Ideal.Value

end
-- ==== Proof.Body.lean ====
/- The runs of the expert kernel's body, one grid point at a time. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tables, the weights left in HBM and the scratch buffers, whole. -/
abbrev mBe : Memref sig .tc .smem S349 .i32 := Memref.whole main_arg0
abbrev mNv : Memref sig .tc .smem S349 .i32 := Memref.whole main_arg1
abbrev mNx : Memref sig .tc .smem S349 .i32 := Memref.whole main_arg2
abbrev mGu : Memref sig .tc .hbm S64x1024x2048 .f32 := Memref.whole main_v0
abbrev mDn : Memref sig .tc .hbm S64x1024x1024 .f32 := Memref.whole main_v2
abbrev sGu : Memref sig .tc .vmem S1024x2048 .f32 := Memref.whole cc0_scratch0
abbrev sDn : Memref sig .tc .vmem S1024x1024 .f32 := Memref.whole cc0_scratch1
abbrev cGu : Memref sig .tc .vmem S1024x2048 .bf16 := Memref.whole cc0_scratch2
abbrev cDn : Memref sig .tc .vmem S1024x1024 .bf16 := Memref.whole cc0_scratch3

/-- The body at point `i` over the pipeline's staging memrefs. -/
abbrev bodyAt (i : grid0.Coords) (a4 : Memref sig .tc .vmem S256x640 .i32) (h4 : a4.IsWhole) (a5 : Memref sig .tc .vmem S1x1x2048 .f32) (h5 : a5.IsWhole)
    (a6 : Memref sig .tc .vmem S1x1x1024 .f32) (h6 : a6.IsWhole) (a9 : Memref sig .tc .vmem S256x1024 .f32) (h9 : a9.IsWhole) :
    Prog (TpuEff nD τ sig (Elt F) Λ₀ .tc) PUnit :=
  cc0_experts i mBe (Memref.isWhole_whole _) mNv (Memref.isWhole_whole _) mNx (Memref.isWhole_whole _) a4 h4 a5 h5 a6 h6
    mGu (Memref.isWhole_whole _) mDn (Memref.isWhole_whole _) a9 h9 sGu (Memref.isWhole_whole _) sDn (Memref.isWhole_whole _)
    cGu (Memref.isWhole_whole _) cDn (Memref.isWhole_whole _) cc0_scratch4

/-- The table half the body reads. -/
abbrev tab (c : Dev nD) (M : Memref sig .tc .smem S349 .i32) (f : Buf (Elt F) (M.view.loc (c : Thread nD τ))) : sProp 𝕄 :=
  M.view.loc (c : Thread nD τ) ↦{fullShare.right} f

/-- The word a table holds at offset `o`, as a scalar load reads it. -/
abbrev word (c : Dev nD) (M : Memref sig .tc .smem S349 .i32) (f : Buf (Elt F) (M.view.loc (c : Thread nD τ))) (o : Fin 1 → Nat)
    (h : ∀ a, o a + S1.size a ≤ S349.size a) : BitVec 32 :=
  M.view.readAt (Elt F) (Rect.unit (s := S349) o S1.size h).toLoadRect f (Shape.Idx.first (show 0 < S1.numel by rw [numel1_S1]; exact Nat.one_pos))

/-- A word naming an expert puts its slab inside the weights. -/
theorem inb_gu (n : BitVec 32) (h : n.toNat < 64) : ∀ a, (k0_off9 n) a + S1x1024x2048.size a ≤ S64x1024x2048.size a := by
  intro a; fin_cases a <;> simp [k0_off9] <;> omega
theorem inb_dn (n : BitVec 32) (h : n.toNat < 64) : ∀ a, (k0_off10 n) a + S1x1024x1024.size a ≤ S64x1024x1024.size a := by
  intro a; fin_cases a <;> simp [k0_off10] <;> omega

theorem chk1_of (i : grid0.Coords) (b : BitVec 32) (h : b.toNat < 64) : k0_chk1 i b := ⟨fun _ => inb_gu b h, fun _ => inb_dn b h⟩
theorem chk2_of (i : grid0.Coords) (b p : BitVec 32) (h : b.toNat < 64) : k0_chk2 i b p := ⟨fun _ => inb_gu b h, fun _ => inb_dn b h⟩
theorem chk3_of (i : grid0.Coords) (b p n x : BitVec 32) (h : x.toNat < 64) : k0_chk3 i b p n x := ⟨fun _ _ => inb_gu x h, fun _ _ => inb_dn x h⟩

/-! ## What the body holds between points -/

/-- Expert `n`'s slab of each weight array, as the transfers read it. -/
abbrev slabGu (n : BitVec 32) (h : n.toNat < 64) : Memref sig .tc .hbm S1024x2048 .f32 :=
  (mGu.slice (Rect.unit (s := S64x1024x2048) (k0_off9 n) S1x1024x2048.size (inb_gu n h)) (fun _ => rfl)).squeeze S1024x2048 squeezes_S1x1024x2048_S1024x2048
abbrev slabDn (n : BitVec 32) (h : n.toNat < 64) : Memref sig .tc .hbm S1024x1024 .f32 :=
  (mDn.slice (Rect.unit (s := S64x1024x1024) (k0_off10 n) S1x1024x1024.size (inb_dn n h)) (fun _ => rfl)).squeeze S1024x1024 squeezes_S1x1024x1024_S1024x1024

variable (c : Dev nD) (w0 : Buf (Elt F) (mGu.view.loc (c : Thread nD τ))) (w2 : Buf (Elt F) (mDn.view.loc (c : Thread nD τ)))

/-- No transfer under way: both staging buffers, both weight arrays and both semaphores at rest. -/
def rest : sProp 𝕄 :=
  iprop((∃ g : Buf (Elt F) (sGu.view.loc (c : Thread nD τ)), sGu.view.loc (c : Thread nD τ) ↦{fullShare} g)
    ∗ (∃ g : Buf (Elt F) (sDn.view.loc (c : Thread nD τ)), sDn.view.loc (c : Thread nD τ) ↦{fullShare} g)
    ∗ semVal ((c : Thread nD τ), SemLoc.dma 8) 0 ∗ semVal ((c : Thread nD τ), SemLoc.dma 9) 0
    ∗ (mGu.view.loc (c : Thread nD τ) ↦{fullShare} w0) ∗ (mDn.view.loc (c : Thread nD τ) ↦{fullShare} w2))

/-- Expert `n`'s two slabs on their way into the staging buffers. -/
def coming (n : BitVec 32) (h : n.toNat < 64) : sProp 𝕄 :=
  iprop((∃ g : Buf (Elt F) (sGu.view.loc (c : Thread nD τ)), Transfers.Flight (countersEmb (U := Pipeline.UD sig nD τ)) (c : Thread nD τ) (.dma 8) () 262144
      iprop((sGu.view.loc (c : Thread nD τ) ↦{fullShare} sGu.view.write (Elt F) g ((slabGu n h).view.read (Elt F) w0) Finset.univ)
        ∗ (mGu.view.loc (c : Thread nD τ) ↦[(slabGu n h).view.set]{fullShare} w0)))
    ∗ (∃ g : Buf (Elt F) (sDn.view.loc (c : Thread nD τ)), Transfers.Flight (countersEmb (U := Pipeline.UD sig nD τ)) (c : Thread nD τ) (.dma 9) () 131072
      iprop((sDn.view.loc (c : Thread nD τ) ↦{fullShare} sDn.view.write (Elt F) g ((slabDn n h).view.read (Elt F) w2) Finset.univ)
        ∗ (mDn.view.loc (c : Thread nD τ) ↦[(slabDn n h).view.set]{fullShare} w2)))
    ∗ (mGu.view.loc (c : Thread nD τ) ↦[Finset.univ \ (slabGu n h).view.set]{fullShare} w0)
    ∗ (mDn.view.loc (c : Thread nD τ) ↦[Finset.univ \ (slabDn n h).view.set]{fullShare} w2))

/-- The next expert `n`'s slabs on their way if there is a next expert. -/
def ahead (n : BitVec 32) : sProp 𝕄 := if h : n.toNat < 64 then coming c w0 w2 n h else rest c w0 w2

/-- The two rounded weight buffers at given values. -/
def kept (X : S1024x2048.Idx → Elt F .bf16) (Y : S1024x1024.Idx → Elt F .bf16) : sProp 𝕄 :=
  iprop(owns (c : Thread nD τ) cGu fullShare X ∗ owns (c : Thread nD τ) cDn fullShare Y)

/-- What a point with `n` live rows computes of its row block, biases and rounded weights; a point with none stores zeros. -/
def blk (n : BitVec 32) (x : S256x640.Idx → Elt F .i32) (bg : S1x1x2048.Idx → Elt F .f32) (bd : S1x1x1024.Idx → Elt F .f32)
    (gu : S1024x2048.Idx → Elt F .bf16) (dn : S1024x1024.Idx → Elt F .bf16) : S256x1024.Idx → Elt F .f32 :=
  if k0_cond4 n = 1#1 then
    k0_pay3 (k0_pay6 n (View.ld x (Rect.unit (s := S256x640) ![0, 512] S256x128.size inb_S256x640_S256x128_0_512)))
      (k0_pay7 n (View.ld x (Rect.unit (s := S256x640) ![0, 0] S256x512.size inb_S256x640_S256x512_0_0))
        (View.ld gu (Rect.unit (s := S1024x2048) ![0, 0] S512x2048.size inb_S1024x2048_S512x2048_0_0))
        (View.ld gu (Rect.unit (s := S1024x2048) ![512, 0] S512x2048.size inb_S1024x2048_S512x2048_512_0))
        (View.ld bg (Rect.unit (s := S1x1x2048) ![0, 0, 0] S1x1x2048.size inb_S1x1x2048_S1x1x2048_0_0_0)))
      (k0_pay8 n (View.ld x (Rect.unit (s := S256x640) ![0, 0] S256x512.size inb_S256x640_S256x512_0_0))
        (View.ld gu (Rect.unit (s := S1024x2048) ![0, 0] S512x2048.size inb_S1024x2048_S512x2048_0_0))
        (View.ld gu (Rect.unit (s := S1024x2048) ![512, 0] S512x2048.size inb_S1024x2048_S512x2048_512_0))
        (View.ld bg (Rect.unit (s := S1x1x2048) ![0, 0, 0] S1x1x2048.size inb_S1x1x2048_S1x1x2048_0_0_0)))
      (k0_pay9 (F := F))
      (View.ld dn (Rect.unit (s := S1024x1024) ![0, 0] S1024x1024.size inb_S1024x1024_S1024x1024_0_0))
      (View.ld bd (Rect.unit (s := S1x1x1024) ![0, 0, 0] S1x1x1024.size inb_S1x1x1024_S1x1x1024_0_0_0))
  else k0_pay4 (F := F)

/-! ## The end of a point: the row block's expert -/

/-- The body from its read of the live rows' count on. -/
def tailProg (i : grid0.Coords) (a4 : Memref sig .tc .vmem S256x640 .i32) (h4 : a4.IsWhole) (a5 : Memref sig .tc .vmem S1x1x2048 .f32) (h5 : a5.IsWhole)
    (a6 : Memref sig .tc .vmem S1x1x1024 .f32) (h6 : a6.IsWhole) (a9 : Memref sig .tc .vmem S256x1024 .f32) (h9 : a9.IsWhole) :
    Prog (TpuEff nD τ sig (Elt F) Λ₀ .tc) PUnit := do
  let v15 : Elt F .i32 ← smemLoad mNv (Rect.unit (s := S349) (k0_off11 i) S1.size (k0_off11_inb i)) numel1_S1 rfl
  if k0_h4 : k0_cond4 v15 = 1#1 then do
    let ⟨v52, v63, v64, v65⟩ : Σ' (v52 : FVec F S256x1 .f32) (v63 : FVec F S256x2048 .f32) (v64 : FVec F S256x1024 .f32), FVec F S256x1024 .f32 ←
      k0_part1 i mBe (Memref.isWhole_whole _) mNv (Memref.isWhole_whole _) mNx (Memref.isWhole_whole _) a4 h4 a5 h5 a6 h6
        mGu (Memref.isWhole_whole _) mDn (Memref.isWhole_whole _) a9 h9 sGu (Memref.isWhole_whole _) sDn (Memref.isWhole_whole _)
        cGu (Memref.isWhole_whole _) cDn (Memref.isWhole_whole _) cc0_scratch4 (BitVec.ofNat 32 (i 0).val)
    let v80 : Vec F S1024x1024 .bf16 ← Prog.lift (.load cDn (Rect.unit (s := S1024x1024) ![0, 0] S1024x1024.size inb_S1024x1024_S1024x1024_0_0).toLoadRect (View.loadsAt_vmem h_S1024x1024))
    let v82 : Vec F S1x1x1024 .f32 ← Prog.lift (.load a6 (Rect.unit (s := S1x1x1024) ![0, 0, 0] S1x1x1024.size inb_S1x1x1024_S1x1x1024_0_0_0).toLoadRect (View.loadsAt_vmem h_S1x1x1024))
    let v88 : Vec F S256x1024 .f32 ← Prog.lift (.load a9 (Rect.unit (s := S256x1024) ![0, 0] S256x1024.size inb_S256x1024_S256x1024_0_0).toLoadRect (View.loadsAt_vmem h_S256x1024))
    Prog.lift (.store a9 (Rect.unit (s := S256x1024) ![0, 0] S256x1024.size inb_S256x1024_S256x1024_0_0) (k0_pay3 v52 v63 v64 v65 v80 v82) Finset.univ (View.stores_vmem_bits_univ h_S256x1024 rfl) (.inl rfl))
    pure ⟨⟩
  else do
    pure ⟨⟩
  let v20 : Elt F .i32 ← smemLoad mNv (Rect.unit (s := S349) (k0_off13 i) S1.size (k0_off13_inb i)) numel1_S1 rfl
  if k0_h5 : k0_cond5 v20 = 1#1 then do
    let v25 : Vec F S256x1024 .f32 ← Prog.lift (.load a9 (Rect.unit (s := S256x1024) ![0, 0] S256x1024.size inb_S256x1024_S256x1024_0_0).toLoadRect (View.loadsAt_vmem h_S256x1024))
    Prog.lift (.store a9 (Rect.unit (s := S256x1024) ![0, 0] S256x1024.size inb_S256x1024_S256x1024_0_0) (k0_pay4 (F := F)) Finset.univ (View.stores_vmem_bits_univ h_S256x1024 rfl) (.inl rfl))
    pure ⟨⟩
  else do
    pure ⟨⟩
  pure ⟨⟩

theorem cond3_iff (n : BitVec 32) : k0_cond3 n = 1#1 ↔ 0 ≤ n.toInt := by
  unfold k0_cond3; simp only [Scalar.cmpi, cmpi_sge_eq, Scalar.extui]
  by_cases h : 0 ≤ n.toInt <;> simp [h] <;> decide
theorem cond4_iff (n : BitVec 32) : k0_cond4 n = 1#1 ↔ 0 < n.toInt := by
  unfold k0_cond4; simp only [Scalar.cmpi, cmpi_sgt_eq, Scalar.extui]
  by_cases h : 0 < n.toInt <;> simp [h] <;> decide
theorem cond5_iff (n : BitVec 32) : k0_cond5 n = 1#1 ↔ n = 0#32 := by
  unfold k0_cond5; simp only [Scalar.cmpi, cmpi_eq_eq, Scalar.extui]
  by_cases h : n = 0#32 <;> simp [h] <;> decide
theorem coord_lt (i : grid0.Coords) : (i 0).val < 2 ^ 32 := lt_trans (i 0).isLt (by decide)
theorem cond1_iff (i : grid0.Coords) : k0_cond1 i = 1#1 ↔ (i 0).val = 0 := by
  unfold k0_cond1; simp only [Scalar.cmpi, cmpi_eq_ofNat (coord_lt i) (by decide : 0 < 2 ^ 32), Scalar.extui]
  by_cases h : (i 0).val = 0 <;> simp [h] <;> decide
theorem cond2_iff (i : grid0.Coords) (a b : BitVec 32) : k0_cond2 i a b = 1#1 ↔ (i 0).val = 0 ∨ b ≠ a := by
  unfold k0_cond2; simp only [Scalar.cmpi, cmpi_eq_ofNat (coord_lt i) (by decide : 0 < 2 ^ 32), cmpi_ne_eq, Scalar.ori, ori_ofBool, Scalar.extui]
  by_cases h : (i 0).val = 0 <;> by_cases h' : b = a <;> simp [h, h'] <;> decide

theorem cond5_of_not_cond4 (n : BitVec 32) (h : 0 ≤ n.toInt) (h4 : ¬ k0_cond4 n = 1#1) : k0_cond5 n = 1#1 := by
  rw [cond4_iff] at h4; rw [cond5_iff]
  exact BitVec.eq_of_toInt_eq (by rw [BitVec.toInt_zero]; omega)
theorem not_cond5_of_cond4 (n : BitVec 32) (h4 : k0_cond4 n = 1#1) : ¬ k0_cond5 n = 1#1 := by
  rw [cond4_iff] at h4; rw [cond5_iff]; rintro rfl; simp at h4

theorem tail_run (c : Dev nD) (i : grid0.Coords) (a4 : Memref sig .tc .vmem S256x640 .i32) (h4 : a4.IsWhole) (a5 : Memref sig .tc .vmem S1x1x2048 .f32) (h5 : a5.IsWhole)
    (a6 : Memref sig .tc .vmem S1x1x1024 .f32) (h6 : a6.IsWhole) (a9 : Memref sig .tc .vmem S256x1024 .f32) (h9 : a9.IsWhole)
    (nv : Buf (Elt F) (mNv.view.loc (c : Thread nD τ))) (x : S256x640.Idx → Elt F .i32) (bg : S1x1x2048.Idx → Elt F .f32) (bd : S1x1x1024.Idx → Elt F .f32)
    (X : S1024x2048.Idx → Elt F .bf16) (Y : S1024x1024.Idx → Elt F .bf16)
    (hv : 0 ≤ (word c mNv nv (k0_off11 i) (k0_off11_inb i)).toInt) (K : PUnit → sProp 𝕄) :
    iprop(owns (c : Thread nD τ) a4 fullShare x ∗ owns (c : Thread nD τ) a5 fullShare bg ∗ owns (c : Thread nD τ) a6 fullShare bd
        ∗ (∃ d, owns (c : Thread nD τ) a9 fullShare d) ∗ tab c mNv nv ∗ kept c X Y
        ∗ ((owns (c : Thread nD τ) a4 fullShare x ∗ owns (c : Thread nD τ) a5 fullShare bg ∗ owns (c : Thread nD τ) a6 fullShare bd
            ∗ owns (c : Thread nD τ) a9 fullShare (blk (word c mNv nv (k0_off11 i) (k0_off11_inb i)) x bg bd X Y) ∗ tab c mNv nv ∗ kept c X Y) -∗ K ⟨⟩))
      ⊢ wp frame (wpE (defs₀ (F := F)) Variants.none (c : Thread nD τ) none) Set.univ (tailProg i a4 h4 a5 h5 a6 h6 a9 h9) K := by
  unfold kept owns tailProg
  iintro ⟨⟨%e4, %E4, H4⟩, ⟨%e5, %E5, H5⟩, ⟨%e6, %E6, H6⟩, ⟨%d9, %e9, -, H9⟩, Hnv, ⟨⟨%f2, %E2, Hg2⟩, ⟨%f3, %E3, Hg3⟩⟩, Hk⟩
  subst E4 E5 E6 E2 E3
  by_cases hc4 : k0_cond4 (word c mNv nv (k0_off11 i) (k0_off11_inb i)) = 1#1
  · have hc5 : ¬ k0_cond5 (word c mNv nv (k0_off13 i) (k0_off13_inb i)) = 1#1 := not_cond5_of_cond4 _ hc4
    sl_exec (disch := first | sl_exact hc4 | sl_exact hc5)
    sl_step
    iapply Hk
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H9]
    · iexists _; isplitr
      swap; · iexact H9
      ipureintro
      rw [View.read_writes_full]
      unfold blk
      rw [if_pos hc4]
      rfl
    isplitl [Hnv]; · iexact Hnv
    isplitl [Hg2]; · iexists _; isplitr; · ipureintro; rfl
                     iexact Hg2
    iexists _; isplitr; · ipureintro; rfl
    iexact Hg3
  · have hc5 : k0_cond5 (word c mNv nv (k0_off13 i) (k0_off13_inb i)) = 1#1 := cond5_of_not_cond4 _ hv hc4
    sl_exec (disch := first | sl_exact hc4 | sl_exact hc5)
    sl_step
    iapply Hk
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H9]
    · iexists _; isplitr
      swap; · iexact H9
      ipureintro
      rw [View.read_writes_full]
      unfold blk
      rw [if_neg hc4]
    isplitl [Hnv]; · iexact Hnv
    isplitl [Hg2]; · iexists _; isplitr; · ipureintro; rfl
                     iexact Hg2
    iexists _; isplitr; · ipureintro; rfl
    iexact Hg3

end Cert.KernelIdeal.Hand

end
-- ==== Proof.Heads.lean ====
/- The three ways a grid point of the expert kernel begins. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The windows' staging buffers before a point. -/
abbrev wins (c : Dev nD) (a4 : Memref sig .tc .vmem S256x640 .i32) (a5 : Memref sig .tc .vmem S1x1x2048 .f32) (a6 : Memref sig .tc .vmem S1x1x1024 .f32)
    (a9 : Memref sig .tc .vmem S256x1024 .f32) (x : S256x640.Idx → Elt F .i32) (bg : S1x1x2048.Idx → Elt F .f32) (bd : S1x1x1024.Idx → Elt F .f32) : sProp 𝕄 :=
  iprop(owns (c : Thread nD τ) a4 fullShare x ∗ owns (c : Thread nD τ) a5 fullShare bg ∗ owns (c : Thread nD τ) a6 fullShare bd
        ∗ (∃ d, owns (c : Thread nD τ) a9 fullShare d))
/-- And after it. -/
abbrev winsOut (c : Dev nD) (a4 : Memref sig .tc .vmem S256x640 .i32) (a5 : Memref sig .tc .vmem S1x1x2048 .f32) (a6 : Memref sig .tc .vmem S1x1x1024 .f32)
    (a9 : Memref sig .tc .vmem S256x1024 .f32) (x : S256x640.Idx → Elt F .i32) (bg : S1x1x2048.Idx → Elt F .f32) (bd : S1x1x1024.Idx → Elt F .f32)
    (y : S256x1024.Idx → Elt F .f32) : sProp 𝕄 :=
  iprop(owns (c : Thread nD τ) a4 fullShare x ∗ owns (c : Thread nD τ) a5 fullShare bg ∗ owns (c : Thread nD τ) a6 fullShare bd
        ∗ owns (c : Thread nD τ) a9 fullShare y)

/-- A table set aside while the head of a point runs. -/
def aside (P : sProp 𝕄) : sProp 𝕄 := P

theorem cond3_of_lt (n : BitVec 32) (h : n.toNat < 64) : k0_cond3 n = 1#1 := by
  rw [cond3_iff, BitVec.toInt_eq_toNat_of_lt (by omega)]; omega

/-- Expert `n`'s slabs rounded to the weight buffers' format. -/
abbrev rGu (w0 : S64x1024x2048.Idx → Elt F .f32) (n : BitVec 32) (h : n.toNat < 64) : S1024x2048.Idx → Elt F .bf16 :=
  k0_pay1 ((slabGu n h).view.read (Elt F) w0)
abbrev rDn (w2 : S64x1024x1024.Idx → Elt F .f32) (n : BitVec 32) (h : n.toNat < 64) : S1024x1024.Idx → Elt F .bf16 :=
  k0_pay2 ((slabDn n h).view.read (Elt F) w2)

/-- A staging buffer's contents after a slab landed, read, rounded and stored, are the slab rounded. -/
theorem read_gu (c : Dev nD) (g2 : Buf (Elt F) (cGu.view.loc (c : Thread nD τ))) (g0 : Buf (Elt F) (sGu.view.loc (c : Thread nD τ))) (S : S1024x2048.Idx → Elt F .f32) :
    cGu.view.read (Elt F) (cGu.view.writes (Elt F) g2 [⟨Rect.unit (s := S1024x2048) ![0, 0] S1024x2048.size inb_S1024x2048_S1024x2048_0_0,
        k0_pay1 (View.readAt (Elt F) sGu.view (Rect.unit (s := S1024x2048) ![0, 0] S1024x2048.size inb_S1024x2048_S1024x2048_0_0).toLoadRect
          (View.write (Elt F) sGu.view g0 S Finset.univ))⟩]) = k0_pay1 S := by
  rw [View.read_writes_full, View.readAt_full, View.read_write_univ]
theorem read_dn (c : Dev nD) (g3 : Buf (Elt F) (cDn.view.loc (c : Thread nD τ))) (g1 : Buf (Elt F) (sDn.view.loc (c : Thread nD τ))) (S : S1024x1024.Idx → Elt F .f32) :
    cDn.view.read (Elt F) (cDn.view.writes (Elt F) g3 [⟨Rect.unit (s := S1024x1024) ![0, 0] S1024x1024.size inb_S1024x1024_S1024x1024_0_0,
        k0_pay2 (View.readAt (Elt F) sDn.view (Rect.unit (s := S1024x1024) ![0, 0] S1024x1024.size inb_S1024x1024_S1024x1024_0_0).toLoadRect
          (View.write (Elt F) sDn.view g1 S Finset.univ))⟩]) = k0_pay2 S := by
  rw [View.read_writes_full, View.readAt_full, View.read_write_univ]
theorem own_gu (c : Dev nD) (G : Buf (Elt F) (cGu.view.loc (c : Thread nD τ))) (X : S1024x2048.Idx → Elt F .bf16) (h : cGu.view.read (Elt F) G = X) :
    iprop(cGu.view.loc (c : Thread nD τ) ↦{fullShare} G) ⊢ (owns (c : Thread nD τ) cGu fullShare X : sProp 𝕄) := by
  subst h; exact (Entails.of_eq (owns_whole (c : Thread nD τ) cc0_scratch2 fullShare G).symm)
theorem own_dn (c : Dev nD) (G : Buf (Elt F) (cDn.view.loc (c : Thread nD τ))) (X : S1024x1024.Idx → Elt F .bf16) (h : cDn.view.read (Elt F) G = X) :
    iprop(cDn.view.loc (c : Thread nD τ) ↦{fullShare} G) ⊢ (owns (c : Thread nD τ) cDn fullShare X : sProp 𝕄) := by
  subst h; exact (Entails.of_eq (owns_whole (c : Thread nD τ) cc0_scratch3 fullShare G).symm)

section
variable (c : Dev nD) (i : grid0.Coords) (a4 : Memref sig .tc .vmem S256x640 .i32) (h4 : a4.IsWhole) (a5 : Memref sig .tc .vmem S1x1x2048 .f32) (h5 : a5.IsWhole)
    (a6 : Memref sig .tc .vmem S1x1x1024 .f32) (h6 : a6.IsWhole) (a9 : Memref sig .tc .vmem S256x1024 .f32) (h9 : a9.IsWhole)
    (be : Buf (Elt F) (mBe.view.loc (c : Thread nD τ))) (nv : Buf (Elt F) (mNv.view.loc (c : Thread nD τ))) (nx : Buf (Elt F) (mNx.view.loc (c : Thread nD τ)))
    (w0 : Buf (Elt F) (mGu.view.loc (c : Thread nD τ))) (w2 : Buf (Elt F) (mDn.view.loc (c : Thread nD τ)))
    (x : S256x640.Idx → Elt F .i32) (bg : S1x1x2048.Idx → Elt F .f32) (bd : S1x1x1024.Idx → Elt F .f32)

theorem run_same (hb : (word c mBe be (k0_off1 i) (k0_off1_inb i)).toNat < 64)
    (hc1 : ¬ k0_cond1 i = 1#1)
    (hc2 : ¬ k0_cond2 i (word c mBe be (k0_off1 i) (k0_off1_inb i)) (word c mBe be (k0_off2 i) (k0_off2_inb i)) = 1#1)
    (hv : 0 ≤ (word c mNv nv (k0_off11 i) (k0_off11_inb i)).toInt)
    (X : S1024x2048.Idx → Elt F .bf16) (Y : S1024x1024.Idx → Elt F .bf16) (K : PUnit → sProp 𝕄) :
    iprop(wins c a4 a5 a6 a9 x bg bd ∗ tab c mBe be ∗ tab c mNv nv ∗ tab c mNx nx ∗ kept c X Y
        ∗ ((winsOut c a4 a5 a6 a9 x bg bd (blk (word c mNv nv (k0_off11 i) (k0_off11_inb i)) x bg bd X Y)
            ∗ tab c mBe be ∗ tab c mNv nv ∗ tab c mNx nx ∗ kept c X Y) -∗ K ⟨⟩))
      ⊢ wp frame (wpE (defs₀ (F := F)) Variants.none (c : Thread nD τ) none) Set.univ (bodyAt i a4 h4 a5 h5 a6 h6 a9 h9) K := by
  unfold bodyAt
  rw [cc0_experts_eq_skeleton]
  unfold cc0_experts_skel wins winsOut
  rw [show tab c mNv nv = aside (tab c mNv nv) from rfl]
  iintro ⟨⟨H4, H5, H6, H9⟩, Hbe, Hnv, Hnx, Hk, HK⟩
  have hk1 := chk1_of i _ hb
  have hk2 := chk2_of i _ (word c mBe be (k0_off2 i) (k0_off2_inb i)) hb
  sl_exec (disch := first | sl_exact hk1 | sl_exact hk2 | sl_exact hc1 | sl_exact hc2)
  have ht := tail_run c i a4 h4 a5 h5 a6 h6 a9 h9 nv x bg bd X Y hv K
  unfold tailProg at ht
  rw [wp_bind] at ht
  unfold aside
  iapply ht
  isplitl [H4]; · iexact H4
  isplitl [H5]; · iexact H5
  isplitl [H6]; · iexact H6
  isplitl [H9]; · iexact H9
  isplitl [Hnv]; · iexact Hnv
  isplitl [Hk]; · iexact Hk
  iintro ⟨H4, H5, H6, H9, Hnv, Hk⟩
  iapply HK
  isplitl [H4 H5 H6 H9]
  · isplitl [H4]; · iexact H4
    isplitl [H5]; · iexact H5
    isplitl [H6]; · iexact H6
    iexact H9
  isplitl [Hbe]; · iexact Hbe
  isplitl [Hnv]; · iexact Hnv
  isplitl [Hnx]; · iexact Hnx
  iexact Hk

theorem run_first (hb : (word c mBe be (k0_off1 i) (k0_off1_inb i)).toNat < 64)
    (hc1 : k0_cond1 i = 1#1)
    (hc2 : k0_cond2 i (word c mBe be (k0_off1 i) (k0_off1_inb i)) (word c mBe be (k0_off2 i) (k0_off2_inb i)) = 1#1)
    (hx : (word c mNx nx (k0_off8 i) (k0_off8_inb i)).toNat < 64 ∨ word c mNx nx (k0_off8 i) (k0_off8_inb i) = 0xffffffff#32)
    (hv : 0 ≤ (word c mNv nv (k0_off11 i) (k0_off11_inb i)).toInt)
    (W : Waits sig Unit) (K : PUnit → sProp 𝕄) :
    iprop(wins c a4 a5 a6 a9 x bg bd ∗ tab c mBe be ∗ tab c mNv nv ∗ tab c mNx nx
        ∗ rest c w0 w2
        ∗ (∃ g : Buf (Elt F) (cGu.view.loc (c : Thread nD τ)), cGu.view.loc (c : Thread nD τ) ↦{fullShare} g)
        ∗ (∃ g : Buf (Elt F) (cDn.view.loc (c : Thread nD τ)), cDn.view.loc (c : Thread nD τ) ↦{fullShare} g)
        ∗ owes (c : Thread nD τ) 0 W
        ∗ ((winsOut c a4 a5 a6 a9 x bg bd (blk (word c mNv nv (k0_off11 i) (k0_off11_inb i)) x bg bd
              (rGu w0 _ hb) (rDn w2 _ hb))
            ∗ tab c mBe be ∗ tab c mNv nv ∗ tab c mNx nx ∗ ahead c w0 w2 (word c mNx nx (k0_off8 i) (k0_off8_inb i))
            ∗ kept c (rGu w0 _ hb) (rDn w2 _ hb) ∗ (∃ W', owes (c : Thread nD τ) 0 W')) -∗ K ⟨⟩))
      ⊢ wp frame (wpE (defs₀ (F := F)) Variants.none (c : Thread nD τ) none) Set.univ (bodyAt i a4 h4 a5 h5 a6 h6 a9 h9) K := by
  unfold bodyAt
  rw [cc0_experts_eq_skeleton]
  unfold cc0_experts_skel wins winsOut
  rw [show tab c mNv nv = aside (tab c mNv nv) from rfl]
  unfold rest
  iintro ⟨⟨H4, H5, H6, H9⟩, Hbe, Hnv, Hnx, ⟨⟨%g0, Hg0⟩, ⟨%g1, Hg1⟩, Hs0, Hs1, Hw0, Hw2⟩, ⟨%g2, Hg2⟩, ⟨%g3, Hg3⟩, HO, HK⟩
  have hk1 := chk1_of i _ hb
  have hk2 := chk2_of i _ (word c mBe be (k0_off2 i) (k0_off2_inb i)) hb
  rcases hx with hx | hx
  · have hk3 := chk3_of i (word c mBe be (k0_off1 i) (k0_off1_inb i)) (word c mBe be (k0_off2 i) (k0_off2_inb i)) (word c mNx nx (k0_off7 i) (k0_off7_inb i)) _ hx
    have hc3 : k0_cond3 (word c mNx nx (k0_off7 i) (k0_off7_inb i)) = 1#1 := cond3_of_lt _ hx
    sl_exec (disch := first | sl_exact hk1 | sl_exact hk2 | sl_exact hk3 | sl_exact hc1 | sl_exact hc2 | sl_exact hc3)
    have ht := tail_run c i a4 h4 a5 h5 a6 h6 a9 h9 nv x bg bd (rGu w0 _ hb) (rDn w2 _ hb) hv K
    unfold tailProg at ht
    rw [wp_bind] at ht
    unfold aside
    iapply ht
    isplitl [H4]; · iexact H4
    isplitl [H5]; · iexact H5
    isplitl [H6]; · iexact H6
    isplitl [H9]; · iexact H9
    isplitl [Hnv]; · iexact Hnv
    isplitl [Hg2 Hg3]
    · unfold kept
      isplitl [Hg2]
      · iapply (own_gu c _ _ (read_gu c g2 g0 _)); iexact Hg2
      · iapply (own_dn c _ _ (read_dn c g3 g1 _)); iexact Hg3
    iintro ⟨H4, H5, H6, H9, Hnv, Hk⟩
    iapply HK
    isplitl [H4 H5 H6 H9]
    · isplitl [H4]; · iexact H4
      isplitl [H5]; · iexact H5
      isplitl [H6]; · iexact H6
      iexact H9
    isplitl [Hbe]; · iexact Hbe
    isplitl [Hnv]; · iexact Hnv
    isplitl [Hnx]; · iexact Hnx
    isplitl [Hs0 Hs1 Hw0 Hw2]
    · unfold ahead
      rw [dif_pos hx]
      unfold coming
      isplitl [Hs0]; · iexists _; iexact Hs0
      isplitl [Hs1]; · iexists _; iexact Hs1
      isplitl [Hw0]; · iexact Hw0
      iexact Hw2
    isplitl [Hk]; · iexact Hk
    iexists _; iexact HO
  · have hc3 : ¬ k0_cond3 (word c mNx nx (k0_off7 i) (k0_off7_inb i)) = 1#1 := by
      rw [show word c mNx nx (k0_off7 i) (k0_off7_inb i) = 0xffffffff#32 from hx]; decide
    sl_exec (disch := first | sl_exact hk1 | sl_exact hk2 | sl_exact hc1 | sl_exact hc2 | sl_exact hc3)
    have ht := tail_run c i a4 h4 a5 h5 a6 h6 a9 h9 nv x bg bd (rGu w0 _ hb) (rDn w2 _ hb) hv K
    unfold tailProg at ht
    rw [wp_bind] at ht
    unfold aside
    iapply ht
    isplitl [H4]; · iexact H4
    isplitl [H5]; · iexact H5
    isplitl [H6]; · iexact H6
    isplitl [H9]; · iexact H9
    isplitl [Hnv]; · iexact Hnv
    isplitl [Hg2 Hg3]
    · unfold kept
      isplitl [Hg2]
      · iapply (own_gu c _ _ (read_gu c g2 g0 _)); iexact Hg2
      · iapply (own_dn c _ _ (read_dn c g3 g1 _)); iexact Hg3
    iintro ⟨H4, H5, H6, H9, Hnv, Hk⟩
    iapply HK
    isplitl [H4 H5 H6 H9]
    · isplitl [H4]; · iexact H4
      isplitl [H5]; · iexact H5
      isplitl [H6]; · iexact H6
      iexact H9
    isplitl [Hbe]; · iexact Hbe
    isplitl [Hnv]; · iexact Hnv
    isplitl [Hnx]; · iexact Hnx
    isplitl [Hs0 Hs1 Hw0 Hw2 Hg0 Hg1]
    · unfold ahead
      rw [hx, dif_neg (by decide)]
      unfold rest
      isplitl [Hg0]; · iexists _; iexact Hg0
      isplitl [Hg1]; · iexists _; iexact Hg1
      isplitl [Hs0]; · iexact Hs0
      isplitl [Hs1]; · iexact Hs1
      isplitl [Hw0]; · iexact Hw0
      iexact Hw2
    isplitl [Hk]; · iexact Hk
    iexists _; iexact HO

theorem run_change (hb : (word c mBe be (k0_off1 i) (k0_off1_inb i)).toNat < 64)
    (hc1 : ¬ k0_cond1 i = 1#1)
    (hc2 : k0_cond2 i (word c mBe be (k0_off1 i) (k0_off1_inb i)) (word c mBe be (k0_off2 i) (k0_off2_inb i)) = 1#1)
    (hx : (word c mNx nx (k0_off8 i) (k0_off8_inb i)).toNat < 64 ∨ word c mNx nx (k0_off8 i) (k0_off8_inb i) = 0xffffffff#32)
    (hv : 0 ≤ (word c mNv nv (k0_off11 i) (k0_off11_inb i)).toInt)
    (W : Waits sig Unit) (K : PUnit → sProp 𝕄) :
    iprop(wins c a4 a5 a6 a9 x bg bd ∗ tab c mBe be ∗ tab c mNv nv ∗ tab c mNx nx
        ∗ coming c w0 w2 _ hb
        ∗ (∃ g : Buf (Elt F) (cGu.view.loc (c : Thread nD τ)), cGu.view.loc (c : Thread nD τ) ↦{fullShare} g)
        ∗ (∃ g : Buf (Elt F) (cDn.view.loc (c : Thread nD τ)), cDn.view.loc (c : Thread nD τ) ↦{fullShare} g)
        ∗ owes (c : Thread nD τ) 0 W
        ∗ ((winsOut c a4 a5 a6 a9 x bg bd (blk (word c mNv nv (k0_off11 i) (k0_off11_inb i)) x bg bd
              (rGu w0 _ hb) (rDn w2 _ hb))
            ∗ tab c mBe be ∗ tab c mNv nv ∗ tab c mNx nx ∗ ahead c w0 w2 (word c mNx nx (k0_off8 i) (k0_off8_inb i))
            ∗ kept c (rGu w0 _ hb) (rDn w2 _ hb) ∗ (∃ W', owes (c : Thread nD τ) 0 W')) -∗ K ⟨⟩))
      ⊢ wp frame (wpE (defs₀ (F := F)) Variants.none (c : Thread nD τ) none) Set.univ (bodyAt i a4 h4 a5 h5 a6 h6 a9 h9) K := by
  unfold bodyAt
  rw [cc0_experts_eq_skeleton]
  unfold cc0_experts_skel wins winsOut
  rw [show tab c mNv nv = aside (tab c mNv nv) from rfl]
  unfold coming
  iintro ⟨⟨H4, H5, H6, H9⟩, Hbe, Hnv, Hnx, ⟨⟨%g0, Hs0⟩, ⟨%g1, Hs1⟩, Hw0, Hw2⟩, ⟨%g2, Hg2⟩, ⟨%g3, Hg3⟩, HO, HK⟩
  have hk1 := chk1_of i _ hb
  have hk2 := chk2_of i _ (word c mBe be (k0_off2 i) (k0_off2_inb i)) hb
  rcases hx with hx | hx
  · have hk3 := chk3_of i (word c mBe be (k0_off1 i) (k0_off1_inb i)) (word c mBe be (k0_off2 i) (k0_off2_inb i)) (word c mNx nx (k0_off7 i) (k0_off7_inb i)) _ hx
    have hc3 : k0_cond3 (word c mNx nx (k0_off7 i) (k0_off7_inb i)) = 1#1 := cond3_of_lt _ hx
    sl_exec (disch := first | sl_exact hk1 | sl_exact hk2 | sl_exact hk3 | sl_exact hc1 | sl_exact hc2 | sl_exact hc3)
    have ht := tail_run c i a4 h4 a5 h5 a6 h6 a9 h9 nv x bg bd (rGu w0 _ hb) (rDn w2 _ hb) hv K
    unfold tailProg at ht
    rw [wp_bind] at ht
    unfold aside
    iapply ht
    isplitl [H4]; · iexact H4
    isplitl [H5]; · iexact H5
    isplitl [H6]; · iexact H6
    isplitl [H9]; · iexact H9
    isplitl [Hnv]; · iexact Hnv
    isplitl [Hg2 Hg3]
    · unfold kept
      isplitl [Hg2]
      · iapply (own_gu c _ _ (read_gu c g2 g0 _)); iexact Hg2
      · iapply (own_dn c _ _ (read_dn c g3 g1 _)); iexact Hg3
    iintro ⟨H4, H5, H6, H9, Hnv, Hk⟩
    iapply HK
    isplitl [H4 H5 H6 H9]
    · isplitl [H4]; · iexact H4
      isplitl [H5]; · iexact H5
      isplitl [H6]; · iexact H6
      iexact H9
    isplitl [Hbe]; · iexact Hbe
    isplitl [Hnv]; · iexact Hnv
    isplitl [Hnx]; · iexact Hnx
    isplitl [Hs0 Hs1 Hw0 Hw2]
    · unfold ahead
      rw [dif_pos hx]
      unfold coming
      isplitl [Hs0]; · iexists _; iexact Hs0
      isplitl [Hs1]; · iexists _; iexact Hs1
      isplitl [Hw0]; · iexact Hw0
      iexact Hw2
    isplitl [Hk]; · iexact Hk
    iexists _; iexact HO
  · have hc3 : ¬ k0_cond3 (word c mNx nx (k0_off7 i) (k0_off7_inb i)) = 1#1 := by
      rw [show word c mNx nx (k0_off7 i) (k0_off7_inb i) = 0xffffffff#32 from hx]; decide
    sl_exec (disch := first | sl_exact hk1 | sl_exact hk2 | sl_exact hc1 | sl_exact hc2 | sl_exact hc3)
    have ht := tail_run c i a4 h4 a5 h5 a6 h6 a9 h9 nv x bg bd (rGu w0 _ hb) (rDn w2 _ hb) hv K
    unfold tailProg at ht
    rw [wp_bind] at ht
    unfold aside
    iapply ht
    isplitl [H4]; · iexact H4
    isplitl [H5]; · iexact H5
    isplitl [H6]; · iexact H6
    isplitl [H9]; · iexact H9
    isplitl [Hnv]; · iexact Hnv
    isplitl [Hg2 Hg3]
    · unfold kept
      isplitl [Hg2]
      · iapply (own_gu c _ _ (read_gu c g2 g0 _)); iexact Hg2
      · iapply (own_dn c _ _ (read_dn c g3 g1 _)); iexact Hg3
    iintro ⟨H4, H5, H6, H9, Hnv, Hk⟩
    iapply HK
    isplitl [H4 H5 H6 H9]
    · isplitl [H4]; · iexact H4
      isplitl [H5]; · iexact H5
      isplitl [H6]; · iexact H6
      iexact H9
    isplitl [Hbe]; · iexact Hbe
    isplitl [Hnv]; · iexact Hnv
    isplitl [Hnx]; · iexact Hnx
    isplitl [Hs0 Hs1 Hw0 Hw2 Hs0_dst Hs1_dst]
    · unfold ahead
      rw [hx, dif_neg (by decide)]
      unfold rest
      isplitl [Hs0_dst]; · iexists _; iexact Hs0_dst
      isplitl [Hs1_dst]; · iexists _; iexact Hs1_dst
      isplitl [Hs0]; · iexact Hs0
      isplitl [Hs1]; · iexact Hs1
      isplitl [Hw0]; · iexact Hw0
      iexact Hw2
    isplitl [Hk]; · iexact Hk
    iexists _; iexact HO

end

end Cert.KernelIdeal.Hand

end
-- ==== Proof.Sched.lean ====
/- What the tables say of the grid's points, and the words the body and the index maps read of them. -/
module

public import proofs.«01_k».proof.Proof.Heads

@[expose] public section

noncomputable section

namespace Cert.KernelIdeal.Hand

open Cert.KernelIdeal Cert.KernelIdeal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Entry `t` of a table. -/
def J (t : Nat) (h : t < 349) : S349.Idx := fun a => ⟨t, by fin_cases a; exact h⟩

theorem J_ext (x : S349.Idx) (t : Nat) (h : t < 349) (e : (x 0).val = t) : x = J t h := by
  funext a
  have : a = (0 : Fin 1) := Subsingleton.elim a (0 : Fin 1)
  subst this
  exact Fin.ext e

/-- What the precondition says of the three tables: the expert of each row block is one of the 64, no block has a
    negative number of live rows, and at each block the next table names the expert of the next block if that is
    another one, else what it names there; after the last block there is no next expert. -/
structure Sched (be nv nx : S349.Idx → BitVec 32) : Prop where
  be_lt : ∀ t h, (be (J t h)).toNat < 64
  nv_nonneg : ∀ t h, 0 ≤ (nv (J t h)).toInt
  nx_of : ∀ t (h : t + 1 < 349), be (J (t + 1) h) ≠ be (J t (by omega)) → nx (J t (by omega)) = be (J (t + 1) h)
  nx_same : ∀ t (h : t + 1 < 349), be (J (t + 1) h) = be (J t (by omega)) → nx (J t (by omega)) = nx (J (t + 1) h)
  nx_last : nx (J 348 (by omega)) = 0xffffffff#32

theorem Sched.nx_some {be nv nx : S349.Idx → BitVec 32} (S : Sched be nv nx) (t : Nat) (h : t < 349) :
    (nx (J t h)).toNat < 64 ∨ nx (J t h) = 0xffffffff#32 := by
  obtain ⟨k, hk⟩ : ∃ k, t + k = 348 := ⟨348 - t, by omega⟩
  induction k generalizing t with
  | zero => obtain rfl : t = 348 := by omega
            exact .inr S.nx_last
  | succ k ih =>
    by_cases e : be (J (t + 1) (by omega)) = be (J t h)
    · rw [S.nx_same t (by omega) e]; exact ih (t + 1) (by omega) (by omega)
    · rw [S.nx_of t (by omega) e]; exact .inl (S.be_lt _ _)

theorem coords_eq (t : Fin grid0.N) : ((grid0.coords t) 0).val = t.val := by
  rw [Pipeline.Grid.coords_val t 0 (S := 1) (B := 349) (by decide) rfl]
  have := lt_of_lt_of_eq t.isLt N_0; omega

/-- A scalar load's word at an offset that is a point's number. -/
theorem word_eq (c : Dev nD) (M : Memref sig .tc .smem S349 .i32) (f : Buf (Elt F) (M.view.loc (c : Thread nD τ))) (o : Fin 1 → Nat)
    (h : ∀ a, o a + S1.size a ≤ S349.size a) (t : Nat) (ht : t < 349) (ho : o = ![t]) :
    word c M f o h = M.view.read (Elt F) f (J t ht) := by
  subst ho
  unfold word View.readAt
  congr 1
  funext a; fin_cases a
  apply Fin.ext
  simp [J, Rect.toLoadRect, LoadRect.idx, Rect.unit, Shape.Idx.first]

theorem coord_lt' (i : grid0.Coords) : (i 0).val < 349 := (i 0).isLt

theorem off2_eq (i : grid0.Coords) (h : (i 0).val ≠ 0) : k0_off2 i = ![(i 0).val - 1] := by
  have r_i0 : (i 0).val < 349 := (i 0).isLt
  have h_arg0 : Affine.IsInt (BitVec.ofNat 32 (i 0).val) (((i 0).val : Int)) := Affine.ofNat _ (by omega)
  have h_c1_i32 : Affine.IsInt 1#32 (1) := Affine.ofNat _ (by omega)
  have h_v3 : Affine.IsInt _ (((i 0).val : Int) - 1) := Affine.subi h_arg0 h_c1_i32 (by omega)
  have h_c0_i32_0 : Affine.IsInt 0#32 (0) := Affine.ofNat _ (by omega)
  have h_v4 : Affine.IsInt _ ((max (((i 0).val : Int) - 1) 0)) := Affine.maxsi h_v3 h_c0_i32_0 (by omega)
  have h_v5 : Affine.IsInt _ ((max (((i 0).val : Int) - 1) 0)) := Affine.indexCast h_v4
  exact Affine.vec_cons h_v5 (by omega) <| Affine.vec_nil

/-- The block the index maps of the two bias windows read of the tables. -/
theorem transform_1_eq (pf : pre0.Contents (Elt F)) (i : grid0.Coords) :
    cc0_transform_1 k0_off1_inb numel1_S1 pf i = ![BitVec.toNat (pf 0 (J (i 0).val (coord_lt' i)) : BitVec 32), 0, 0] := by
  have e : pf.at 0 (Rect.unit (s := S349) (k0_off1 i) S1.size (k0_off1_inb i)) numel1_S1 = pf 0 (J (i 0).val (coord_lt' i)) := by
    refine congrArg (pf 0) (J_ext _ _ _ ?_)
    have := congrFun (k0_off1_eq i) 0
    simp [Rect.unit, Shape.Idx.first] at this ⊢
    exact this
  unfold cc0_transform_1
  simp only
  exact congrArg (fun w : BitVec 32 => ![w.toNat, 0, 0]) e
theorem transform_2_eq (pf : pre0.Contents (Elt F)) (i : grid0.Coords) :
    cc0_transform_2 k0_off1_inb numel1_S1 pf i = ![BitVec.toNat (pf 0 (J (i 0).val (coord_lt' i)) : BitVec 32), 0, 0] :=
  transform_1_eq pf i

/-- Tables naming experts admit the bias windows' blocks. -/
theorem ok_of (pf : pre0.Contents (Elt F)) (h : ∀ t ht, BitVec.toNat (pf 0 (J t ht) : BitVec 32) < 64) : ok0 pf := by
  refine ⟨fun i => ⟨fun a => ?_, .inl rfl⟩, fun i => ⟨fun a => ?_, .inl rfl⟩⟩
  · rw [transform_1_eq]; have := h _ (coord_lt' i); fin_cases a <;> simp <;> omega
  · rw [transform_2_eq]; have := h _ (coord_lt' i); fin_cases a <;> simp <;> omega

/-- No point leaves the result's window untouched. -/
theorem idle_of (pf : pre0.Contents (Elt F)) (h : ∀ t ht, 0 ≤ BitVec.toInt (pf 1 (J t ht) : BitVec 32)) (i : grid0.Coords) : idle0 pf 3 i = false := by
  have e : ∀ o : Fin 1 → Nat, o = ![(i 0).val] → pf.atD 1 o = pf 1 (J (i 0).val (coord_lt' i)) := by
    rintro o rfl
    unfold Pipeline.Prefetch.Contents.atD
    rw [dif_pos (fun a => by fin_cases a; exact coord_lt' i)]
    exact congrArg (pf 1) (J_ext _ _ _ rfl)
  show (!(k0_cond4 (pf.atD 1 (k0_off11 i)) == 1#1) && !(k0_cond5 (pf.atD 1 (k0_off13 i)) == 1#1)) = false
  rw [e _ (k0_off11_eq i), e _ (k0_off13_eq i)]
  by_cases hc : k0_cond4 (pf 1 (J (i 0).val (coord_lt' i))) = 1#1
  · simp [hc]
  · have := cond5_of_not_cond4 (pf 1 (J (i 0).val (coord_lt' i))) (h _ _) hc
    simp [this]

end Cert.KernelIdeal.Hand

end
-- ==== Proof.Step.lean ====
/- The whole run of the kernel: what it holds at every grid point, and what it leaves. -/
module

public import proofs.«01_k».proof.Proof.Sched

@[expose] public section

noncomputable section

namespace Cert.KernelIdeal.Hand

open Cert.KernelIdeal Cert.KernelIdeal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point from what is held before it to what is held after it -/

section
variable (c : Dev nD) (w0 : Buf (Elt F) (mGu.view.loc (c : Thread nD τ))) (w2 : Buf (Elt F) (mDn.view.loc (c : Thread nD τ)))

theorem rGu_congr {n n' : BitVec 32} (e : n = n') (h : n.toNat < 64) (h' : n'.toNat < 64) : rGu (F := F) w0 n h = rGu w0 n' h' := by subst e; rfl
theorem rDn_congr {n n' : BitVec 32} (e : n = n') (h : n.toNat < 64) (h' : n'.toNat < 64) : rDn (F := F) w2 n h = rDn w2 n' h' := by subst e; rfl
theorem coming_congr {n n' : BitVec 32} (e : n = n') (h : n.toNat < 64) (h' : n'.toNat < 64) : coming (F := F) c w0 w2 n h = coming c w0 w2 n' h' := by subst e; rfl

variable {be nv nx : S349.Idx → BitVec 32} (S : Sched be nv nx)

/-- What is held of the weights before point `t`: at the start everything at rest; later the slabs of the next expert on
    their way, and the slabs of the expert of the point before, rounded. -/
def held : (t : Nat) → t ≤ 349 → sProp 𝕄
  | 0, _ => iprop(rest c w0 w2
      ∗ (∃ g : Buf (Elt F) (cGu.view.loc (c : Thread nD τ)), cGu.view.loc (c : Thread nD τ) ↦{fullShare} g)
      ∗ (∃ g : Buf (Elt F) (cDn.view.loc (c : Thread nD τ)), cDn.view.loc (c : Thread nD τ) ↦{fullShare} g))
  | t + 1, h => iprop(ahead c w0 w2 (nx (J t h)) ∗ kept c (rGu w0 (be (J t h)) (S.be_lt t h)) (rDn w2 (be (J t h)) (S.be_lt t h)))

theorem held_zero (h) : held c w0 w2 S 0 h = iprop(rest c w0 w2
      ∗ (∃ g : Buf (Elt F) (cGu.view.loc (c : Thread nD τ)), cGu.view.loc (c : Thread nD τ) ↦{fullShare} g)
      ∗ (∃ g : Buf (Elt F) (cDn.view.loc (c : Thread nD τ)), cDn.view.loc (c : Thread nD τ) ↦{fullShare} g)) := rfl
theorem held_succ (t : Nat) (h : t + 1 ≤ 349) : held c w0 w2 S (t + 1) h
    = iprop(ahead c w0 w2 (nx (J t h)) ∗ kept c (rGu w0 (be (J t h)) (S.be_lt t h)) (rDn w2 (be (J t h)) (S.be_lt t h))) := rfl

theorem kept_open (X : S1024x2048.Idx → Elt F .bf16) (Y : S1024x1024.Idx → Elt F .bf16) :
    kept c X Y ⊢ iprop((∃ g : Buf (Elt F) (cGu.view.loc (c : Thread nD τ)), cGu.view.loc (c : Thread nD τ) ↦{fullShare} g)
      ∗ (∃ g : Buf (Elt F) (cDn.view.loc (c : Thread nD τ)), cDn.view.loc (c : Thread nD τ) ↦{fullShare} g)) := by
  unfold kept
  rw [owns_whole (c : Thread nD τ) cc0_scratch2, owns_whole (c : Thread nD τ) cc0_scratch3]
  iintro ⟨H1, H2⟩
  isplitl [H1]; · iexists _; iexact H1
  iexists _; iexact H2

end

section
variable (c : Dev nD) (a4 : Memref sig .tc .vmem S256x640 .i32) (h4 : a4.IsWhole) (a5 : Memref sig .tc .vmem S1x1x2048 .f32) (h5 : a5.IsWhole)
    (a6 : Memref sig .tc .vmem S1x1x1024 .f32) (h6 : a6.IsWhole) (a9 : Memref sig .tc .vmem S256x1024 .f32) (h9 : a9.IsWhole)
    (be : Buf (Elt F) (mBe.view.loc (c : Thread nD τ))) (nv : Buf (Elt F) (mNv.view.loc (c : Thread nD τ))) (nx : Buf (Elt F) (mNx.view.loc (c : Thread nD τ)))
    (w0 : Buf (Elt F) (mGu.view.loc (c : Thread nD τ))) (w2 : Buf (Elt F) (mDn.view.loc (c : Thread nD τ)))
    (x : S256x640.Idx → Elt F .i32) (bg : S1x1x2048.Idx → Elt F .f32) (bd : S1x1x1024.Idx → Elt F .f32)
    (S : Sched be nv nx)

theorem word_be (o : Fin 1 → Nat) (h) (t : Nat) (ht : t < 349) (ho : o = ![t]) : word c mBe be o h = be (J t ht) := word_eq c mBe be o h t ht ho
theorem word_nv (o : Fin 1 → Nat) (h) (t : Nat) (ht : t < 349) (ho : o = ![t]) : word c mNv nv o h = nv (J t ht) := word_eq c mNv nv o h t ht ho
theorem word_nx (o : Fin 1 → Nat) (h) (t : Nat) (ht : t < 349) (ho : o = ![t]) : word c mNx nx o h = nx (J t ht) := word_eq c mNx nx o h t ht ho

theorem step (i : grid0.Coords) (t : Nat) (hi : (i 0).val = t) (ht : t < 349) (W : Waits sig Unit) (K : PUnit → sProp 𝕄) :
    iprop(wins c a4 a5 a6 a9 x bg bd ∗ tab c mBe be ∗ tab c mNv nv ∗ tab c mNx nx
        ∗ held c w0 w2 S t (Nat.le_of_lt ht)
        ∗ owes (c : Thread nD τ) 0 W
        ∗ ((winsOut c a4 a5 a6 a9 x bg bd (blk (nv (J t ht)) x bg bd (rGu w0 (be (J t ht)) (S.be_lt t ht)) (rDn w2 (be (J t ht)) (S.be_lt t ht)))
            ∗ tab c mBe be ∗ tab c mNv nv ∗ tab c mNx nx
            ∗ held c w0 w2 S (t + 1) ht ∗ (∃ W', owes (c : Thread nD τ) 0 W')) -∗ K ⟨⟩))
      ⊢ wp frame (wpE (defs₀ (F := F)) Variants.none (c : Thread nD τ) none) Set.univ (bodyAt i a4 h4 a5 h5 a6 h6 a9 h9) K := by
  have e1 : word c mBe be (k0_off1 i) (k0_off1_inb i) = be (J t ht) := word_be c be _ _ t ht (by rw [k0_off1_eq, hi])
  have e8 : word c mNx nx (k0_off8 i) (k0_off8_inb i) = nx (J t ht) := word_nx c nx _ _ t ht (by rw [k0_off8_eq, hi])
  have e11 : word c mNv nv (k0_off11 i) (k0_off11_inb i) = nv (J t ht) := word_nv c nv _ _ t ht (by rw [k0_off11_eq, hi])
  have hb : (word c mBe be (k0_off1 i) (k0_off1_inb i)).toNat < 64 := by rw [e1]; exact S.be_lt t ht
  have hx : (word c mNx nx (k0_off8 i) (k0_off8_inb i)).toNat < 64 ∨ word c mNx nx (k0_off8 i) (k0_off8_inb i) = 0xffffffff#32 := by
    rw [e8]; exact S.nx_some t ht
  have hv : 0 ≤ (word c mNv nv (k0_off11 i) (k0_off11_inb i)).toInt := by rw [e11]; exact S.nv_nonneg t ht
  cases t with
  | zero =>
    have hc1 : k0_cond1 i = 1#1 := (cond1_iff i).mpr hi
    have hc2 := (cond2_iff i (word c mBe be (k0_off1 i) (k0_off1_inb i)) (word c mBe be (k0_off2 i) (k0_off2_inb i))).mpr (.inl hi)
    have h := run_first c i a4 h4 a5 h5 a6 h6 a9 h9 be nv nx w0 w2 x bg bd hb hc1 hc2 hx hv W K
    rw [rGu_congr c w0 e1 hb (S.be_lt 0 ht), rDn_congr c w2 e1 hb (S.be_lt 0 ht), e8, e11] at h
    rw [held_zero, held_succ]
    iintro ⟨Hw, Hbe, Hnv, Hnx, ⟨Hr, H2, H3⟩, HW, HK⟩
    iapply h
    isplitl [Hw]; · iexact Hw
    isplitl [Hbe]; · iexact Hbe
    isplitl [Hnv]; · iexact Hnv
    isplitl [Hnx]; · iexact Hnx
    isplitl [Hr]; · iexact Hr
    isplitl [H2]; · iexact H2
    isplitl [H3]; · iexact H3
    isplitl [HW]; · iexact HW
    iintro ⟨Hw, Hbe, Hnv, Hnx, Ha, Hk, HW⟩
    iapply HK
    isplitl [Hw]; · iexact Hw
    isplitl [Hbe]; · iexact Hbe
    isplitl [Hnv]; · iexact Hnv
    isplitl [Hnx]; · iexact Hnx
    isplitl [Ha Hk]
    · isplitl [Ha]; · iexact Ha
      iexact Hk
    iexact HW
  | succ t =>
    have hi0 : (i 0).val ≠ 0 := by omega
    have hc1 : ¬ k0_cond1 i = 1#1 := fun h => hi0 ((cond1_iff i).mp h)
    have e2 : word c mBe be (k0_off2 i) (k0_off2_inb i) = be (J t (by omega)) :=
      word_be c be _ _ t (by omega) (by rw [off2_eq i hi0, hi]; rfl)
    by_cases e : be (J (t + 1) ht) = be (J t (by omega))
    · have hc2 : ¬ k0_cond2 i (word c mBe be (k0_off1 i) (k0_off1_inb i)) (word c mBe be (k0_off2 i) (k0_off2_inb i)) = 1#1 := by
        rw [cond2_iff, e1, e2]; rintro (h | h)
        · exact hi0 h
        · exact h e.symm
      have h := run_same c i a4 h4 a5 h5 a6 h6 a9 h9 be nv nx x bg bd hb hc1 hc2 hv (rGu w0 (be (J (t + 1) ht)) (S.be_lt (t + 1) ht)) (rDn w2 (be (J (t + 1) ht)) (S.be_lt (t + 1) ht)) K
      rw [e11] at h
      rw [held_succ, held_succ, S.nx_same t ht e, ← rGu_congr c w0 e (S.be_lt _ ht) (S.be_lt _ _), ← rDn_congr c w2 e (S.be_lt _ ht) (S.be_lt _ _)]
      iintro ⟨Hw, Hbe, Hnv, Hnx, ⟨Ha, Hk⟩, HW, HK⟩
      iapply h
      isplitl [Hw]; · iexact Hw
      isplitl [Hbe]; · iexact Hbe
      isplitl [Hnv]; · iexact Hnv
      isplitl [Hnx]; · iexact Hnx
      isplitl [Hk]; · iexact Hk
      iintro ⟨Hw, Hbe, Hnv, Hnx, Hk⟩
      iapply HK
      isplitl [Hw]; · iexact Hw
      isplitl [Hbe]; · iexact Hbe
      isplitl [Hnv]; · iexact Hnv
      isplitl [Hnx]; · iexact Hnx
      isplitl [Ha Hk]
      · isplitl [Ha]; · iexact Ha
        iexact Hk
      iexists W; iexact HW
    · have hc2 : k0_cond2 i (word c mBe be (k0_off1 i) (k0_off1_inb i)) (word c mBe be (k0_off2 i) (k0_off2_inb i)) = 1#1 := by
        rw [cond2_iff, e1, e2]; exact .inr (fun h => e h.symm)
      have h := run_change c i a4 h4 a5 h5 a6 h6 a9 h9 be nv nx w0 w2 x bg bd hb hc1 hc2 hx hv W K
      rw [rGu_congr c w0 e1 hb (S.be_lt _ ht), rDn_congr c w2 e1 hb (S.be_lt _ ht), e8, e11, coming_congr c w0 w2 e1 hb (S.be_lt _ ht)] at h
      rw [held_succ, held_succ, S.nx_of t ht e, show ahead c w0 w2 (be (J (t + 1) ht)) = coming c w0 w2 (be (J (t + 1) ht)) (S.be_lt _ ht) from dif_pos (S.be_lt _ ht)]
      iintro ⟨Hw, Hbe, Hnv, Hnx, ⟨Ha, Hk⟩, HW, HK⟩
      ihave Hk := kept_open c _ _ $$ Hk
      icases Hk with ⟨H2, H3⟩
      iapply h
      isplitl [Hw]; · iexact Hw
      isplitl [Hbe]; · iexact Hbe
      isplitl [Hnv]; · iexact Hnv
      isplitl [Hnx]; · iexact Hnx
      isplitl [Ha]; · iexact Ha
      isplitl [H2]; · iexact H2
      isplitl [H3]; · iexact H3
      isplitl [HW]; · iexact HW
      iintro ⟨Hw, Hbe, Hnv, Hnx, Ha, Hk, HW⟩
      iapply HK
      isplitl [Hw]; · iexact Hw
      isplitl [Hbe]; · iexact Hbe
      isplitl [Hnv]; · iexact Hnv
      isplitl [Hnx]; · iexact Hnx
      isplitl [Ha Hk]
      · isplitl [Ha]; · iexact Ha
        iexact Hk
      iexact HW

end

end Cert.KernelIdeal.Hand

end
-- ==== Proof.Frame.lean ====
/- The run of the whole program, and what it leaves. -/
module

public import proofs.«01_k».proof.Proof.Step

@[expose] public section

noncomputable section

namespace Cert.KernelIdeal.Hand

open Cert.KernelIdeal Cert.KernelIdeal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the kernel starts: the host's four reshapes over the launch contents. -/
abbrev V (c : Dev nD) (b : Ref sig .tc) : Buf (Elt F) ((c : Thread nD τ).loc b) :=
  StableHlo.after hostOps0 (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl⟩ main_chain

/-- A buffer the four reshapes do not write is as at launch. -/
theorem V_of (c : Dev nD) (b : Ref sig .tc) (h : b ∉ [main_v0, main_v1, main_v2, main_v3]) : V m c b = m ((c : Thread nD τ).loc b) :=
  StableHlo.after_of_writes_sub (W := [main_v0, main_v1, main_v2, main_v3]) hostOps0 _
    (StableHlo.forall_writes_sub_of_map rfl) h

/-- The tables as launched name experts in order, on every device. -/
abbrev Tabled : Prop := ∀ c : Dev nD, Sched (V m c main_arg0) (V m c main_arg1) (V m c main_arg2)

/-- The tables' contents, which set the bias windows' blocks. -/
def T : pre0.Contents (Elt F) := fun k => V m 0 (pre0.ref k)

variable {m} in
def adm (hs : Tabled m) : (p : Fin 1) → (pcfgs (F := F) p).Adm := fun _ => ⟨T m, ok_of (T m) (hs 0).be_lt⟩

variable (hs : Tabled m)

abbrev cfgA : Pipeline.Cfg sig Λ₀ := cfg0 (adm hs 0)

theorem T_eq (c : Dev nD) (k : Fin 3) : V m c (pre0.ref k) = T m k := by
  have : c = 0 := Subsingleton.elim _ _
  subst this; rfl

/-- The row block and the two bias rows of point `t`. -/
def xAt (c : Dev nD) (t : Fin (cfgA m hs).N) : S256x640.Idx → Elt F .i32 := (((cfgA m hs).win 0).blk t).view.read (Elt F) (V m c main_arg3)
def bgAt (c : Dev nD) (t : Fin (cfgA m hs).N) : S1x1x2048.Idx → Elt F .f32 := (((cfgA m hs).win 1).blk t).view.read (Elt F) (V m c main_v1)
def bdAt (c : Dev nD) (t : Fin (cfgA m hs).N) : S1x1x1024.Idx → Elt F .f32 := (((cfgA m hs).win 2).blk t).view.read (Elt F) (V m c main_v3)

theorem lt_of (t : Fin (cfgA m hs).N) : t.val < 349 := lt_of_lt_of_eq t.isLt N_0

/-- The block of results point `t` computes. -/
def yAt (c : Dev nD) (t : Fin (cfgA m hs).N) : S256x1024.Idx → Elt F .f32 :=
  blk (V m c main_arg1 (J t.val (lt_of m hs t))) (xAt m hs c t) (bgAt m hs c t) (bdAt m hs c t)
    (rGu (V m c main_v0) (V m c main_arg0 (J t.val (lt_of m hs t))) ((hs c).be_lt _ _))
    (rDn (V m c main_v2) (V m c main_arg0 (J t.val (lt_of m hs t))) ((hs c).be_lt _ _))

/-- What the kernel holds besides its windows before point `t`. -/
def inv (c : Dev nD) (t : Nat) (h : t ≤ 349) : sProp 𝕄 :=
  iprop((∃ r, prngReg c r) ∗ tab c mBe (V m c main_arg0) ∗ tab c mNv (V m c main_arg1) ∗ tab c mNx (V m c main_arg2)
    ∗ held c (V m c main_v0) (V m c main_v2) (hs c) t h)

def dats (p : Fin 1) (c : Dev nD) : Dat τ (Elt F) Unit ℕ (Pipeline.UD sig nD τ) ℕ (Pipeline.pin (pcfgs (F := F)) (adm hs) p) c where
  A w := V m c (Pipeline.arrRef spec0 w)
  after w t := match w with
    | ⟨0, _⟩ => xAt m hs c t
    | ⟨1, _⟩ => bgAt m hs c t
    | ⟨2, _⟩ => bdAt m hs c t
    | ⟨3, _⟩ => yAt m hs c t
  Φ t := inv m hs c t.val (Nat.le_of_lt_succ (lt_of_lt_of_eq t.isLt (congrArg (· + 1) N_0)))
  q _ := fullShare
  owed _ := 0

theorem A_eq (c : Dev nD) (w : Fin 4) : (dats m hs 0 c).A w = V m c (Pipeline.arrRef spec0 w) := by
  dsimp only [dats]

theorem before0 (c : Dev nD) (t : Fin (cfgA m hs).N) (d) : (dats m hs 0 c).before 0 t d = xAt m hs c t := by
  rw [(dats m hs 0 c).before_in_eq_fetched 0 rfl (fun _ => rfl) (fun _ _ _ => rfl) (fun _ => rfl)]
  rfl
theorem before1 (c : Dev nD) (t : Fin (cfgA m hs).N) (d) : (dats m hs 0 c).before 1 t d = bgAt m hs c t := by
  rw [(dats m hs 0 c).before_in_eq_fetched 1 rfl (fun _ => rfl) (fun _ _ _ => rfl) (fun _ => rfl)]
  rfl
theorem before2 (c : Dev nD) (t : Fin (cfgA m hs).N) (d) : (dats m hs 0 c).before 2 t d = bdAt m hs c t := by
  rw [(dats m hs 0 c).before_in_eq_fetched 2 rfl (fun _ => rfl) (fun _ _ _ => rfl) (fun _ => rfl)]
  rfl

theorem idle3 (hs : Tabled m) (i : grid0.Coords) : idle0 (T m) 3 i = false :=
  idle_of (T m) (fun t ht => (hs 0).nv_nonneg t ht) i

/-- The windows' staging buffers at a point. -/
abbrev ms0 (t : Fin (cfgA m hs).N) : Memref sig .tc .vmem S256x640 .i32 := spec0_0.stage ((cfgA m hs).slots t 0)
abbrev ms1 (t : Fin (cfgA m hs).N) : Memref sig .tc .vmem S1x1x2048 .f32 := spec0_1.stage ((cfgA m hs).slots t 1)
abbrev ms2 (t : Fin (cfgA m hs).N) : Memref sig .tc .vmem S1x1x1024 .f32 := spec0_2.stage ((cfgA m hs).slots t 2)
abbrev ms3 (t : Fin (cfgA m hs).N) : Memref sig .tc .vmem S256x1024 .f32 := spec0_3.stage ((cfgA m hs).slots t 3)

abbrev bodyT (t : Fin (cfgA m hs).N) : Prog (TpuEff nD τ sig (Elt F) Λ₀ .tc) PUnit :=
  bodyAt (grid0.coords t) (ms0 m hs t) (hstage0_0 (((cfgA m hs).slots t 0).cast nbuf0_0)) (ms1 m hs t) (hstage0_1 (((cfgA m hs).slots t 1).cast nbuf0_1))
    (ms2 m hs t) (hstage0_2 (((cfgA m hs).slots t 2).cast nbuf0_2)) (ms3 m hs t) (hstage0_3 (((cfgA m hs).slots t 3).cast nbuf0_3))

def bodyPre (c : Dev nD) (t : Fin (cfgA m hs).N) : sProp 𝕄 :=
  iprop((dats m hs 0 c).Φ t.castSucc ∗ (dats m hs 0 c).owesAt () t.castSucc
    ∗ (∃ d, owns (c : Thread nD τ) (ms0 m hs t) fullShare ((dats m hs 0 c).before 0 t d))
    ∗ (∃ d, owns (c : Thread nD τ) (ms1 m hs t) fullShare ((dats m hs 0 c).before 1 t d))
    ∗ (∃ d, owns (c : Thread nD τ) (ms2 m hs t) fullShare ((dats m hs 0 c).before 2 t d))
    ∗ (∃ d, owns (c : Thread nD τ) (ms3 m hs t) fullShare ((dats m hs 0 c).before 3 t d)))
def bodyPost (c : Dev nD) (t : Fin (cfgA m hs).N) : sProp 𝕄 :=
  iprop((dats m hs 0 c).Φ t.succ ∗ (dats m hs 0 c).owesAt () t.succ
    ∗ owns (c : Thread nD τ) (ms0 m hs t) fullShare (xAt m hs c t)
    ∗ owns (c : Thread nD τ) (ms1 m hs t) fullShare (bgAt m hs c t)
    ∗ owns (c : Thread nD τ) (ms2 m hs t) fullShare (bdAt m hs c t)
    ∗ owns (c : Thread nD τ) (ms3 m hs t) fullShare (yAt m hs c t))

theorem sound_body (c : Dev nD) (t : Fin (cfgA m hs).N) :
    bodyPre m hs c t ⊢ wp frame (wpE (defs₀ (F := F)) Variants.none c none) Set.univ (bodyT m hs t) (fun _ => bodyPost m hs c t) := by
  unfold bodyPre bodyPost
  rw [show (dats m hs 0 c).Φ t.succ = inv m hs c (t.val + 1) (lt_of m hs t) from rfl,
    show (dats m hs 0 c).Φ t.castSucc = inv m hs c t.val (Nat.le_of_lt (lt_of m hs t)) from rfl]
  unfold Dat.owesAt Pipeline.owesWithin inv
  rw [show (dats m hs 0 c).owed t.castSucc = 0 from rfl, show (dats m hs 0 c).owed t.succ = 0 from rfl]
  simp only [before0, before1, before2]
  iintro ⟨⟨Hg, Hbe, Hnv, Hnx, Hh⟩, ⟨%W, -, HW⟩, ⟨%d0, H0⟩, ⟨%d1, H1⟩, ⟨%d2, H2⟩, ⟨%d3, H3⟩⟩
  iapply (step c (ms0 m hs t) (hstage0_0 (((cfgA m hs).slots t 0).cast nbuf0_0)) (ms1 m hs t) (hstage0_1 (((cfgA m hs).slots t 1).cast nbuf0_1))
    (ms2 m hs t) (hstage0_2 (((cfgA m hs).slots t 2).cast nbuf0_2)) (ms3 m hs t) (hstage0_3 (((cfgA m hs).slots t 3).cast nbuf0_3))
    (V m c main_arg0) (V m c main_arg1) (V m c main_arg2) (V m c main_v0) (V m c main_v2) (xAt m hs c t) (bgAt m hs c t) (bdAt m hs c t)
    (hs c) (grid0.coords t) t.val (coords_eq t) (lt_of m hs t) W _)
  isplitl [H0 H1 H2 H3]
  · isplitl [H0]; · iexact H0
    isplitl [H1]; · iexact H1
    isplitl [H2]; · iexact H2
    iexists _; iexact H3
  isplitl [Hbe]; · iexact Hbe
  isplitl [Hnv]; · iexact Hnv
  isplitl [Hnx]; · iexact Hnx
  isplitl [Hh]; · iexact Hh
  isplitl [HW]; · iexact HW
  iintro ⟨⟨H0, H1, H2, H3⟩, Hbe, Hnv, Hnx, Hh, ⟨%W', HW⟩⟩
  isplitl [Hg Hbe Hnv Hnx Hh]
  · isplitl [Hg]; · iexact Hg
    isplitl [Hbe]; · iexact Hbe
    isplitl [Hnv]; · iexact Hnv
    isplitl [Hnx]; · iexact Hnx
    iexact Hh
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin (cfgA m hs).N) :
    defs₀ (F := F) .tc (cfgA m hs).body ((cfgA m hs).bodyArgs t ((cfgA m hs).slots t)) = bodyT m hs t := by
  unfold defs₀; rw [Defs.onTc_tc]

theorem live (A B : sProp 𝕄) : ∀ b : Bool, b = false → (B ⊢ (match b with | true => A | false => B)) := by rintro _ rfl; exact .rfl

set_option maxHeartbeats 4000000 in
theorem body_obligation (c : Dev nD) : BodyObligation (dats m hs 0 c) (defs₀ (F := F)) Variants.none () Set.univ := fun t => by
  rw [bigSep_W0, bigSep_W0, defs₀_row]
  refine triple_restated (sound_body m hs c t) rfl .rfl fun _ => ?_
  unfold bodyPost
  iintro ⟨HP, Ho, H0, H1, H2, H3⟩
  isplitl [HP]; · iexact HP
  isplitl [Ho]; · iexact Ho
  isplitl [H0]; · iexact H0
  isplitl [H1]; · iexact H1
  isplitl [H2]; · iexact H2
  dsimp only
  have e : idle0 (adm hs 0).1 3 (((pcfgs (F := F) 0).gridAt (adm hs 0).1).coords t) = false := idle3 m hs (grid0.coords t)
  rw [e]
  iexact H3

end Cert.KernelIdeal.Hand

end
-- ==== Proof.Run.lean ====
/- The kernel launched: its run, and the arguments unchanged. -/
module

public import proofs.«01_k».proof.Proof.Frame

@[expose] public section

noncomputable section

namespace Cert.KernelIdeal.Hand

open Cert.KernelIdeal Cert.KernelIdeal.Gen
open Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hs : Tabled m)

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl

/-- The weight arrays the kernel reads where they lie. -/
def H0 : Finset (Ref sig .tc) := {main_v0, main_v2}
theorem H0_sub : H0 ⊆ Pipeline.restRefsP sig pre0 spec0 := by decide
theorem H0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_v2) ↦{fullShare} V m c main_v2)) := by
  rw [BI.bigSep_eq_bigSepL_of_eq [main_v0, main_v2] (by decide) (by decide)]; rfl

theorem tabs_eq (c : Dev nD) :
    (Pipeline.ΦT pre0 (T m) c : sProp 𝕄)
      = iprop(tab c mBe (V m c main_arg0) ∗ tab c mNv (V m c main_arg1) ∗ tab c mNx (V m c main_arg2)) := by
  have h0 : c = 0 := Subsingleton.elim _ _
  subst h0
  unfold Pipeline.ΦT Pipeline.prefHeld
  rw [BI.bigSep_univ_eq_bigSepL [(0 : Fin 3), 1, 2] (by decide) (by decide)]; rfl

theorem hin (c : Dev nD) : iprop(Pipeline.ΦD osem0 spec0 H0 (V m) c ∗ Pipeline.ΦT pre0 (T m) c) ⊢ (dats m hs 0 c).Φ 0 := by
  rw [show (dats m hs 0 c).Φ 0 = inv m hs c 0 (Nat.zero_le _) from rfl, Pipeline.ΦD_eq, scopedRest0_eq, ownSems00_eq, H0_eq, tabs_eq]
  unfold inv
  rw [held_zero]
  unfold rest
  iintro ⟨⟨⟨H0, H1, H2, H3⟩, Hg, ⟨Hs0, Hs1⟩, ⟨Hw0, Hw2⟩⟩, ⟨Hbe, Hnv, Hnx⟩⟩
  isplitl [Hg]; · iexact Hg
  isplitl [Hbe]; · iexact Hbe
  isplitl [Hnv]; · iexact Hnv
  isplitl [Hnx]; · iexact Hnx
  isplitl [H0 H1 Hs0 Hs1 Hw0 Hw2]
  · isplitl [H0]; · iexact H0
    isplitl [H1]; · iexact H1
    isplitl [Hs0]; · iexact Hs0
    isplitl [Hs1]; · iexact Hs1
    isplitl [Hw0]; · iexact Hw0
    iexact Hw2
  isplitl [H2]; · iexact H2
  iexact H3

theorem hout (c : Dev nD) : (dats m hs 0 c).Φ (Fin.last (cfgA m hs).N) ⊢ Pipeline.ΦD osem0 spec0 H0 (V m) c := by
  rw [show (dats m hs 0 c).Φ (Fin.last (cfgA m hs).N) = inv m hs c 349 (le_refl _) from by
      show inv m hs c (cfgA m hs).N _ = _
      congr 1,
    Pipeline.ΦD_eq, scopedRest0_eq, ownSems00_eq, H0_eq]
  unfold inv
  rw [held_succ, (hs c).nx_last, show ahead c (V m c main_v0) (V m c main_v2) 0xffffffff#32 = rest c (V m c main_v0) (V m c main_v2) from dif_neg (by decide)]
  unfold rest
  iintro ⟨Hg, -, -, -, ⟨⟨H0, H1, Hs0, Hs1, Hw0, Hw2⟩, Hk⟩⟩
  ihave Hk := kept_open c _ _ $$ Hk
  icases Hk with ⟨H2, H3⟩
  isplitl [H0 H1 H2 H3]
  · isplitl [H0]; · iexact H0
    isplitl [H1]; · iexact H1
    isplitl [H2]; · iexact H2
    iexact H3
  isplitl [Hg]; · iexact Hg
  isplitl [Hs0 Hs1]
  · isplitl [Hs0]; · iexact Hs0
    iexact Hs1
  isplitl [Hw0]; · iexact Hw0
  iexact Hw2

set_option backward.isDefEq.respectTransparency.types false in
/-- The run: the windows' arrays as the grid leaves them, everything else as the kernel found it, every semaphore at zero. -/
theorem run_main : θ_run defs (onTc (τ := τ) (main (F := F))) (s₀ m ρ)
    (fun r => Pipeline.FramePost (Pipeline.pin (pcfgs (F := F)) (adm hs)) (dats m hs) 0 (V m) r ∧ r.2.sem = fun _ => 0) :=
  Pipeline.θ_run_frameP_dma (Q' := _) (pcfgs (F := F)) (adm hs) (dats m hs) (0 : Fin 1) launch0 osem0 defs₀ Variants.none ownSemFacts0 H0 H0_sub m ρ main
    (hbody := fun c => (body_obligation m hs c).loose) (hshare := fun c => (dats m hs 0 c).share_full fun _ => rfl)
    (howed := fun _ _ => rfl) (V := V m) (hmain := hmain m Variants.none) (hA := A_eq m hs) (hpf := fun c k => T_eq m c k)
    (hin := hin m hs) (hout := hout m hs)

/-- The arguments and the semaphores as launched. -/
theorem frame (hs : Tabled m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (run_main m ρ hs)
  have hr : ∀ b ∈ Pipeline.restRefs sig spec0, b ∉ [main_v0, main_v1, main_v2, main_v3] → r.2.mem ((c.tc : Thread nD τ).loc b) = m ((c.tc : Thread nD τ).loc b) :=
    fun b hb h' => ((h.1 c).2 b hb).trans (V_of m c b h')
  refine ⟨hr _ (by decide) (by decide), hr _ (by decide) (by decide), hr _ (by decide) (by decide), ?_,
    hr _ (by decide) (by decide), hr _ (by decide) (by decide), hr _ (by decide) (by decide), hr _ (by decide) (by decide)⟩
  refine ((h.1 c).1 0).trans ?_
  refine ((dats m hs 0 c).arrAt_in 0 rfl _).trans ?_
  exact V_of m c main_arg3 (by decide)

end Cert.KernelIdeal.Hand

end
-- ==== Proof.Same.lean ====
/- The program read at bit patterns and the program read at the reals are one text: their definitions are equal. -/
module

public import proofs.«01_k».proof.Proof.Gen.Kernel
public import proofs.«01_k».proof.Proof.Run

@[expose] public section

noncomputable section

namespace Cert.KernelIdeal.Hand

open Idealize.ShloMosaic Idealize.ShloMosaic.TcCoe Idealize.SL.Sem

variable {F : FTy → Type} [FloatOps F]

/-- The two kernels' bodies, device by device and label by label. -/
theorem bodies_same : Cert.Kernel.defs₀ (F := F) = Cert.KernelIdeal.defs₀ (F := F) := by
  funext u l a
  rcases u with _ | _ | _
  · obtain ⟨l, hl⟩ := l
    cases l with
    | zero => obtain ⟨t, s⟩ := a; rfl
    | succ n => exact absurd hl (Nat.not_lt.2 (Nat.le_add_left _ _))
  all_goals rfl

/-- The two programs' definitions. -/
theorem defs_same : Cert.Kernel.defs (F := F) = Cert.KernelIdeal.defs (F := F) :=
  congrArg (Pipeline.defs (Cert.KernelIdeal.pcfgs (F := F))) bodies_same

/-- The two programs' host parts. -/
theorem main_same : Cert.Kernel.main (F := F) = Cert.KernelIdeal.main (F := F) := rfl

/-- What holds of every run of the one program holds of every run of the other. -/
theorem of_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.KernelIdeal.τ) (Cert.KernelIdeal.main (F := F))) s Q :=
  (congrArg (fun D => θ_run D (onTc (τ := Cert.KernelIdeal.τ) (Cert.KernelIdeal.main (F := F))) s Q) defs_same).mpr h

end Cert.KernelIdeal.Hand

end
-- ==== Proof.Pre.lean ====
/- The precondition read entry by entry: the tables it admits name experts in order. -/
module

public import proofs.«01_k».proof.Proof.Sched
public import proofs.«01_k».proof.Proof.Gen.Pre_tables_ok
public import Idealize.ShloMosaic.Lib.StableHlo.Predicate
public import Idealize.ShloMosaic.Lib.Pipeline.Value

@[expose] public section

noncomputable section

namespace Cert.KernelIdeal.Hand

open Cert.KernelIdeal Cert.Pre_tables_ok.Gen
open Idealize.ShloMosaic

/-- A table shifted down by one entry, its last entry from elsewhere. -/
theorem shifted (f : Cert.Pre_tables_ok.S349.Idx → BitVec 32) (g : Cert.Pre_tables_ok.S1.Idx → BitVec 32) (h1) (h2) (t : Nat) (ht : t + 1 < 349) :
    concatenate Cert.Pre_tables_ok.S349 0 [⟨Cert.Pre_tables_ok.S348, extractStridedSlice Cert.Pre_tables_ok.S348 ![1] f h1⟩, ⟨Cert.Pre_tables_ok.S1, g⟩] h2 (J t (by omega))
      = f (J (t + 1) ht) := by
  rw [concatenate_pair_apply_left (s₁ := Cert.Pre_tables_ok.S348) (s₂ := Cert.Pre_tables_ok.S1) 0 (extractStridedSlice Cert.Pre_tables_ok.S348 ![1] f h1) g h2 (J t (by omega)) rfl
    (fun a => ⟨t, by fin_cases a; show t < 348; omega⟩) (fun b => rfl)]
  refine congrArg f (J_ext _ _ _ ?_)
  show 1 + t = t + 1
  omega
theorem shifted_last (f : Cert.Pre_tables_ok.S348.Idx → BitVec 32) (g : Cert.Pre_tables_ok.S1.Idx → BitVec 32) (h2) :
    concatenate Cert.Pre_tables_ok.S349 0 [⟨Cert.Pre_tables_ok.S348, f⟩, ⟨Cert.Pre_tables_ok.S1, g⟩] h2 (J 348 (by omega))
      = g (fun a => ⟨0, by fin_cases a; exact Nat.one_pos⟩) :=
  concatenate_pair_apply_right (s₁ := Cert.Pre_tables_ok.S348) (s₂ := Cert.Pre_tables_ok.S1) 0 f g h2 (J 348 (by omega)) rfl rfl
    (fun a => ⟨0, by fin_cases a; exact Nat.one_pos⟩) (fun b hb => absurd (Subsingleton.elim (α := Fin 1) _ _) hb) rfl

theorem andi_one {a b : BitVec 1} : IntOp.andi a b = 1#1 ↔ a = 1#1 ∧ b = 1#1 := by
  revert a b; decide

theorem named {A E X N : BitVec 32} (h : Scalar.select (IntOp.cmpi .eq A E) (IntOp.cmpi .eq X N) (IntOp.cmpi .eq X A) = 1#1) :
    (A = E → X = N) ∧ (A ≠ E → X = A) := by
  refine ⟨fun e => ?_, fun e => ?_⟩
  · rw [StableHlo.Predicate.cmpi_eq_iff.mpr e] at h
    exact StableHlo.Predicate.cmpi_eq_iff.mp h
  · have : IntOp.cmpi .eq A E = 0#1 := by
      rcases (by decide : ∀ b : BitVec 1, b = 0#1 ∨ b = 1#1) (IntOp.cmpi .eq A E) with h' | h'
      · exact h'
      · exact absurd (StableHlo.Predicate.cmpi_eq_iff.mp h') e
    rw [this] at h
    exact StableHlo.Predicate.cmpi_eq_iff.mp h

theorem sge_zero {a : BitVec 32} (h : IntOp.cmpi .sge a 0#32 = 1#1) : 0 ≤ a.toInt := by
  have := (StableHlo.Predicate.ofBool_eq_one_iff _).mp h
  simpa [BitVec.sle] using this
theorem slt_64 {a : BitVec 32} (h : IntOp.cmpi .slt a 64#32 = 1#1) : a.toInt < 64 := by
  have := (StableHlo.Predicate.ofBool_eq_one_iff _).mp h
  simpa [BitVec.slt] using this

theorem sched_of_pre {F : FTy → Type} [FloatOps F] (be nv nx : IVec Cert.Pre_tables_ok.S349 32) (a3) (a4) (a5) (a6) (a7)
    (h : Cert.Pre_tables_ok.fn (F := F) be nv nx a3 a4 a5 a6 a7 = fun _ => 1#1) : Sched be nv nx := by
  have e := fun x => congrFun h x
  simp only [Cert.Pre_tables_ok.fn, Cert.Pre_tables_ok.fn_where, andi, cmpi, constantI, andi_one, broadcastInDim] at e
  have hb := fun x => (e x).1.1
  have hn := fun x => (e x).1.2
  have hw := fun x => (e x).2
  refine ⟨fun t ht => ?_, fun t ht => ?_, fun t ht hne => ?_, fun t ht heq => ?_, ?_⟩
  · have h1 := sge_zero (hb (J t ht)).1
    have h2 := slt_64 (hb (J t ht)).2
    rw [BitVec.toInt_eq_toNat_cond] at h1 h2
    have := (be (J t ht)).isLt
    split at h1 <;> split at h2 <;> omega
  · exact sge_zero (hn (J t ht))
  · have h1 := (named (hw (J t (by omega)))).2
    rw [shifted be _ _ _ t ht] at h1
    exact h1 hne
  · have h1 := (named (hw (J t (by omega)))).1
    rw [shifted be _ _ _ t ht, shifted nx _ _ _ t ht] at h1
    exact h1 heq
  · have h1 := (named (hw (J 348 (by omega)))).1
    rw [shifted_last, shifted_last] at h1
    exact h1 (congrArg be (J_ext _ _ _ rfl))

end Cert.KernelIdeal.Hand

end
-- ==== Proof.Words.lean ====
/- A packed word's two halves at the reals: a half read as a bf16 is the word with the other half cleared (and the low
   half moved up) read as an f32. -/
module

public import Idealize.ShloMosaic.Lib.ValueIdx

@[expose] public section

noncomputable section

namespace Cert.Experts

open Idealize.ShloMosaic

/-- A bf16 with sixteen zero bits after it is the f32 of the same value. -/
theorem ofBits_of_toNat (w : BitVec 32) (h : BitVec 16) (e : w.toNat = h.toNat * 65536) : Ideal.ofBits .f32 w = Ideal.ofBits .bf16 h := by
  show Ideal.ieee 8 23 w = Ideal.ieee 8 7 h
  have hh := h.isLt
  have e1 : w.extractLsb' (8 + 23) 1 = h.extractLsb' (8 + 7) 1 := by
    apply BitVec.eq_of_toNat_eq
    rw [BitVec.extractLsb'_toNat, BitVec.extractLsb'_toNat, e, Nat.shiftRight_eq_div_pow, Nat.shiftRight_eq_div_pow]
    omega
  have e2 : w.extractLsb' 23 8 = h.extractLsb' 7 8 := by
    apply BitVec.eq_of_toNat_eq
    rw [BitVec.extractLsb'_toNat, BitVec.extractLsb'_toNat, e, Nat.shiftRight_eq_div_pow, Nat.shiftRight_eq_div_pow]
    omega
  have e3 : (w.extractLsb' 0 23).toNat = (h.extractLsb' 0 7).toNat * 65536 := by
    rw [BitVec.extractLsb'_toNat, BitVec.extractLsb'_toNat, e, Nat.shiftRight_zero, Nat.shiftRight_zero]
    omega
  unfold Ideal.ieee
  simp only [e1, e2, e3]
  have z : ((h.extractLsb' 0 7).toNat * 65536 = 0) = ((h.extractLsb' 0 7).toNat = 0) := by
    apply propext; omega
  simp only [z]
  split
  · rfl
  split
  · congr 1
    rw [show ((1 : Int) - (2 ^ (8 - 1) - 1) - ((7 : Nat) : Int)) = (1 - (2 ^ (8 - 1) - 1) - ((23 : Nat) : Int)) + 16 by norm_num,
      zpow_add₀ (by norm_num : (2 : ℝ) ≠ 0)]
    push_cast
    norm_num
    ring_nf
  · congr 1
    rw [show ((h.extractLsb' 7 8).toNat : Int) - (2 ^ (8 - 1) - 1) - ((7 : Nat) : Int) = ((h.extractLsb' 7 8).toNat : Int) - (2 ^ (8 - 1) - 1) - ((23 : Nat) : Int) + 16 by push_cast; ring,
      zpow_add₀ (by norm_num : (2 : ℝ) ≠ 0)]
    push_cast
    ring

/-- The two halves of a packed word, each a bf16. -/
def lo (w : BitVec 32) : EReal := Ideal.ofBits .bf16 (w.extractLsb' 0 16)
def hi (w : BitVec 32) : EReal := Ideal.ofBits .bf16 (w.extractLsb' 16 16)

theorem lo_eq (w : BitVec 32) : Ideal.ofBits .f32 (w <<< 16) = lo w :=
  ofBits_of_toNat _ _ (by
    rw [BitVec.toNat_shiftLeft, BitVec.extractLsb'_toNat, Nat.shiftLeft_eq, Nat.shiftRight_zero]
    omega)

theorem hi_eq (w : BitVec 32) : Ideal.ofBits .f32 (w &&& 4294901760#32) = hi w :=
  ofBits_of_toNat _ _ (by
    have hw := w.isLt
    have e : w &&& 4294901760#32 = (w >>> 16) <<< 16 := by
      apply BitVec.eq_of_getLsbD_eq; intro i hi
      have m : ∀ i : Nat, i < 32 → (4294901760#32).getLsbD i = decide (16 ≤ i) := by decide
      rw [BitVec.getLsbD_and, m i hi, BitVec.getLsbD_shiftLeft, BitVec.getLsbD_ushiftRight]
      by_cases h : i < 16
      · simp [h]
      · simp [h, hi, show 16 ≤ i by omega, show 16 + (i - 16) = i by omega]
    rw [e, BitVec.toNat_shiftLeft, BitVec.toNat_ushiftRight, BitVec.extractLsb'_toNat, Nat.shiftLeft_eq, Nat.shiftRight_eq_div_pow]
    omega)

/-! ## One row of the experts' output -/

/-- The numbers 7, −7, 1 and 1.702 as their float words denote them. -/
abbrev cap : EReal := Ideal.ofBits .f32 0x40E00000#32
abbrev floor : EReal := Ideal.ofBits .f32 0xC0E00000#32
abbrev one : EReal := Ideal.ofBits .f32 0x3F800000#32
abbrev alpha : EReal := Ideal.ofBits .f32 0x3FD9DB23#32

/-- A packed row's entry `k`: the first half of the row in the words' low halves, the second in the high ones; a row
    past the live ones is zero. -/
def entry (l : BitVec 1) (w : Fin 640 → BitVec 32) (k : Fin 1024) : EReal :=
  bif l == 1#1 then (if h : k.val < 512 then lo (w ⟨k.val, by omega⟩) else hi (w ⟨k.val - 512, by omega⟩)) else 0

/-- The row's gate, in the two halves of word 512. -/
def gateOf (l : BitVec 1) (w : Fin 640 → BitVec 32) : EReal := bif l == 1#1 then lo (w 512) + hi (w 512) else 0

/-- The first product, its bias added. -/
def first (l : BitVec 1) (w : Fin 640 → BitVec 32) (G : Fin 1024 → Fin 2048 → EReal) (bg : Fin 2048 → EReal) (j : Fin 2048) : EReal :=
  (∑ k : Fin 1024, entry l w k * G k j) + bg j

/-- The clamped unit of a pair of its entries. -/
def unit (g u : EReal) : EReal :=
  (min cap (max floor u) + one) * (min g cap * Ideal.logistic (alpha * min g cap))

/-- The hidden entry `j`. -/
def hidden (l : BitVec 1) (w : Fin 640 → BitVec 32) (G : Fin 1024 → Fin 2048 → EReal) (bg : Fin 2048 → EReal) (j : Fin 1024) : EReal :=
  unit (first l w G bg ⟨j.val, by omega⟩) (first l w G bg ⟨1024 + j.val, by omega⟩)

/-- The row's output `c`: the second product, its bias, times the gate. -/
def out (l : BitVec 1) (w : Fin 640 → BitVec 32) (G : Fin 1024 → Fin 2048 → EReal) (bg : Fin 2048 → EReal)
    (D : Fin 1024 → Fin 1024 → EReal) (bd : Fin 1024 → EReal) (c : Fin 1024) : EReal :=
  ((∑ j : Fin 1024, hidden l w G bg j * D j c) + bd c) * gateOf l w

/-- Output `c` of packed row `R`: row `R % 256` of block `R / 256`, whose table entries name its expert and its number
    of live rows. -/
def row (be nv : Fin 349 → BitVec 32) (x : Fin 89344 → Fin 640 → BitVec 32) (G : Fin 64 → Fin 1024 → Fin 2048 → EReal)
    (bg : Fin 64 → Fin 2048 → EReal) (D : Fin 64 → Fin 1024 → Fin 1024 → EReal) (bd : Fin 64 → Fin 1024 → EReal)
    (t : Fin 349) (r : Fin 256) (c : Fin 1024) : EReal :=
  out (IntOp.cmpi .slt (BitVec.ofNat 32 r.val) (nv t)) (x ⟨t.val * 256 + r.val, by omega⟩)
    (G ⟨(be t).toNat % 64, Nat.mod_lt _ (by decide)⟩) (bg ⟨(be t).toNat % 64, Nat.mod_lt _ (by decide)⟩)
    (D ⟨(be t).toNat % 64, Nat.mod_lt _ (by decide)⟩) (bd ⟨(be t).toNat % 64, Nat.mod_lt _ (by decide)⟩) c

/-- The stacked expert `e`'s layer and its number there. -/
abbrev layer (e : Fin 64) : Fin 2 := ⟨e.val / 32, by omega⟩
abbrev member (e : Fin 64) : Fin 32 := ⟨e.val % 32, by omega⟩

theorem one_eq : one = 1 := by
  simp [one, Ideal.ofBits, Ideal.ieee, -EReal.coe_mul]; norm_num

theorem zero_eq : Ideal.ofBits .f32 0x00000000#32 = 0 := by
  simp [Ideal.ofBits, Ideal.ieee]

/-- A sum over the row splits into the low halves' and the high halves'. -/
theorem sum_halves (f : Fin 1024 → EReal) :
    ∑ k : Fin 1024, f k = (∑ k : Fin 512, f ⟨k.val, by omega⟩) + ∑ k : Fin 512, f ⟨512 + k.val, by omega⟩ :=
  Fin.sum_univ_add (M := EReal) (a := 512) (b := 512) f

end Cert.Experts

end
-- ==== Proof.Block.lean ====
/- What one grid point stores, read at the reals entry by entry: row `r` of its block is the experts' output of the
   packed row `r`. -/
module

public import proofs.«01_k».proof.Proof.Body
public import proofs.«01_k».proof.Proof.Words
public import Idealize.ShloMosaic.Lib.Pointwise
public import Idealize.ShloMosaic.Lib.MatmulPlain
public import Idealize.ShloMosaic.Lib.Pipeline.Value

@[expose] public section

noncomputable section

namespace Cert.KernelIdeal.Hand

open Cert.KernelIdeal Cert.KernelIdeal.Gen Cert.Experts
open Idealize.ShloMosaic

/-- Row `r` is below the number of live rows. -/
abbrev liveRow (n : BitVec 32) (r : Fin 256) : BitVec 1 := IntOp.cmpi .slt (BitVec.ofNat 32 r.val) n

theorem pick {l : BitVec 1} (a b : EReal) : Scalar.select l a b = bif l == 1#1 then a else b := by
  unfold Scalar.select
  by_cases h : l = 1#1
  · simp [h]
  · rw [if_neg (show ¬ l = 1 from h), show (l == 1#1) = false from beq_false_of_ne h]; rfl

theorem pick_mul {l : BitVec 1} (a g : EReal) : Scalar.select l (a * g) 0 = (bif l == 1#1 then a else 0) * g := by
  rw [pick]
  cases l == 1#1 <;> simp

theorem gate_apply (n : BitVec 32) (x : S256x128.Idx → BitVec 32) (r : Fin 256) :
    k0_pay6 (F := Ideal) n x (ix2 r 0) = bif liveRow n r == 1#1 then lo (x (ix2 r 0)) + hi (x (ix2 r 0)) else 0 := by
  pointwise [k0_pay6, k0_pay5]
  rw [pick, pick]
  unfold liveRow lo hi
  cases IntOp.cmpi CmpIPredicate.slt (BitVec.ofNat 32 r.val) n == 1#1 <;> simp

theorem first_apply (n : BitVec 32) (x : S256x512.Idx → BitVec 32) (g0 g1 : S512x2048.Idx → EReal) (b : S1x1x2048.Idx → EReal)
    (w : Fin 640 → BitVec 32) (G : Fin 1024 → Fin 2048 → EReal) (r : Fin 256) (j : Fin 2048)
    (hx : ∀ k : Fin 512, x (ix2 r k) = w ⟨k.val, by omega⟩) (h0 : ∀ k : Fin 512, g0 (ix2 k j) = G ⟨k.val, by omega⟩ j)
    (h1 : ∀ k : Fin 512, g1 (ix2 k j) = G ⟨512 + k.val, by omega⟩ j) :
    k0_pay7 (F := Ideal) n x g0 g1 b (ix2 r j) = first (liveRow n r) w G (fun j => b (ix3 0 0 j)) j := by
  pointwise [k0_pay7, k0_pay5]
  unfold first
  rw [sum_halves]
  congr 1
  congr 1
  · refine Finset.sum_congr rfl fun k _ => ?_
    rw [pick_mul, h0, hx]
    unfold entry
    rw [dif_pos k.isLt]
    rfl
  · refine Finset.sum_congr rfl fun k _ => ?_
    rw [pick_mul, h1, hx]
    unfold entry
    rw [dif_neg (by simp)]
    simp only [Nat.add_sub_cancel_left]
    rfl

theorem half_apply (n : BitVec 32) (x : S256x512.Idx → BitVec 32) (g0 g1 : S512x2048.Idx → EReal) (b : S1x1x2048.Idx → EReal) (r : Fin 256) (j : Fin 1024) :
    k0_pay8 (F := Ideal) n x g0 g1 b (ix2 r j) = k0_pay7 (F := Ideal) n x g0 g1 b (ix2 r ⟨j.val, by omega⟩) := by
  pointwise [k0_pay8]

theorem last_apply (v52 : S256x1.Idx → EReal) (v63 : S256x2048.Idx → EReal) (v64 v65 : S256x1024.Idx → EReal) (d : S1024x1024.Idx → EReal) (b : S1x1x1024.Idx → EReal) (r : Fin 256) (c : Fin 1024)
    (h65 : ∀ j, v65 (ix2 r j) = cap) :
    k0_pay3 (F := Ideal) v52 v63 v64 v65 d b (ix2 r c)
      = ((∑ j : Fin 1024, unit (v64 (ix2 r j)) (v63 (ix2 r ⟨1024 + j.val, by omega⟩)) * d (ix2 j c)) + b (ix3 0 0 c)) * v52 (ix2 r 0) := by
  pointwise [k0_pay3]
  unfold unit
  simp only [h65, one_eq]

theorem cap_apply (r : Fin 256) (c : Fin 1024) : k0_pay9 (F := Ideal) (ix2 r c) = cap := by
  pointwise [k0_pay9]

theorem zero_apply (r : Fin 256) (c : Fin 1024) : k0_pay4 (F := Ideal) (ix2 r c) = (0 : EReal) := by
  pointwise [k0_pay4]

/-- The block a point stores, row by row. -/
theorem blk_apply (n : BitVec 32) (x : S256x640.Idx → BitVec 32) (bg : S1x1x2048.Idx → EReal) (bd : S1x1x1024.Idx → EReal)
    (gu : S1024x2048.Idx → EReal) (dn : S1024x1024.Idx → EReal) (r : Fin 256) (c : Fin 1024) :
    blk (F := Ideal) n x bg bd gu dn (ix2 r c)
      = out (liveRow n r) (fun k => x (ix2 r k)) (fun k j => gu (ix2 k j)) (fun j => bg (ix3 0 0 j)) (fun k j => dn (ix2 k j)) (fun j => bd (ix3 0 0 j)) c := by
  unfold blk
  by_cases h : k0_cond4 n = 1#1
  · rw [if_pos h]
    refine (last_apply _ _ _ _ _ _ r c (cap_apply r)).trans ?_
    unfold out
    have e1 : ∀ j, k0_pay7 (F := Ideal) n (View.ld x (Rect.unit (s := S256x640) ![0, 0] S256x512.size inb_S256x640_S256x512_0_0))
        (View.ld gu (Rect.unit (s := S1024x2048) ![0, 0] S512x2048.size inb_S1024x2048_S512x2048_0_0))
        (View.ld gu (Rect.unit (s := S1024x2048) ![512, 0] S512x2048.size inb_S1024x2048_S512x2048_512_0))
        (View.ld bg (Rect.unit (s := S1x1x2048) ![0, 0, 0] S1x1x2048.size inb_S1x1x2048_S1x1x2048_0_0_0)) (ix2 r j)
        = first (liveRow n r) (fun k => x (ix2 r k)) (fun k j => gu (ix2 k j)) (fun j => bg (ix3 0 0 j)) j := fun j => by
      refine (first_apply n _ _ _ _ (fun k => x (ix2 r k)) (fun k j => gu (ix2 k j)) r j ?_ ?_ ?_).trans ?_
      · intro k; pointwise
      · intro k; pointwise
      · intro k; pointwise
      · congr 1; funext j; pointwise
    congr 1
    · congr 1
      · refine Finset.sum_congr rfl fun j _ => ?_
        unfold Experts.hidden
        rw [half_apply, e1, e1]
        congr 1
        pointwise
      · pointwise
    · rw [gate_apply]
      unfold gateOf
      congr 1
      pointwise
  · rw [if_neg h, zero_apply]
    have hl : liveRow n r ≠ 1#1 := fun e => h ((cond4_iff n).2 (by
      have hr := r.isLt
      unfold liveRow at e
      rw [WordCmp.cmpi_slt_eq] at e
      have h' : (BitVec.ofNat 32 r.val).toInt < n.toInt := by
        by_contra hc
        rw [decide_eq_false hc] at e
        exact absurd e (by decide)
      have e2 : (BitVec.ofNat 32 r.val).toInt = r.val := by
        rw [BitVec.toInt_eq_toNat_of_lt] <;> rw [BitVec.toNat_ofNat, Nat.mod_eq_of_lt] <;> omega
      omega))
    unfold out gateOf
    rw [show (liveRow n r == 1#1) = false by simpa using hl]
    simp

end Cert.KernelIdeal.Hand

end
-- ==== Proof.Array.lean ====
/- The array of results the launch leaves, read at the reals entry by entry. -/
module

public import proofs.«01_k».proof.Proof.Run
public import proofs.«01_k».proof.Proof.Block
public import Idealize.ShloMosaic.Lib.Pipeline.ValueKit.Geometry

@[expose] public section

noncomputable section

namespace Cert.KernelIdeal.Hand

open Cert.KernelIdeal Cert.KernelIdeal.Gen Cert.Experts
open Idealize.ShloMosaic Idealize.ShloMosaic.TcCoe
open Idealize.SL.Sem

variable (m : (ℓ : Loc nD τ sig) → Buf (Elt Ideal) ℓ) (ρ : Dev nD → PrngReg) (hs : Tabled m)

theorem rGu_apply (w0 : S64x1024x2048.Idx → EReal) (n : BitVec 32) (h : n.toNat < 64) (k : Fin 1024) (j : Fin 2048) :
    rGu (F := Ideal) w0 n h (ix2 k j) = w0 (ix3 ⟨n.toNat, h⟩ k j) := by
  unfold rGu
  pointwise [k0_pay1]
  refine congrArg w0 (funext fun a => Fin.ext ?_)
  rw [View.emb_reshape]
  show (((View.whole main_v0).slice (Rect.unit (k0_off9 n) ![1, 1024, 2048] _)).emb (Shape.reshapeEquiv _ (ix2 k j)) a : Nat) = _
  rw [Shape.reshapeEquiv_eq_of_rowMajor (s := S1x1024x2048) (s' := S1024x2048) _ (x := ix2 k j) (y := ix3 0 k j)
    (by rw [Shape.rowMajor_val_three, Shape.rowMajor_val_two]; simp)]
  rw [ValueKit.view_emb_slice_whole_unit_val]
  unfold k0_off9
  fin_cases a <;> simp

theorem rDn_apply (w2 : S64x1024x1024.Idx → EReal) (n : BitVec 32) (h : n.toNat < 64) (k : Fin 1024) (j : Fin 1024) :
    rDn (F := Ideal) w2 n h (ix2 k j) = w2 (ix3 ⟨n.toNat, h⟩ k j) := by
  unfold rDn
  pointwise [k0_pay2]
  refine congrArg w2 (funext fun a => Fin.ext ?_)
  rw [View.emb_reshape]
  show (((View.whole main_v2).slice (Rect.unit (k0_off10 n) ![1, 1024, 1024] _)).emb (Shape.reshapeEquiv _ (ix2 k j)) a : Nat) = _
  rw [Shape.reshapeEquiv_eq_of_rowMajor (s := S1x1024x1024) (s' := S1024x1024) _ (x := ix2 k j) (y := ix3 0 k j)
    (by rw [Shape.rowMajor_val_three, Shape.rowMajor_val_two]; simp)]
  rw [ValueKit.view_emb_slice_whole_unit_val]
  unfold k0_off10
  fin_cases a <;> simp

/-- The rows' windows are at the point's own block. -/
theorem at_point (t : Fin grid0.N) : cc0_transform_0 (grid0.coords t) = ![t.val, 0] := by
  unfold cc0_transform_0
  simp only [coords_eq]
  have := lt_of_lt_of_eq t.isLt N_0
  funext a; fin_cases a
  · show (BitVec.ofNat 32 t.val).toNat = t.val
    rw [BitVec.toNat_ofNat, Nat.mod_eq_of_lt (by omega)]
  · rfl
theorem index0 (t : Fin (cfgA m hs).N) : ((cfgA m hs).win 0).index t = ![t.val, 0] := at_point t
theorem index3 (t : Fin (cfgA m hs).N) : ((cfgA m hs).win 3).index t = ![t.val, 0] := at_point t

theorem xAt_apply (c : Dev nD) (t : Fin (cfgA m hs).N) (r : Fin 256) (k : Fin 640) :
    xAt m hs c t (ix2 r k) = V m c main_arg3 (ix2 (n0 := 89344) (n1 := 640) ⟨t.val * 256 + r.val, by have := lt_of m hs t; omega⟩ k) := by
  unfold xAt
  show V m c main_arg3 ((((cfgA m hs).win 0).blk t).view.emb (ix2 r k)) = _
  refine congrArg (V m c main_arg3) (funext fun a => Fin.ext ?_)
  refine (((cfgA m hs).win 0).rect_emb_val t (ix2 r k) a).trans ?_
  rw [index0]
  fin_cases a
  · rfl
  · exact (Nat.zero_add _).trans rfl

theorem table0 (c : Dev nD) (t : Fin (cfgA m hs).N) :
    (T m 0 (J ((grid0.coords t) 0).val (coord_lt' _)) : BitVec 32) = V m c main_arg0 (J t.val (lt_of m hs t)) := by
  refine (congrFun (T_eq m c 0).symm _).trans ?_
  exact congrArg (V m c main_arg0) (J_ext _ _ _ (coords_eq t))

theorem bgAt_apply (c : Dev nD) (t : Fin (cfgA m hs).N) (j : Fin 2048) :
    bgAt m hs c t (ix3 0 0 j) = V m c main_v1 (ix3 ⟨(V m c main_arg0 (J t.val (lt_of m hs t)) : BitVec 32).toNat, (hs c).be_lt _ _⟩ 0 j) := by
  unfold bgAt
  show V m c main_v1 ((((cfgA m hs).win 1).blk t).view.emb (ix3 0 0 j)) = _
  refine congrArg (V m c main_v1) (funext fun a => Fin.ext ?_)
  refine (((cfgA m hs).win 1).rect_emb_val t (ix3 0 0 j) a).trans ?_
  rw [show ((cfgA m hs).win 1).index t = _ from transform_1_eq (T m) (grid0.coords t), table0 m hs c]
  fin_cases a
  · exact (Nat.add_zero _).trans (Nat.mul_one _)
  · rfl
  · exact (Nat.zero_add _).trans rfl

theorem bdAt_apply (c : Dev nD) (t : Fin (cfgA m hs).N) (j : Fin 1024) :
    bdAt m hs c t (ix3 0 0 j) = V m c main_v3 (ix3 ⟨(V m c main_arg0 (J t.val (lt_of m hs t)) : BitVec 32).toNat, (hs c).be_lt _ _⟩ 0 j) := by
  unfold bdAt
  show V m c main_v3 ((((cfgA m hs).win 2).blk t).view.emb (ix3 0 0 j)) = _
  refine congrArg (V m c main_v3) (funext fun a => Fin.ext ?_)
  refine (((cfgA m hs).win 2).rect_emb_val t (ix3 0 0 j) a).trans ?_
  rw [show ((cfgA m hs).win 2).index t = _ from transform_2_eq (T m) (grid0.coords t), table0 m hs c]
  fin_cases a
  · exact (Nat.add_zero _).trans (Nat.mul_one _)
  · rfl
  · exact (Nat.zero_add _).trans rfl

/-- A stack of layers and their experts read as one stack. -/
theorem stack_gu (x : S2x32x1024x2048.Idx → EReal) (e : Fin 64) (k : Fin 1024) (j : Fin 2048) :
    shapeCast S64x1024x2048 x shapeCasts_S2x32x1024x2048_S64x1024x2048 (ix3 e k j) = x (ix4 (layer e) (member e) k j) := by
  refine shapeCast_apply _ _ _ _ ?_
  rw [Shape.rowMajor_val_four, Shape.rowMajor_val_three]
  show (((e.val / 32) * 32 + e.val % 32) * 1024 + k.val) * 2048 + j.val = (e.val * 1024 + k.val) * 2048 + j.val
  rw [Nat.div_add_mod' e.val 32]
theorem stack_bgu (x : S2x32x2048.Idx → EReal) (e : Fin 64) (j : Fin 2048) :
    shapeCast S64x1x2048 x shapeCasts_S2x32x2048_S64x1x2048 (ix3 e 0 j) = x (ix3 (layer e) (member e) j) := by
  refine shapeCast_apply _ _ _ _ ?_
  rw [Shape.rowMajor_val_three, Shape.rowMajor_val_three]
  show ((e.val / 32) * 32 + e.val % 32) * 2048 + j.val = (e.val * 1 + 0) * 2048 + j.val
  rw [Nat.div_add_mod' e.val 32, Nat.mul_one, Nat.add_zero]
theorem stack_dn (x : S2x32x1024x1024.Idx → EReal) (e : Fin 64) (k : Fin 1024) (j : Fin 1024) :
    shapeCast S64x1024x1024 x shapeCasts_S2x32x1024x1024_S64x1024x1024 (ix3 e k j) = x (ix4 (layer e) (member e) k j) := by
  refine shapeCast_apply _ _ _ _ ?_
  rw [Shape.rowMajor_val_four, Shape.rowMajor_val_three]
  show (((e.val / 32) * 32 + e.val % 32) * 1024 + k.val) * 1024 + j.val = (e.val * 1024 + k.val) * 1024 + j.val
  rw [Nat.div_add_mod' e.val 32]
theorem stack_bdn (x : S2x32x1024.Idx → EReal) (e : Fin 64) (j : Fin 1024) :
    shapeCast S64x1x1024 x shapeCasts_S2x32x1024_S64x1x1024 (ix3 e 0 j) = x (ix3 (layer e) (member e) j) := by
  refine shapeCast_apply _ _ _ _ ?_
  rw [Shape.rowMajor_val_three, Shape.rowMajor_val_three]
  show ((e.val / 32) * 32 + e.val % 32) * 1024 + j.val = (e.val * 1 + 0) * 1024 + j.val
  rw [Nat.div_add_mod' e.val 32, Nat.mul_one, Nat.add_zero]

/-- The four stacked parameters are the arguments, layer and expert in one. -/
theorem V_v0 (c : Dev nD) (e : Fin 64) (k : Fin 1024) (j : Fin 2048) :
    V m c main_v0 (ix3 e k j) = m ((c : Thread nD τ).loc main_arg4) (ix4 (layer e) (member e) k j) := stack_gu _ e k j
theorem V_v1 (c : Dev nD) (e : Fin 64) (j : Fin 2048) :
    V m c main_v1 (ix3 e 0 j) = m ((c : Thread nD τ).loc main_arg5) (ix3 (layer e) (member e) j) := stack_bgu _ e j
theorem V_v2 (c : Dev nD) (e : Fin 64) (k : Fin 1024) (j : Fin 1024) :
    V m c main_v2 (ix3 e k j) = m ((c : Thread nD τ).loc main_arg6) (ix4 (layer e) (member e) k j) := stack_dn _ e k j
theorem V_v3 (c : Dev nD) (e : Fin 64) (j : Fin 1024) :
    V m c main_v3 (ix3 e 0 j) = m ((c : Thread nD τ).loc main_arg7) (ix3 (layer e) (member e) j) := stack_bdn _ e j

/-- What the array of results is shown to hold. -/
def res (c : Dev nD) : S89344x1024.Idx → EReal := fun i =>
  row (fun t => m ((c : Thread nD τ).loc main_arg0) (ix1 t)) (fun t => m ((c : Thread nD τ).loc main_arg1) (ix1 t))
    (fun R k => m ((c : Thread nD τ).loc main_arg3) (ix2 R k))
    (fun e k j => m ((c : Thread nD τ).loc main_arg4) (ix4 (layer e) (member e) k j))
    (fun e j => m ((c : Thread nD τ).loc main_arg5) (ix3 (layer e) (member e) j))
    (fun e k j => m ((c : Thread nD τ).loc main_arg6) (ix4 (layer e) (member e) k j))
    (fun e j => m ((c : Thread nD τ).loc main_arg7) (ix3 (layer e) (member e) j))
    ⟨(i 0).val / 256, by have := (i 0).isLt; change (i 0).val < 89344 at this; omega⟩ ⟨(i 0).val % 256, Nat.mod_lt _ (by decide)⟩
    ⟨(i 1).val, (i 1).isLt⟩

theorem eta2 {a b : Nat} (y : (⟨2, ![a, b]⟩ : Shape).Idx) : y = ix2 (n0 := a) (n1 := b) (y 0) (y 1) := by
  funext d
  match d with
  | ⟨0, _⟩ => rfl
  | ⟨1, _⟩ => rfl

theorem J_eq (t : Nat) (h : t < 349) : J t h = ix1 (n0 := 349) ⟨t, h⟩ := (J_ext _ t h rfl).symm

theorem res_at (c : Dev nD) (t : Fin 349) (r : Fin 256) (j : Fin 1024) :
    res m c (ix2 (n0 := 89344) (n1 := 1024) ⟨t.val * 256 + r.val, by omega⟩ j)
      = row (fun t => m ((c : Thread nD τ).loc main_arg0) (ix1 t)) (fun t => m ((c : Thread nD τ).loc main_arg1) (ix1 t))
    (fun R k => m ((c : Thread nD τ).loc main_arg3) (ix2 R k))
    (fun e k j => m ((c : Thread nD τ).loc main_arg4) (ix4 (layer e) (member e) k j))
    (fun e j => m ((c : Thread nD τ).loc main_arg5) (ix3 (layer e) (member e) j))
    (fun e k j => m ((c : Thread nD τ).loc main_arg6) (ix4 (layer e) (member e) k j))
    (fun e j => m ((c : Thread nD τ).loc main_arg7) (ix3 (layer e) (member e) j)) t r j := by
  unfold res
  have e1 : ∀ h, (⟨(t.val * 256 + r.val) / 256, h⟩ : Fin 349) = t := fun h => Fin.ext (by show (t.val * 256 + r.val) / 256 = t.val; omega)
  have e2 : ∀ h, (⟨(t.val * 256 + r.val) % 256, h⟩ : Fin 256) = r := fun h => Fin.ext (by show (t.val * 256 + r.val) % 256 = r.val; omega)
  exact congrArg₂ (fun a b => row _ _ _ _ _ _ _ a b j) (e1 _) (e2 _)

theorem yAt_apply (c : Dev nD) (t : Fin (cfgA m hs).N) (r : Fin 256) (j : Fin 1024) :
    yAt m hs c t (ix2 r j) = res m c (ix2 (n0 := 89344) (n1 := 1024) ⟨t.val * 256 + r.val, by have := lt_of m hs t; omega⟩ j) := by
  have ht := lt_of m hs t
  have hbe := (hs c).be_lt t.val ht
  have eb : V m c main_arg0 (J t.val ht) = m ((c : Thread nD τ).loc main_arg0) (ix1 (n0 := 349) ⟨t.val, ht⟩) := by
    rw [V_of m c main_arg0 (by decide), J_eq]
  have en : V m c main_arg1 (J t.val ht) = m ((c : Thread nD τ).loc main_arg1) (ix1 (n0 := 349) ⟨t.val, ht⟩) := by
    rw [V_of m c main_arg1 (by decide), J_eq]
  have ef : (⟨BitVec.toNat (m ((c : Thread nD τ).loc main_arg0) (ix1 (n0 := 349) ⟨t.val, ht⟩) : BitVec 32) % 64, Nat.mod_lt _ (by decide)⟩ : Fin 64)
      = ⟨BitVec.toNat (V m c main_arg0 (J t.val ht) : BitVec 32), hbe⟩ :=
    Fin.ext ((congrArg (fun w : BitVec 32 => w.toNat % 64) eb.symm).trans (Nat.mod_eq_of_lt hbe))
  refine Eq.trans ?_ (res_at m c ⟨t.val, ht⟩ r j).symm
  unfold yAt row
  rw [blk_apply]
  dsimp only
  rw [ef, ← en]
  simp only [xAt_apply, bgAt_apply, bdAt_apply, rGu_apply, rDn_apply, V_of m c main_arg3 (by decide)]
  congr 1
  · funext k j; exact V_v0 m c _ k j
  · funext j; exact V_v1 m c _ j
  · funext k j; exact V_v2 m c _ k j
  · funext j; exact V_v3 m c _ j

theorem flush3 (t : Fin (cfgA m hs).N) : ((cfgA m hs).win 3).flush t = true := by
  rw [((cfgA m hs).win 3).flush_out rfl]
  by_cases h : t.val + 1 = (cfgA m hs).grid.N
  · exact .inl h
  · refine .inr ⟨lt_of_le_of_ne t.isLt h, fun e => ?_⟩
    rw [index3, index3] at e
    have := congrFun e (0 : Fin 2)
    simp at this

theorem emb3 (t : Fin (cfgA m hs).N) (r : Fin 256) (j : Fin 1024) :
    (((cfgA m hs).win 3).blk t).view.emb (ix2 (n0 := 256) (n1 := 1024) r j)
      = ix2 (n0 := 89344) (n1 := 1024) ⟨t.val * 256 + r.val, by have := lt_of m hs t; omega⟩ j := by
  funext a
  refine Fin.ext ?_
  refine (((cfgA m hs).win 3).rect_emb_val t (ix2 (n0 := 256) (n1 := 1024) r j) a).trans ?_
  rw [index3]
  fin_cases a
  · rfl
  · exact (Nat.zero_add _).trans rfl

theorem put3 (c : Dev nD) (t : Fin (cfgA m hs).N) (r : Fin 256) (j : Fin 1024) :
    yAt m hs c t (ix2 (n0 := 256) (n1 := 1024) r j)
      = res m c ((((cfgA m hs).win 3).blk t).view.emb (ix2 (n0 := 256) (n1 := 1024) r j)) :=
  (yAt_apply m hs c t r j).trans (congrArg (res m c) (emb3 m hs t r j).symm)

theorem put3' (c : Dev nD) (t : Fin (cfgA m hs).N) (y : S256x1024.Idx) :
    yAt m hs c t y = res m c ((((cfgA m hs).win 3).blk t).view.emb y) := by
  have e : y = ix2 (n0 := 256) (n1 := 1024) (y 0) (y 1) := eta2 y
  generalize y 0 = r at e
  generalize y 1 = j at e
  subst e
  exact put3 m hs c t r j

theorem cover3 (i : S89344x1024.Idx) : ∃ t : Fin (cfgA m hs).N, ∃ r : Fin 256, ∃ j : Fin 1024,
    (((cfgA m hs).win 3).blk t).view.emb (ix2 (n0 := 256) (n1 := 1024) r j) = i := by
  have h0 : (i 0).val < 89344 := (i 0).isLt
  refine ⟨⟨(i 0).val / 256, lt_of_lt_of_eq (show (i 0).val / 256 < 349 by omega) N_0.symm⟩, ⟨(i 0).val % 256, Nat.mod_lt _ (by decide)⟩, i 1, ?_⟩
  refine (emb3 m hs _ _ _).trans ?_
  funext a
  match a with
  | ⟨0, _⟩ => exact Fin.ext (Nat.div_add_mod' (i 0).val 256)
  | ⟨1, _⟩ => rfl

theorem in3 (i : S89344x1024.Idx) : ∃ t : Fin (cfgA m hs).N, ((cfgA m hs).win 3).flush t = true ∧ i ∈ (((cfgA m hs).win 3).blk t).view.set := by
  obtain ⟨t, r, j, e⟩ := cover3 m hs i
  exact ⟨t, flush3 m hs t, Eq.subst (motive := fun z => z ∈ (((cfgA m hs).win 3).blk t).view.set) e (View.emb_mem_set _ _)⟩

set_option maxHeartbeats 2000000 in
/-- The array of results after the last point. -/
theorem final (c : Dev nD) : (dats m hs 0 c).arrAt 3 (cfgA m hs).N = res m c :=
  (dats m hs 0 c).arrAt_eq_of_emb 3 _ (fun t _ y => put3' m hs c t y) (fun i => in3 m hs i)

/-- The run: the results and the arguments. -/
theorem value (hs : Tabled m) : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main m ρ hs)
  have hr : ∀ b ∈ Pipeline.restRefs sig spec0, b ∉ [main_v0, main_v1, main_v2, main_v3] → r.2.mem ((c.tc : Thread nD τ).loc b) = m ((c.tc : Thread nD τ).loc b) :=
    fun b hb h' => ((h.1 c).2 b hb).trans (V_of m c b h')
  refine ⟨((h.1 c).1 3).trans (final m hs c), hr _ (by decide) (by decide), hr _ (by decide) (by decide), hr _ (by decide) (by decide), ?_,
    hr _ (by decide) (by decide), hr _ (by decide) (by decide), hr _ (by decide) (by decide), hr _ (by decide) (by decide)⟩
  exact ((h.1 c).1 0).trans (((dats m hs 0 c).arrAt_in 0 rfl _).trans (V_of m c main_arg3 (by decide)))

end Cert.KernelIdeal.Hand

end
-- ==== Proof.Plain.lean ====
/- The reference's result read at the reals entry by entry: packed row `R`'s output, as the experts' formula states it. -/
module

public import proofs.«01_k».proof.Proof.Gen.ReferenceIdeal.Read
public import proofs.«01_k».proof.Proof.Words
public import Idealize.ShloMosaic.Lib.Pointwise
public import Idealize.ShloMosaic.Lib.KernelVsHost
public import Idealize.ShloMosaic.Lib.WordCmp

@[expose] public section

noncomputable section

namespace Cert.ReferenceIdeal.Hand

open Cert.ReferenceIdeal Cert.ReferenceIdeal.Gen Cert.ReferenceIdeal.Read Cert.Experts
open Idealize.ShloMosaic

/-! ## Indices with equal coordinates -/

theorem ext1 {a : Nat} {x y : (⟨1, ![a]⟩ : Shape).Idx} (h : (x 0).val = (y 0).val) : x = y := by
  funext d
  match d with
  | ⟨0, _⟩ => exact Fin.ext h
theorem ext2 {a b : Nat} {x y : (⟨2, ![a, b]⟩ : Shape).Idx} (h0 : (x 0).val = (y 0).val) (h1 : (x 1).val = (y 1).val) : x = y := by
  funext d
  match d with
  | ⟨0, _⟩ => exact Fin.ext h0
  | ⟨1, _⟩ => exact Fin.ext h1
theorem ext3 {a b c : Nat} {x y : (⟨3, ![a, b, c]⟩ : Shape).Idx} (h0 : (x 0).val = (y 0).val) (h1 : (x 1).val = (y 1).val)
    (h2 : (x 2).val = (y 2).val) : x = y := by
  funext d
  match d with
  | ⟨0, _⟩ => exact Fin.ext h0
  | ⟨1, _⟩ => exact Fin.ext h1
  | ⟨2, _⟩ => exact Fin.ext h2
theorem ext4 {a b c e : Nat} {x y : (⟨4, ![a, b, c, e]⟩ : Shape).Idx} (h0 : (x 0).val = (y 0).val) (h1 : (x 1).val = (y 1).val)
    (h2 : (x 2).val = (y 2).val) (h3 : (x 3).val = (y 3).val) : x = y := by
  funext d
  match d with
  | ⟨0, _⟩ => exact Fin.ext h0
  | ⟨1, _⟩ => exact Fin.ext h1
  | ⟨2, _⟩ => exact Fin.ext h2
  | ⟨3, _⟩ => exact Fin.ext h3

/-- The packed row's number, by its block and its row there. -/
abbrev at_ (t : Fin 349) (r : Fin 256) : Fin 89344 := ⟨t.val * 256 + r.val, by omega⟩

/-! ## The look-ups -/

abbrev gGu : GatherDims S64x1024x2048 S349x1 S349x1024x2048 := gather_S64x1024x2048_S349x1_S349x1024x2048_12_0_n_n_0_1_110242048
abbrev gBgu : GatherDims S64x2048 S349x1 S349x2048 := gather_S64x2048_S349x1_S349x2048_1_0_n_n_0_1_12048
abbrev gDn : GatherDims S64x1024x1024 S349x1 S349x1024x1024 := gather_S64x1024x1024_S349x1_S349x1024x1024_12_0_n_n_0_1_110241024
abbrev gBdn : GatherDims S64x1024 S349x1 S349x1024 := gather_S64x1024_S349x1_S349x1024_1_0_n_n_0_1_11024

/-- A word below 64 is its own clamped look-up. -/
theorem clamp_of {w : BitVec 32} (h : w.toNat < 64) : min w.toInt.toNat 63 = w.toNat % 64 := by
  have : w.toInt = w.toNat := BitVec.toInt_eq_toNat_of_lt (by omega)
  omega

theorem gGu_apply (x : S64x1024x2048.Idx → EReal) (idx : IVec S349x1 32) (t : Fin 349) (k : Fin 1024) (j : Fin 2048)
    (h : (idx (ix2 t 0)).toNat < 64) :
    Host.gather gGu x idx (ix3 t k j) = x (ix3 ⟨(idx (ix2 t 0)).toNat % 64, Nat.mod_lt _ (by decide)⟩ k j) := by
  unfold Host.gather
  congr 1
  have hs : ∀ p, gGu.siIdx (ix3 t k j) ⟨0, p⟩ = ix2 t 0 := fun p => ext2 rfl rfl
  refine ext3 ?_ ?_ ?_
  · show gGu.start _ idx 0 + gGu.batchCoord _ 0 + gGu.offCoord _ 0 = _
    rw [GatherDims.batchCoord_eq_zero _ _ _ List.not_mem_nil, GatherDims.offCoord_eq_zero _ _ _ (by decide)]
    unfold GatherDims.start
    rw [dif_pos (by decide)]
    refine (congrArg (fun i => min (idx i).toInt.toNat 63) (hs _)).trans (clamp_of h)
  · show gGu.start _ idx 1 + gGu.batchCoord _ 1 + gGu.offCoord _ 1 = _
    rw [GatherDims.batchCoord_eq_zero _ _ _ List.not_mem_nil]
    unfold GatherDims.start GatherDims.offCoord
    rw [dif_neg (by decide), dif_pos (by decide)]
    exact (Nat.zero_add _).trans rfl
  · show gGu.start _ idx 2 + gGu.batchCoord _ 2 + gGu.offCoord _ 2 = _
    rw [GatherDims.batchCoord_eq_zero _ _ _ List.not_mem_nil]
    unfold GatherDims.start GatherDims.offCoord
    rw [dif_neg (by decide), dif_pos (by decide)]
    exact (Nat.zero_add _).trans rfl

theorem gDn_apply (x : S64x1024x1024.Idx → EReal) (idx : IVec S349x1 32) (t : Fin 349) (k : Fin 1024) (j : Fin 1024)
    (h : (idx (ix2 t 0)).toNat < 64) :
    Host.gather gDn x idx (ix3 t k j) = x (ix3 ⟨(idx (ix2 t 0)).toNat % 64, Nat.mod_lt _ (by decide)⟩ k j) := by
  unfold Host.gather
  congr 1
  have hs : ∀ p, gDn.siIdx (ix3 t k j) ⟨0, p⟩ = ix2 t 0 := fun p => ext2 rfl rfl
  refine ext3 ?_ ?_ ?_
  · show gDn.start _ idx 0 + gDn.batchCoord _ 0 + gDn.offCoord _ 0 = _
    rw [GatherDims.batchCoord_eq_zero _ _ _ List.not_mem_nil, GatherDims.offCoord_eq_zero _ _ _ (by decide)]
    unfold GatherDims.start
    rw [dif_pos (by decide)]
    refine (congrArg (fun i => min (idx i).toInt.toNat 63) (hs _)).trans (clamp_of h)
  · show gDn.start _ idx 1 + gDn.batchCoord _ 1 + gDn.offCoord _ 1 = _
    rw [GatherDims.batchCoord_eq_zero _ _ _ List.not_mem_nil]
    unfold GatherDims.start GatherDims.offCoord
    rw [dif_neg (by decide), dif_pos (by decide)]
    exact (Nat.zero_add _).trans rfl
  · show gDn.start _ idx 2 + gDn.batchCoord _ 2 + gDn.offCoord _ 2 = _
    rw [GatherDims.batchCoord_eq_zero _ _ _ List.not_mem_nil]
    unfold GatherDims.start GatherDims.offCoord
    rw [dif_neg (by decide), dif_pos (by decide)]
    exact (Nat.zero_add _).trans rfl

theorem gBgu_apply (x : S64x2048.Idx → EReal) (idx : IVec S349x1 32) (t : Fin 349) (j : Fin 2048)
    (h : (idx (ix2 t 0)).toNat < 64) :
    Host.gather gBgu x idx (ix2 t j) = x (ix2 ⟨(idx (ix2 t 0)).toNat % 64, Nat.mod_lt _ (by decide)⟩ j) := by
  unfold Host.gather
  congr 1
  have hs : ∀ p, gBgu.siIdx (ix2 t j) ⟨0, p⟩ = ix2 t 0 := fun p => ext2 rfl rfl
  refine ext2 ?_ ?_
  · show gBgu.start _ idx 0 + gBgu.batchCoord _ 0 + gBgu.offCoord _ 0 = _
    rw [GatherDims.batchCoord_eq_zero _ _ _ List.not_mem_nil, GatherDims.offCoord_eq_zero _ _ _ (by decide)]
    unfold GatherDims.start
    rw [dif_pos (by decide)]
    refine (congrArg (fun i => min (idx i).toInt.toNat 63) (hs _)).trans (clamp_of h)
  · show gBgu.start _ idx 1 + gBgu.batchCoord _ 1 + gBgu.offCoord _ 1 = _
    rw [GatherDims.batchCoord_eq_zero _ _ _ List.not_mem_nil]
    unfold GatherDims.start GatherDims.offCoord
    rw [dif_neg (by decide), dif_pos (by decide)]
    exact (Nat.zero_add _).trans rfl

theorem gBdn_apply (x : S64x1024.Idx → EReal) (idx : IVec S349x1 32) (t : Fin 349) (j : Fin 1024)
    (h : (idx (ix2 t 0)).toNat < 64) :
    Host.gather gBdn x idx (ix2 t j) = x (ix2 ⟨(idx (ix2 t 0)).toNat % 64, Nat.mod_lt _ (by decide)⟩ j) := by
  unfold Host.gather
  congr 1
  have hs : ∀ p, gBdn.siIdx (ix2 t j) ⟨0, p⟩ = ix2 t 0 := fun p => ext2 rfl rfl
  refine ext2 ?_ ?_
  · show gBdn.start _ idx 0 + gBdn.batchCoord _ 0 + gBdn.offCoord _ 0 = _
    rw [GatherDims.batchCoord_eq_zero _ _ _ List.not_mem_nil, GatherDims.offCoord_eq_zero _ _ _ (by decide)]
    unfold GatherDims.start
    rw [dif_pos (by decide)]
    refine (congrArg (fun i => min (idx i).toInt.toNat 63) (hs _)).trans (clamp_of h)
  · show gBdn.start _ idx 1 + gBdn.batchCoord _ 1 + gBdn.offCoord _ 1 = _
    rw [GatherDims.batchCoord_eq_zero _ _ _ List.not_mem_nil]
    unfold GatherDims.start GatherDims.offCoord
    rw [dif_neg (by decide), dif_pos (by decide)]
    exact (Nat.zero_add _).trans rfl

/-! ## The stages -/

variable (x0 x1 : S349.Idx → BitVec 32) (x3 : S89344x640.Idx → BitVec 32) (x4 : S2x32x1024x2048.Idx → EReal)
  (x5 : S2x32x2048.Idx → EReal) (x6 : S2x32x1024x1024.Idx → EReal) (x7 : S2x32x1024.Idx → EReal)

/-- The row's live bit, its words, and its expert. -/
abbrev liveAt (t : Fin 349) (r : Fin 256) : BitVec 1 := IntOp.cmpi .slt (BitVec.ofNat 32 r.val) (x1 (ix1 t))
abbrev wordsAt (t : Fin 349) (r : Fin 256) : Fin 640 → BitVec 32 := fun k => x3 (ix2 (at_ t r) k)
abbrev ex (t : Fin 349) : Fin 64 := ⟨(x0 (ix1 t)).toNat % 64, Nat.mod_lt _ (by decide)⟩

theorem live_apply (t : Fin 349) (r : Fin 256) : val_main_v16 (F := Ideal) x1 (ix1 (at_ t r)) = liveAt x1 t r := by
  rw [val_main_v16_apply, show idx_main_v16 (ix1 (at_ t r)) = ix2 t r from
    ext2 (show (t.val * 256 + r.val) / 256 = t.val by omega) (show (t.val * 256 + r.val) % 256 = r.val by omega)]
  rw [val_main_v15_apply, val_main_v13_apply, val_main_v11_apply, val_main_v10_apply, val_main_v14_apply, val_main_v12_apply]
  exact congrArg (fun i => IntOp.cmpi .slt (BitVec.ofNat 32 r.val) (x1 i)) (ext1 rfl)

theorem low_apply (i : S89344x640.Idx) : val_main_v6 (F := Ideal) x3 i = lo (x3 i) := by
  rw [val_main_v6_apply, val_main_v5_apply, val_main_v4_apply, val_main_c_apply]
  rw [shli_unit .host .vector]
  exact (congrArg (Ideal.ofBits .f32) rfl).trans (lo_eq (x3 i))

theorem high_apply (i : S89344x640.Idx) : val_main_v9 (F := Ideal) x3 i = hi (x3 i) := by
  rw [val_main_v9_apply, val_main_v8_apply, val_main_v7_apply, val_main_c_0_apply]
  exact hi_eq (x3 i)

theorem zero20 (i : S89344x1024.Idx) : val_main_call0_v2 (F := Ideal) i = (0 : EReal) := by
  rw [val_main_call0_v2_apply, val_main_call0_v0_apply, val_main_cst_apply]
  exact zero_eq
theorem zero27 (i : S89344.Idx) : val_main_call1_v1 (F := Ideal) i = (0 : EReal) := by
  rw [val_main_call1_v1_apply, val_main_call1_v0_apply, val_main_cst_1_apply]
  exact zero_eq

theorem pickBit {l : BitVec 1} (a b : EReal) : Scalar.select l a b = bif l == 1#1 then a else b := by
  rcases (by decide : ∀ l : BitVec 1, l = 0#1 ∨ l = 1#1) l with h | h <;> subst h <;> rfl

theorem joined_apply (R : Fin 89344) (k : Fin 1024) :
    val_main_v20 (F := Ideal) x3 (ix2 R k)
      = if h : k.val < 512 then lo (x3 (ix2 R ⟨k.val, by omega⟩)) else hi (x3 (ix2 R ⟨k.val - 512, by omega⟩)) := by
  unfold val_main_v20
  by_cases h : k.val < 512
  · rw [dif_pos h]
    refine (concatenate_pair_apply_left (s₁ := S89344x512) (s₂ := S89344x512) 1 _ _ _ (ix2 R k) rfl (ix2 R ⟨k.val, h⟩) (fun b => ?_)).trans ?_
    · fin_cases b <;> rfl
    · rw [val_main_v18_apply, low_apply]
      exact congrArg (fun i => lo (x3 i)) (ext2 rfl rfl)
  · rw [dif_neg h]
    refine (concatenate_pair_apply_right (s₁ := S89344x512) (s₂ := S89344x512) 1 _ _ _ (ix2 R k) rfl rfl (ix2 R ⟨k.val - 512, by omega⟩) (fun b hb => ?_) ?_).trans ?_
    · fin_cases b
      · rfl
      · exact absurd rfl hb
    · show k.val - 512 + 512 = k.val
      omega
    · rw [val_main_v19_apply, high_apply]
      exact congrArg (fun i => hi (x3 i)) (ext2 rfl rfl)

theorem row_apply (t : Fin 349) (r : Fin 256) (k : Fin 1024) :
    val_main_v28 (F := Ideal) x1 x3 (ix3 t r k) = entry (liveAt x1 t r) (wordsAt x3 t r) k := by
  rw [val_main_v28_apply, show idx_main_v28 (ix3 t r k) = ix2 (at_ t r) k from
    ext2 (show ((t.val * 256 + r.val) * 1024 + k.val) / 1024 = t.val * 256 + r.val by omega)
      (show ((t.val * 256 + r.val) * 1024 + k.val) % 1024 = k.val by omega)]
  rw [val_main_v21_apply, joined_apply, zero20, val_main_call0_v1_apply, val_main_v17_apply,
    show idx_main_v17 (idx_main_call0_v1 (ix2 (at_ t r) k)) = ix1 (at_ t r) from ext1 rfl, live_apply, pickBit]
  rfl

theorem gate_apply (t : Fin 349) (r : Fin 256) (c : Fin 1024) :
    val_main_v84 (F := Ideal) x1 x3 (ix2 (at_ t r) c) = gateOf (liveAt x1 t r) (wordsAt x3 t r) := by
  rw [val_main_v84_apply, val_main_v83_apply,
    show idx_main_v83 (idx_main_v84 (ix2 (at_ t r) c)) = ix1 (at_ t r) from ext1 rfl]
  rw [val_main_v27_apply, live_apply, zero27, val_main_v26_apply, val_main_v23_apply, val_main_v25_apply, val_main_v22_apply, val_main_v24_apply,
    low_apply, high_apply, pickBit]
  have e1 : idx_main_v22 (idx_main_v23 (ix1 (at_ t r))) = ix2 (at_ t r) 512 := ext2 (Nat.div_one _) rfl
  have e2 : idx_main_v24 (idx_main_v25 (ix1 (at_ t r))) = ix2 (at_ t r) 512 := ext2 (Nat.div_one _) rfl
  rw [e1, e2]
  rfl

/-! ### The experts' parameters -/

theorem not_neg {w : BitVec 32} (h : w.toNat < 64) : IntOp.cmpi .slt w 0#32 = 0#1 := by
  have e : w.toInt = w.toNat := BitVec.toInt_eq_toNat_of_lt (by omega)
  rw [WordCmp.cmpi_slt_eq, decide_eq_false (by rw [e]; simp)]
  rfl

variable (hbe : ∀ t : Fin 349, (x0 (ix1 t)).toNat < 64)
include hbe

theorem fix34 (t : Fin 349) : val_main_v34 (F := Ideal) x0 (ix2 t 0) = x0 (ix1 t) := by
  rw [val_main_v34_apply, show idx_main_v34 (ix2 t 0) = ix1 t from ext1 rfl, val_main_v33_apply, val_main_v30_apply, val_main_v29_apply, val_main_c_2_apply, not_neg (hbe t)]
  rfl
theorem fix42 (t : Fin 349) : val_main_v42 (F := Ideal) x0 (ix2 t 0) = x0 (ix1 t) := by
  rw [val_main_v42_apply, show idx_main_v42 (ix2 t 0) = ix1 t from ext1 rfl, val_main_v41_apply, val_main_v38_apply, val_main_v37_apply, val_main_c_4_apply, not_neg (hbe t)]
  rfl
theorem fix69 (t : Fin 349) : val_main_v69 (F := Ideal) x0 (ix2 t 0) = x0 (ix1 t) := by
  rw [val_main_v69_apply, show idx_main_v69 (ix2 t 0) = ix1 t from ext1 rfl, val_main_v68_apply, val_main_v65_apply, val_main_v64_apply, val_main_c_13_apply, not_neg (hbe t)]
  rfl
theorem fix77 (t : Fin 349) : val_main_v77 (F := Ideal) x0 (ix2 t 0) = x0 (ix1 t) := by
  rw [val_main_v77_apply, show idx_main_v77 (ix2 t 0) = ix1 t from ext1 rfl, val_main_v76_apply, val_main_v73_apply, val_main_v72_apply, val_main_c_15_apply, not_neg (hbe t)]
  rfl

theorem gu_apply (t : Fin 349) (k : Fin 1024) (j : Fin 2048) :
    val_main_v35 (F := Ideal) x0 x4 (ix3 t k j) = x4 (ix4 (layer (ex x0 t)) (member (ex x0 t)) k j) := by
  unfold val_main_v35
  rw [gGu_apply _ _ t k j (by rw [fix34 x0 hbe]; exact hbe t)]
  simp only [fix34 x0 hbe]
  rw [val_main_v0_apply]
  have he := (ex x0 t).isLt
  refine congrArg x4 (ext4 ?_ ?_ ?_ ?_)
  · show (((ex x0 t).val * 1024 + k.val) * 2048 + j.val) / 67108864 = (ex x0 t).val / 32; omega
  · show (((ex x0 t).val * 1024 + k.val) * 2048 + j.val) / 2097152 % 32 = (ex x0 t).val % 32; omega
  · show (((ex x0 t).val * 1024 + k.val) * 2048 + j.val) / 2048 % 1024 = k.val; omega
  · show (((ex x0 t).val * 1024 + k.val) * 2048 + j.val) % 2048 = j.val; omega

theorem dn_apply (t : Fin 349) (k : Fin 1024) (j : Fin 1024) :
    val_main_v70 (F := Ideal) x0 x6 (ix3 t k j) = x6 (ix4 (layer (ex x0 t)) (member (ex x0 t)) k j) := by
  unfold val_main_v70
  rw [gDn_apply _ _ t k j (by rw [fix69 x0 hbe]; exact hbe t)]
  simp only [fix69 x0 hbe]
  rw [val_main_v2_apply]
  have he := (ex x0 t).isLt
  refine congrArg x6 (ext4 ?_ ?_ ?_ ?_)
  · show (((ex x0 t).val * 1024 + k.val) * 1024 + j.val) / 33554432 = (ex x0 t).val / 32; omega
  · show (((ex x0 t).val * 1024 + k.val) * 1024 + j.val) / 1048576 % 32 = (ex x0 t).val % 32; omega
  · show (((ex x0 t).val * 1024 + k.val) * 1024 + j.val) / 1024 % 1024 = k.val; omega
  · show (((ex x0 t).val * 1024 + k.val) * 1024 + j.val) % 1024 = j.val; omega

theorem bgu_apply (t : Fin 349) (r : Fin 256) (j : Fin 2048) :
    val_main_v45 (F := Ideal) x0 x5 (ix3 t r j) = x5 (ix3 (layer (ex x0 t)) (member (ex x0 t)) j) := by
  rw [val_main_v45_apply, val_main_v44_apply, show idx_main_v44 (idx_main_v45 (ix3 t r j)) = ix2 t j from ext2 rfl rfl]
  unfold val_main_v43
  rw [gBgu_apply _ _ t j (by rw [fix42 x0 hbe]; exact hbe t)]
  simp only [fix42 x0 hbe]
  rw [val_main_v1_apply]
  have he := (ex x0 t).isLt
  refine congrArg x5 (ext3 ?_ ?_ ?_)
  · show ((ex x0 t).val * 2048 + j.val) / 65536 = (ex x0 t).val / 32; omega
  · show ((ex x0 t).val * 2048 + j.val) / 2048 % 32 = (ex x0 t).val % 32; omega
  · show ((ex x0 t).val * 2048 + j.val) % 2048 = j.val; omega

theorem bdn_apply (t : Fin 349) (r : Fin 256) (j : Fin 1024) :
    val_main_v80 (F := Ideal) x0 x7 (ix3 t r j) = x7 (ix3 (layer (ex x0 t)) (member (ex x0 t)) j) := by
  rw [val_main_v80_apply, val_main_v79_apply, show idx_main_v79 (idx_main_v80 (ix3 t r j)) = ix2 t j from ext2 rfl rfl]
  unfold val_main_v78
  rw [gBdn_apply _ _ t j (by rw [fix77 x0 hbe]; exact hbe t)]
  simp only [fix77 x0 hbe]
  rw [val_main_v3_apply]
  have he := (ex x0 t).isLt
  refine congrArg x7 (ext3 ?_ ?_ ?_)
  · show ((ex x0 t).val * 1024 + j.val) / 32768 = (ex x0 t).val / 32; omega
  · show ((ex x0 t).val * 1024 + j.val) / 1024 % 32 = (ex x0 t).val % 32; omega
  · show ((ex x0 t).val * 1024 + j.val) % 1024 = j.val; omega

/-! ### The two products -/

theorem first_apply (t : Fin 349) (r : Fin 256) (j : Fin 2048) :
    val_main_v46 (F := Ideal) x0 x1 x3 x4 x5 (ix3 t r j)
      = first (liveAt x1 t r) (wordsAt x3 t r) (fun k j => x4 (ix4 (layer (ex x0 t)) (member (ex x0 t)) k j))
          (fun j => x5 (ix3 (layer (ex x0 t)) (member (ex x0 t)) j)) j := by
  rw [val_main_v46_apply, val_main_v36_apply, bgu_apply x0 x5 hbe]
  unfold first
  refine congrArg (· + _) (Finset.sum_congr rfl fun k _ => ?_)
  rw [show lidx_main_v36 (ix3 t r j) k = ix3 t r k from ext3 rfl rfl rfl, show ridx_main_v36 (ix3 t r j) k = ix3 t k j from ext3 rfl rfl rfl,
    row_apply, gu_apply x0 x4 hbe]

theorem hidden_apply (t : Fin 349) (r : Fin 256) (j : Fin 1024) :
    val_main_v63 (F := Ideal) x0 x1 x3 x4 x5 (ix3 t r j)
      = Experts.hidden (liveAt x1 t r) (wordsAt x3 t r) (fun k j => x4 (ix4 (layer (ex x0 t)) (member (ex x0 t)) k j))
          (fun j => x5 (ix3 (layer (ex x0 t)) (member (ex x0 t)) j)) j := by
  rw [val_main_v63_apply, val_main_v53_apply, val_main_v62_apply, val_main_v61_apply, val_main_v59_apply, val_main_v57_apply, val_main_v56_apply,
    val_main_v55_apply, val_main_v49_apply, val_main_v51_apply, val_main_call2_v2_apply, val_main_v47_apply, val_main_v50_apply,
    show idx_main_v47 (ix3 t r j) = ix3 t r ⟨j.val, by omega⟩ from ext3 rfl rfl rfl,
    show idx_main_v50 (ix3 t r j) = ix3 t r ⟨1024 + j.val, by omega⟩ from ext3 rfl rfl rfl,
    first_apply x0 x1 x3 x4 x5 hbe, first_apply x0 x1 x3 x4 x5 hbe]
  unfold Experts.hidden
  generalize first _ _ _ _ _ = u
  generalize first _ _ _ _ _ = g
  rw [val_main_v52_apply, val_main_cst_9_apply, val_main_v54_apply, val_main_cst_10_apply, val_main_v58_apply, val_main_cst_11_apply,
    val_main_v60_apply, val_main_cst_12_apply, val_main_v48_apply, val_main_cst_6_apply, val_main_call2_v1_apply, val_main_call2_v0_apply,
    val_main_cst_7_apply, val_main_call2_v4_apply, val_main_call2_v3_apply, val_main_cst_8_apply]
  unfold unit
  show (min cap (max floor u) + one) * (min g cap * Ideal.div one (one + Ideal.exp (-(alpha * min g cap)))) = _
  rw [one_eq]
  rfl

theorem last_apply (t : Fin 349) (r : Fin 256) (c : Fin 1024) :
    val_main_v85 (F := Ideal) x0 x1 x3 x4 x5 x6 x7 (ix2 (at_ t r) c)
      = out (liveAt x1 t r) (wordsAt x3 t r) (fun k j => x4 (ix4 (layer (ex x0 t)) (member (ex x0 t)) k j))
          (fun j => x5 (ix3 (layer (ex x0 t)) (member (ex x0 t)) j)) (fun k j => x6 (ix4 (layer (ex x0 t)) (member (ex x0 t)) k j))
          (fun j => x7 (ix3 (layer (ex x0 t)) (member (ex x0 t)) j)) c := by
  rw [val_main_v85_apply, gate_apply, val_main_v82_apply, show idx_main_v82 (ix2 (at_ t r) c) = ix3 t r c from
    ext3 (show ((t.val * 256 + r.val) * 1024 + c.val) / 262144 = t.val by omega)
      (show ((t.val * 256 + r.val) * 1024 + c.val) / 1024 % 256 = r.val by omega)
      (show ((t.val * 256 + r.val) * 1024 + c.val) % 1024 = c.val by omega)]
  rw [val_main_v81_apply, bdn_apply x0 x7 hbe, val_main_v71_apply]
  unfold out
  refine congrArg (fun s => (s + _) * _) (Finset.sum_congr rfl fun k _ => ?_)
  rw [show lidx_main_v71 (ix3 t r c) k = ix3 t r k from ext3 rfl rfl rfl, show ridx_main_v71 (ix3 t r c) k = ix3 t k c from ext3 rfl rfl rfl,
    hidden_apply x0 x1 x3 x4 x5 hbe, dn_apply x0 x6 hbe]

/-- The reference's result, entry by entry. -/
theorem plain (i : S89344x1024.Idx) :
    val_main_v85 (F := Ideal) x0 x1 x3 x4 x5 x6 x7 i
      = row (fun t => x0 (ix1 t)) (fun t => x1 (ix1 t)) (fun R k => x3 (ix2 R k))
          (fun e k j => x4 (ix4 (layer e) (member e) k j)) (fun e j => x5 (ix3 (layer e) (member e) j))
          (fun e k j => x6 (ix4 (layer e) (member e) k j)) (fun e j => x7 (ix3 (layer e) (member e) j))
          ⟨(i 0).val / 256, by have := (i 0).isLt; change (i 0).val < 89344 at this; omega⟩ ⟨(i 0).val % 256, Nat.mod_lt _ (by decide)⟩
          ⟨(i 1).val, (i 1).isLt⟩ := by
  have h : i = ix2 (at_ ⟨(i 0).val / 256, by have := (i 0).isLt; change (i 0).val < 89344 at this; omega⟩ ⟨(i 0).val % 256, Nat.mod_lt _ (by decide)⟩)
      (⟨(i 1).val, (i 1).isLt⟩ : Fin 1024) := ext2 (Nat.div_add_mod' (i 0).val 256).symm rfl
  exact (congrArg (val_main_v85 (F := Ideal) x0 x1 x3 x4 x5 x6 x7) h).trans (last_apply x0 x1 x3 x4 x5 x6 x7 hbe _ _ _)

end Cert.ReferenceIdeal.Hand

end
-- ==== Proof.Attn.Soft.lean ====
/- Weights of a row of scores, taken a stretch of keys at a time: the greatest score so far, the sum of the weights
   and the weighted sum, each rescaled when the greatest score grows. -/
module

public import Idealize.ShloMosaic.PureOps.Ideal

@[expose] public section

noncomputable section

namespace Cert.Attn

open Idealize.ShloMosaic

/-- The greatest of the first `n` scores. -/
def top (x : ℕ → EReal) (n : ℕ) : EReal := (Finset.range n).sup x
/-- The sum of the first `n` weights. -/
def den (x : ℕ → EReal) (n : ℕ) : EReal := ∑ k ∈ Finset.range n, Ideal.exp2 (x k - top x n)
/-- The weighted sum of the first `n` values. -/
def num (x v : ℕ → EReal) (n : ℕ) : EReal := ∑ k ∈ Finset.range n, Ideal.exp2 (x k - top x n) * v k

theorem exp2_nonneg (z : EReal) : 0 ≤ Ideal.exp2 z := by
  induction z with
  | bot => exact le_rfl
  | top => exact le_top
  | coe r => exact EReal.coe_nonneg.mpr (Real.rpow_nonneg (by norm_num) r)

theorem exp2_ne_top {z : EReal} (h : z ≠ ⊤) : Ideal.exp2 z ≠ ⊤ := by
  induction z with
  | bot => exact EReal.zero_ne_top
  | top => exact absurd rfl h
  | coe r => exact EReal.coe_ne_top _

theorem sub_ne_top {x y : EReal} (h : x ≤ y) : x - y ≠ ⊤ := by
  induction x with
  | bot => rw [EReal.bot_sub]; exact bot_ne_top
  | top => rw [top_le_iff.mp h]; decide
  | coe r =>
    induction y with
    | bot => exact absurd h (by simp)
    | top => simp
    | coe t => rw [← EReal.coe_sub]; exact EReal.coe_ne_top _

/-- A weight against a lower greatest score, rescaled. -/
theorem rescale {x m t : EReal} (h : x ≤ m) (h' : m ≤ t) : Ideal.exp2 (m - t) * Ideal.exp2 (x - m) = Ideal.exp2 (x - t) := by
  induction x with
  | bot => simp only [EReal.bot_sub, Ideal.exp2_bot, mul_zero]
  | top =>
    rw [top_le_iff.mp h] at h' ⊢
    rw [top_le_iff.mp h']
    simp [show (⊤ : EReal) - ⊤ = ⊥ from rfl]
  | coe r =>
    induction m with
    | bot => exact absurd h (by simp)
    | top => rw [top_le_iff.mp h']; simp [show (⊤ : EReal) - ⊤ = ⊥ from rfl]
    | coe s =>
      induction t with
      | bot => exact absurd h' (by simp)
      | top => simp
      | coe t =>
        rw [← EReal.coe_sub, ← EReal.coe_sub, ← EReal.coe_sub, Ideal.exp2_coe, Ideal.exp2_coe, Ideal.exp2_coe, ← EReal.coe_mul]
        refine congrArg _ ?_
        show (2 : ℝ) ^ (s - t) * (2 : ℝ) ^ (r - s) = (2 : ℝ) ^ (r - t)
        rw [← Real.rpow_add (by norm_num)]
        congr 1
        ring

theorem mul_sum {ι : Type} {c : EReal} (h0 : 0 ≤ c) (h1 : c ≠ ⊤) (s : Finset ι) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 h1, ih]

theorem sum_range_add (f : ℕ → EReal) (n b : ℕ) :
    ∑ k ∈ Finset.range (n + b), f k = ∑ k ∈ Finset.range n, f k + ∑ k : Fin b, f (n + k.val) := by
  rw [Finset.sum_range_add, ← Finset.sum_range (fun k => f (n + k))]

theorem top_add (x : ℕ → EReal) (n b : ℕ) : top x (n + b) = max (top x n) ((Finset.univ : Finset (Fin b)).sup fun k => x (n + k.val)) := by
  refine le_antisymm (Finset.sup_le fun k hk => ?_) (max_le (Finset.sup_mono (by simp)) (Finset.sup_le fun k _ => ?_))
  · rw [Finset.mem_range] at hk
    by_cases h : k < n
    · exact le_max_of_le_left (Finset.le_sup (f := x) (Finset.mem_range.mpr h))
    · refine le_max_of_le_right ?_
      have := Finset.le_sup (f := fun k : Fin b => x (n + k.val)) (Finset.mem_univ (⟨k - n, by omega⟩ : Fin b))
      simpa [show n + (k - n) = k by omega] using this
  · exact Finset.le_sup (f := x) (Finset.mem_range.mpr (by omega))

theorem top_mono (x : ℕ → EReal) {n p : ℕ} (h : n ≤ p) : top x n ≤ top x p := Finset.sup_mono (by simpa using h)

theorem den_add (x : ℕ → EReal) (n b : ℕ) :
    den x (n + b) = Ideal.exp2 (top x n - top x (n + b)) * den x n + ∑ k : Fin b, Ideal.exp2 (x (n + k.val) - top x (n + b)) := by
  unfold den
  rw [sum_range_add, mul_sum (exp2_nonneg _) (exp2_ne_top (sub_ne_top (top_mono x (by omega))))]
  congr 1
  exact Finset.sum_congr rfl fun k hk => (rescale (Finset.le_sup (f := x) hk) (top_mono x (by omega))).symm

theorem num_add (x v : ℕ → EReal) (n b : ℕ) :
    num x v (n + b) = Ideal.exp2 (top x n - top x (n + b)) * num x v n
      + ∑ k : Fin b, Ideal.exp2 (x (n + k.val) - top x (n + b)) * v (n + k.val) := by
  unfold num
  rw [sum_range_add, mul_sum (exp2_nonneg _) (exp2_ne_top (sub_ne_top (top_mono x (by omega))))]
  congr 1
  refine Finset.sum_congr rfl fun k hk => ?_
  rw [← rescale (show x k ≤ top x n from Finset.le_sup (f := x) hk) (top_mono x (Nat.le_add_right n b)), mul_assoc]

/-- Keys of no weight past the `n`-th change nothing. -/
theorem top_past (x : ℕ → EReal) {n p : ℕ} (h : n ≤ p) (hx : ∀ k, n ≤ k → k < p → x k = ⊥) : top x p = top x n := by
  refine le_antisymm (Finset.sup_le fun k hk => ?_) (top_mono x h)
  by_cases hn : k < n
  · exact Finset.le_sup (f := x) (Finset.mem_range.mpr hn)
  · rw [hx k (by omega) (Finset.mem_range.mp hk)]; exact bot_le

theorem den_past (x : ℕ → EReal) {n p : ℕ} (h : n ≤ p) (hx : ∀ k, n ≤ k → k < p → x k = ⊥) : den x p = den x n := by
  unfold den
  rw [top_past x h hx]
  refine (Finset.sum_subset (by simpa using h) fun k hk hn => ?_).symm
  rw [hx k (by simpa using hn) (Finset.mem_range.mp hk), EReal.bot_sub, Ideal.exp2_bot]

theorem num_past (x v : ℕ → EReal) {n p : ℕ} (h : n ≤ p) (hx : ∀ k, n ≤ k → k < p → x k = ⊥) : num x v p = num x v n := by
  unfold num
  rw [top_past x h hx]
  refine (Finset.sum_subset (by simpa using h) fun k hk hn => ?_).symm
  rw [hx k (by simpa using hn) (Finset.mem_range.mp hk), EReal.bot_sub, Ideal.exp2_bot, zero_mul]

/-- Where some score is finite and none is infinite above, the sum of the weights is a positive real. -/
theorem den_pos (x : ℕ → EReal) (n k₀ : ℕ) (hk : k₀ < n) (h0 : x k₀ ≠ ⊥) (h1 : ∀ k, x k ≠ ⊤) :
    ∃ r : ℝ, r ≠ 0 ∧ den x n = (r : EReal) := by
  obtain ⟨j, hj, hm⟩ := Finset.exists_mem_eq_sup (Finset.range n) ⟨k₀, Finset.mem_range.mpr hk⟩ x
  have ht : top x n = x j := hm
  have hb : x j ≠ ⊥ := fun e => h0 (le_bot_iff.mp (e ▸ ht ▸ Finset.le_sup (f := x) (Finset.mem_range.mpr hk)))
  have hnn : 0 ≤ den x n := Finset.sum_nonneg fun k _ => exp2_nonneg _
  have hle : Ideal.exp2 (x j - top x n) ≤ den x n := Finset.single_le_sum (f := fun k => Ideal.exp2 (x k - top x n)) (fun k _ => exp2_nonneg _) hj
  have hone : Ideal.exp2 (x j - top x n) = 1 := by
    rw [ht, ← EReal.coe_toReal (h1 j) hb, ← EReal.coe_sub, sub_self, Ideal.exp2_coe]
    show ((((2 : ℝ) ^ (0 : ℝ)) : ℝ) : EReal) = 1
    rw [Real.rpow_zero]; rfl
  have hfin : den x n ≠ ⊤ := by
    unfold den
    have : ∀ s : Finset ℕ, s ⊆ Finset.range n → ∑ k ∈ s, Ideal.exp2 (x k - top x n) ≠ ⊤ := by
      intro s
      induction s using Finset.induction_on with
      | empty => intro _; simp
      | insert a s ha ih =>
        intro hs
        rw [Finset.sum_insert ha]
        refine EReal.add_ne_top (exp2_ne_top (sub_ne_top (Finset.le_sup (f := x) (hs (Finset.mem_insert_self a s))))) (ih fun y hy => hs (Finset.mem_insert_of_mem hy))
    exact this _ (Finset.Subset.refl _)
  rw [hone] at hle
  refine ⟨(den x n).toReal, ?_, (EReal.coe_toReal hfin (fun e => by rw [e] at hnn; exact absurd hnn (by simp))).symm⟩
  intro e
  have := EReal.coe_toReal hfin (fun e => by rw [e] at hnn; exact absurd hnn (by simp))
  rw [e] at this
  rw [← this] at hle
  exact absurd hle (by norm_num)

/-- The weighted sum over the sum of the weights is the sum of the values by their shares. -/
theorem share (x v : ℕ → EReal) (n : ℕ) (h : ∃ r : ℝ, r ≠ 0 ∧ den x n = (r : EReal)) (hp : 0 ≤ den x n) :
    Ideal.div (num x v n) (den x n) = ∑ k ∈ Finset.range n, v k * Ideal.div (Ideal.exp2 (x k - top x n)) (den x n) := by
  obtain ⟨r, hr, e⟩ := h
  rw [e] at hp ⊢
  have hr' : 0 ≤ r := EReal.coe_nonneg.mp hp
  have h0 : (0 : EReal) ≤ ((1 / r : ℝ) : EReal) := EReal.coe_nonneg.mpr (by positivity)
  rw [Ideal.div_coe hr, mul_comm, num, mul_sum h0 (EReal.coe_ne_top _)]
  refine Finset.sum_congr rfl fun k _ => ?_
  rw [Ideal.div_coe hr, mul_comm, mul_comm (v k), mul_right_comm]

/-- `2^z` at a score scaled by `1/ln 2` is the exponential of the score. -/
theorem exp2_mul_log (z : EReal) : Ideal.exp (z * ((Real.log 2 : ℝ) : EReal)) = Ideal.exp2 z := by
  have hl : 0 < Real.log 2 := Real.log_pos (by norm_num)
  induction z with
  | bot => rw [EReal.bot_mul_coe_of_pos hl]; rfl
  | top => rw [EReal.top_mul_coe_of_pos hl]; rfl
  | coe r =>
    rw [← EReal.coe_mul, Ideal.exp_coe, Ideal.exp2_coe]
    refine congrArg _ ?_
    show Real.exp (r * Real.log 2) = (2 : ℝ) ^ r
    rw [Real.rpow_def_of_pos (by norm_num), mul_comm]

end Cert.Attn

end
-- ==== Proof.Attn.Step.lean ====
/- One step of the running softmax, read at the reals entry by entry. -/
module

public import proofs.«01_k».proof.Proof.Attn.Soft
public import proofs.«01_k».proof.Proof.Gen.Kernel2Ideal.Skeleton
public import Idealize.ShloMosaic.Lib.Pointwise
public import Idealize.ShloMosaic.Lib.MatmulPlain

@[expose] public section

noncomputable section

namespace Cert.Kernel2Ideal.Hand

open Cert.Kernel2Ideal Cert.Kernel2Ideal.Gen Cert.Attn
open Idealize.ShloMosaic

/-- The word of the scores left out is the least real. -/
theorem low : Ideal.ofBits .f32 0xFF800000#32 = (⊥ : EReal) := by
  simp [Ideal.ofBits, Ideal.ieee]

/-- A row of the product of a block of queries and a block of keys. -/
theorem score_apply (q k : S1024x256.Idx → EReal) (r j : Fin 1024) :
    k0_pay3 (F := Ideal) q k (ix2 r j) = ∑ d : Fin 256, q (ix2 r d) * k (ix2 j d) := by
  pointwise [k0_pay3]

theorem max_apply (q k : S1024x256.Idx → EReal) (a : S1024x1.Idx → EReal) (r : Fin 1024) :
    k0_pay4 (F := Ideal) q a k (ix2 r 0) = max (a (ix2 r 0)) (Finset.univ.sup fun j : Fin 1024 => k0_pay3 (F := Ideal) q k (ix2 r j)) := by
  pointwise [k0_pay4]
  rw [low]
  rfl

theorem sum_apply (q k : S1024x256.Idx → EReal) (a l : S1024x1.Idx → EReal) (r : Fin 1024) :
    k0_pay7 (F := Ideal) q a l k (ix2 r 0) = Ideal.exp2 (a (ix2 r 0) - k0_pay4 (F := Ideal) q a k (ix2 r 0)) * l (ix2 r 0)
      + ∑ j : Fin 1024, Ideal.exp2 (k0_pay3 (F := Ideal) q k (ix2 r j) - k0_pay4 (F := Ideal) q a k (ix2 r 0)) := by
  pointwise [k0_pay7, k0_pay6, k0_pay5]
  rfl

theorem acc_apply (q k : S1024x256.Idx → EReal) (a : S1024x1.Idx → EReal) (z v : S1024x128.Idx → EReal) (r : Fin 1024) (c : Fin 128) :
    k0_pay8 (F := Ideal) q a z k v (ix2 r c) = Ideal.exp2 (a (ix2 r 0) - k0_pay4 (F := Ideal) q a k (ix2 r 0)) * z (ix2 r c)
      + ∑ j : Fin 1024, Ideal.exp2 (k0_pay3 (F := Ideal) q k (ix2 r j) - k0_pay4 (F := Ideal) q a k (ix2 r 0)) * v (ix2 j c) := by
  pointwise [k0_pay8, k0_pay6, k0_pay5]
  rfl

theorem first_apply (r : Fin 1024) : k0_pay31 (F := Ideal) (ix2 r 0) = (⊥ : EReal) := by
  pointwise [k0_pay31]
  exact low
theorem none_apply (r : Fin 1024) : k0_pay32 (F := Ideal) (ix2 r 0) = (0 : EReal) := by
  pointwise [k0_pay32]
theorem blank_apply (r : Fin 1024) (c : Fin 128) : k0_pay33 (F := Ideal) (ix2 r c) = (0 : EReal) := by
  pointwise [k0_pay33]

/-- The chunk of a row's position. -/
theorem rowChunk_apply (r j : Fin 1024) : k0_pay38 k0_pay36 k0_pay37 1#32 (ix2 r j) = BitVec.ofNat 32 (r.val / 64) := by
  pointwise [k0_pay38, k0_pay36, k0_pay37]
  revert r
  decide +kernel
theorem colChunk_apply (r j : Fin 1024) : k0_pay39 (ix2 r j) = BitVec.ofNat 32 (j.val / 64) := by
  pointwise [k0_pay39]
  clear r
  revert j
  decide +kernel

/-- A score of the diagonal block. -/
theorem diag_apply (q k : S1024x256.Idx → EReal) (r j : Fin 1024) :
    k0_pay40 (F := Ideal) q k0_pay36 k0_pay37 1#32 k (ix2 r j) = if j.val / 64 ≤ r.val / 64 then k0_pay3 (F := Ideal) q k (ix2 r j) else ⊥ := by
  have h : (k0_pay40 (F := Ideal) q k0_pay36 k0_pay37 1#32 k (ix2 r j) : EReal)
      = Scalar.select (IntOp.cmpi .sle (k0_pay39 (ix2 r j)) (k0_pay38 k0_pay36 k0_pay37 1#32 (ix2 r j)))
        (k0_pay3 (F := Ideal) q k (ix2 r j)) (Ideal.ofBits .f32 0xFF800000#32) := rfl
  rw [h, rowChunk_apply, colChunk_apply, low]
  have e : (BitVec.ofNat 32 (j.val / 64)).sle (BitVec.ofNat 32 (r.val / 64)) = decide (j.val / 64 ≤ r.val / 64) := by
    have hj := j.isLt
    have hr := r.isLt
    rw [BitVec.sle_eq_decide, BitVec.toInt_eq_toNat_of_lt, BitVec.toInt_eq_toNat_of_lt]
    · rw [BitVec.toNat_ofNat, BitVec.toNat_ofNat, Nat.mod_eq_of_lt (by omega), Nat.mod_eq_of_lt (by omega)]
      exact decide_eq_decide.mpr Int.ofNat_le
    · rw [BitVec.toNat_ofNat, Nat.mod_eq_of_lt (by omega)]; omega
    · rw [BitVec.toNat_ofNat, Nat.mod_eq_of_lt (by omega)]; omega
  unfold Scalar.select IntOp.cmpi
  by_cases hc : j.val / 64 ≤ r.val / 64
  · simp [e, hc]
  · simp [e, hc]

theorem diagMax_apply (q k : S1024x256.Idx → EReal) (a : S1024x1.Idx → EReal) (r : Fin 1024) :
    k0_pay41 (F := Ideal) q a k0_pay36 k0_pay37 1#32 k (ix2 r 0)
      = max (a (ix2 r 0)) (Finset.univ.sup fun j : Fin 1024 => k0_pay40 (F := Ideal) q k0_pay36 k0_pay37 1#32 k (ix2 r j)) := by
  pointwise [k0_pay41]
  rw [low]
  rfl

/-- What a point stores of one head. -/
theorem last_apply (q k : S1024x256.Idx → EReal) (a l : S1024x1.Idx → EReal) (z v : S1024x128.Idx → EReal) (r : Fin 1024) (c : Fin 128) :
    k0_pay1 (F := Ideal) z (k0_pay42 (F := Ideal) q a k0_pay36 k0_pay37 1#32 k) (k0_pay44 (F := Ideal) q a l k0_pay36 k0_pay37 1#32 k)
        (k0_pay45 (F := Ideal) q a k0_pay36 k0_pay37 1#32 k) v (ix2 r c)
      = Ideal.div (Ideal.exp2 (a (ix2 r 0) - k0_pay41 (F := Ideal) q a k0_pay36 k0_pay37 1#32 k (ix2 r 0)) * z (ix2 r c)
          + ∑ j : Fin 1024, Ideal.exp2 (k0_pay40 (F := Ideal) q k0_pay36 k0_pay37 1#32 k (ix2 r j) - k0_pay41 (F := Ideal) q a k0_pay36 k0_pay37 1#32 k (ix2 r 0)) * v (ix2 j c))
        (Ideal.exp2 (a (ix2 r 0) - k0_pay41 (F := Ideal) q a k0_pay36 k0_pay37 1#32 k (ix2 r 0)) * l (ix2 r 0)
          + ∑ j : Fin 1024, Ideal.exp2 (k0_pay40 (F := Ideal) q k0_pay36 k0_pay37 1#32 k (ix2 r j) - k0_pay41 (F := Ideal) q a k0_pay36 k0_pay37 1#32 k (ix2 r 0))) := by
  pointwise [k0_pay1, k0_pay42, k0_pay44, k0_pay45, k0_pay43]
  rfl

/-- The second head's payloads are the first's. -/
theorem second (q : S1024x256.Idx → EReal) (a l : S1024x1.Idx → EReal) (z : S1024x128.Idx → EReal) (k : S1024x256.Idx → EReal) (v : S1024x128.Idx → EReal) :
    k0_pay2 (F := Ideal) q a l z (k0_pay38 k0_pay36 k0_pay37 1#32) k0_pay39 k v
      = k0_pay1 (F := Ideal) z (k0_pay42 (F := Ideal) q a k0_pay36 k0_pay37 1#32 k) (k0_pay44 (F := Ideal) q a l k0_pay36 k0_pay37 1#32 k)
        (k0_pay45 (F := Ideal) q a k0_pay36 k0_pay37 1#32 k) v := rfl

end Cert.Kernel2Ideal.Hand
-- ==== Proof.Attn.Head.lean ====
/- One head of a point: what the walk over the blocks of keys carries, as running maximum, denominator and numerator. -/
module

public import proofs.«01_k».proof.Proof.Attn.Step

@[expose] public section

noncomputable section

namespace Cert.Kernel2Ideal.Hand

open Cert.Kernel2Ideal Cert.Kernel2Ideal.Gen Cert.Attn
open Idealize.ShloMosaic

/-- The three carried arrays after `n` keys, scores `x` and values `w`. -/
structure Held (x : Fin 1024 → ℕ → EReal) (w : Fin 128 → ℕ → EReal) (n : ℕ) (a l : S1024x1.Idx → EReal) (z : S1024x128.Idx → EReal) : Prop where
  /-- the largest score -/
  a : ∀ r, a (ix2 r 0) = top (x r) n
  /-- the sum of the weights -/
  l : ∀ r, l (ix2 r 0) = den (x r) n
  /-- the weighted sum of the values -/
  z : ∀ r c, z (ix2 r c) = num (x r) (w c) n

theorem held_zero (x : Fin 1024 → ℕ → EReal) (w : Fin 128 → ℕ → EReal) :
    Held x w 0 (k0_pay31 (F := Ideal)) (k0_pay32 (F := Ideal)) (k0_pay33 (F := Ideal)) where
  a r := (first_apply r).trans (by simp [top])
  l r := (none_apply r).trans (by simp [den])
  z r c := (blank_apply r c).trans (by simp [num])

theorem held_step {x : Fin 1024 → ℕ → EReal} {w : Fin 128 → ℕ → EReal} {n : ℕ} {a l : S1024x1.Idx → EReal} {z : S1024x128.Idx → EReal}
    (q k : S1024x256.Idx → EReal) (v : S1024x128.Idx → EReal) (h : Held x w n a l z)
    (hx : ∀ r j : Fin 1024, x r (n + j.val) = k0_pay3 (F := Ideal) q k (ix2 r j)) (hw : ∀ (j : Fin 1024) c, w c (n + j.val) = v (ix2 j c)) :
    Held x w (n + 1024) (k0_pay4 (F := Ideal) q a k) (k0_pay7 (F := Ideal) q a l k) (k0_pay8 (F := Ideal) q a z k v) := by
  have e : ∀ r, k0_pay4 (F := Ideal) q a k (ix2 r 0) = top (x r) (n + 1024) := fun r => by
    rw [max_apply, top_add, h.a]
    simp only [hx]
  refine ⟨e, fun r => ?_, fun r c => ?_⟩
  · rw [sum_apply, den_add, e, h.a, h.l]
    simp only [hx]
  · rw [acc_apply, num_add, e, h.a, h.z]
    simp only [hx, hw]

theorem held_last {x : Fin 1024 → ℕ → EReal} {w : Fin 128 → ℕ → EReal} {n : ℕ} {a l : S1024x1.Idx → EReal} {z : S1024x128.Idx → EReal}
    (q k : S1024x256.Idx → EReal) (v : S1024x128.Idx → EReal) (h : Held x w n a l z)
    (hx : ∀ r j : Fin 1024, x r (n + j.val) = if j.val / 64 ≤ r.val / 64 then k0_pay3 (F := Ideal) q k (ix2 r j) else ⊥)
    (hw : ∀ (j : Fin 1024) c, w c (n + j.val) = v (ix2 j c)) (r : Fin 1024) (c : Fin 128) :
    k0_pay1 (F := Ideal) z (k0_pay42 (F := Ideal) q a k0_pay36 k0_pay37 1#32 k) (k0_pay44 (F := Ideal) q a l k0_pay36 k0_pay37 1#32 k)
        (k0_pay45 (F := Ideal) q a k0_pay36 k0_pay37 1#32 k) v (ix2 r c)
      = Ideal.div (num (x r) (w c) (n + 1024)) (den (x r) (n + 1024)) := by
  have hd : ∀ j : Fin 1024, k0_pay40 (F := Ideal) q k0_pay36 k0_pay37 1#32 k (ix2 r j) = x r (n + j.val) := fun j =>
    (diag_apply q k r j).trans (hx r j).symm
  have e : k0_pay41 (F := Ideal) q a k0_pay36 k0_pay37 1#32 k (ix2 r 0) = top (x r) (n + 1024) := by
    rw [diagMax_apply, top_add, h.a]
    simp only [hd]
  rw [last_apply, num_add, den_add, e, h.a, h.l, h.z]
  simp only [hd, hw]

end Cert.Kernel2Ideal.Hand
-- ==== Proof.Attn.Walk.lean ====
/- What a point stores: the walk over the blocks of keys before the diagonal, and the diagonal block. -/
module

public import proofs.«01_k».proof.Proof.Attn.Head
public import proofs.«01_k».proof.Proof.Gen.Kernel2Ideal.Value

@[expose] public section

noncomputable section

namespace Cert.Kernel2Ideal.Hand

open Cert.Kernel2Ideal Cert.Kernel2Ideal.Gen Cert.Attn
open Idealize.ShloMosaic

/-- A load of 1024 rows and 256 columns of the point's queries. -/
theorem loadQ (m : Memref sig .tc .vmem S1024x512 .bf16) (hm : m.IsWhole) (d : S1024x512.Idx → EReal) (off : Fin 2 → ℕ)
    (inb : ∀ a, off a + S1024x256.size a ≤ S1024x512.size a) (p : ℕ) (hp : p + 256 ≤ 512) (ho : off = ![0, p]) (r : Fin 1024) (j : Fin 256) :
    View.readAt (Elt Ideal) m.view (Rect.unit (s := S1024x512) off S1024x256.size inb).toLoadRect (hm.unread d) (ix2 r j)
      = d (ix2 r ⟨p + j.val, by omega⟩) := by
  subst ho
  rw [View.readAt_eq_ld, Memref.IsWhole.read_unread]
  pointwise

/-- A load of 1024 rows and 256 columns of the point's keys. -/
theorem loadK (m : Memref sig .tc .vmem S8192x512 .bf16) (hm : m.IsWhole) (d : S8192x512.Idx → EReal) (off : Fin 2 → ℕ)
    (inb : ∀ a, off a + S1024x256.size a ≤ S8192x512.size a) (o p : ℕ) (h : o + 1024 ≤ 8192) (hp : p + 256 ≤ 512) (ho : off = ![o, p]) (r : Fin 1024) (j : Fin 256) :
    View.readAt (Elt Ideal) m.view (Rect.unit (s := S8192x512) off S1024x256.size inb).toLoadRect (hm.unread d) (ix2 r j)
      = d (ix2 ⟨o + r.val, by omega⟩ ⟨p + j.val, by omega⟩) := by
  subst ho
  rw [View.readAt_eq_ld, Memref.IsWhole.read_unread]
  pointwise

/-- A load of 1024 rows and 128 columns of the point's values. -/
theorem loadV (m : Memref sig .tc .vmem S8192x256 .bf16) (hm : m.IsWhole) (d : S8192x256.Idx → EReal) (off : Fin 2 → ℕ)
    (inb : ∀ a, off a + S1024x128.size a ≤ S8192x256.size a) (o p : ℕ) (h : o + 1024 ≤ 8192) (hp : p + 128 ≤ 256) (ho : off = ![o, p]) (r : Fin 1024) (j : Fin 128) :
    View.readAt (Elt Ideal) m.view (Rect.unit (s := S8192x256) off S1024x128.size inb).toLoadRect (hm.unread d) (ix2 r j)
      = d (ix2 ⟨o + r.val, by omega⟩ ⟨p + j.val, by omega⟩) := by
  subst ho
  rw [View.readAt_eq_ld, Memref.IsWhole.read_unread]
  pointwise

/-- The blocks before the diagonal are as many as the point's third coordinate. -/
theorem trips1 (i : grid0.Coords) : Scf.trips (k0_t1_loop i).lb (k0_t1_loop i).ub (k0_t1_loop i).st = (i 2).val := by
  have h : ∀ x : Fin 8, Scf.trips (0#32) (Scalar.addi 0#32 (Scalar.muli (Scalar.divsi (Scalar.subi (BitVec.ofNat 32 x.val) 0#32) 1#32) 1#32)) 1#32 = x.val := by
    decide +kernel
  exact h (i 2)
theorem trips2 (i : grid0.Coords) : Scf.trips (k0_t2_loop i).lb (k0_t2_loop i).ub (k0_t2_loop i).st = 0 := by
  have h : ∀ x : Fin 8, Scf.trips (Scalar.addi 0#32 (Scalar.muli (Scalar.divsi (Scalar.subi (BitVec.ofNat 32 x.val) 0#32) 1#32) 1#32))
      (Scalar.addi 0#32 (Scalar.subi (BitVec.ofNat 32 x.val) 0#32)) 1#32 = 0 := by
    decide +kernel
  exact h (i 2)

theorem word (x : Fin 8) : (Scalar.indexCast (Scalar.muli (BitVec.ofNat 32 x.val) 1024#32)).toNat = x.val * 1024 := by
  revert x; decide +kernel
theorem word' (x : Fin 8) : (Scalar.indexCast (Scalar.muli (Scf.iv 0#32 1#32 x.val) 1024#32)).toNat = x.val * 1024 := by
  revert x; decide +kernel

theorem k_lt (i : grid0.Coords) (k : Fin (k0_t1_loop i).trips) : k.val < (i 2).val := lt_of_lt_of_eq k.isLt (trips1 i)
theorem k_lt8 (i : grid0.Coords) (k : Fin (k0_t1_loop i).trips) : k.val < 8 := (k_lt i k).trans (i 2).isLt

theorem off1 (i : grid0.Coords) (k : Fin (k0_t1_loop i).trips) : k0_off1 i k = ![k.val * 1024, 0] :=
  congrArg (fun n => ![n, 0]) (word' ⟨k.val, k_lt8 i k⟩)
theorem off2 (i : grid0.Coords) (k : Fin (k0_t1_loop i).trips) : k0_off2 i k = ![k.val * 1024, 0] :=
  congrArg (fun n => ![n, 0]) (word' ⟨k.val, k_lt8 i k⟩)
theorem off3 (i : grid0.Coords) (k : Fin (k0_t1_loop i).trips) : k0_off3 i k = ![k.val * 1024, 256] :=
  congrArg (fun n => ![n, 256]) (word' ⟨k.val, k_lt8 i k⟩)
theorem off4 (i : grid0.Coords) (k : Fin (k0_t1_loop i).trips) : k0_off4 i k = ![k.val * 1024, 128] :=
  congrArg (fun n => ![n, 128]) (word' ⟨k.val, k_lt8 i k⟩)
theorem off9 (i : grid0.Coords) : k0_off9 i = ![(i 2).val * 1024, 0] := congrArg (fun n => ![n, 0]) (word (i 2))
theorem off10 (i : grid0.Coords) : k0_off10 i = ![(i 2).val * 1024, 0] := congrArg (fun n => ![n, 0]) (word (i 2))
theorem off11 (i : grid0.Coords) : k0_off11 i = ![(i 2).val * 1024, 256] := congrArg (fun n => ![n, 256]) (word (i 2))
theorem off12 (i : grid0.Coords) : k0_off12 i = ![(i 2).val * 1024, 128] := congrArg (fun n => ![n, 128]) (word (i 2))

/-- The score of a query row and a key, of the columns from `p`. -/
def score (x0 : S1024x512.Idx → EReal) (x1 : S8192x512.Idx → EReal) (p : ℕ) (hp : p + 256 ≤ 512) (r : Fin 1024) (k : Fin 8192) : EReal :=
  ∑ d : Fin 256, x0 (ix2 r ⟨p + d.val, by omega⟩) * x1 (ix2 k ⟨p + d.val, by omega⟩)

/-- The scores of a query row of block `b`, the keys it does not see at the least real. -/
def seen (x0 : S1024x512.Idx → EReal) (x1 : S8192x512.Idx → EReal) (p : ℕ) (hp : p + 256 ≤ 512) (b : ℕ) (r : Fin 1024) (k : ℕ) : EReal :=
  if h : k < 8192 then if k / 64 ≤ (b * 1024 + r.val) / 64 then score x0 x1 p hp r ⟨k, h⟩ else ⊥ else ⊥

/-- A column of the values. -/
def val (x2 : S8192x256.Idx → EReal) (p : ℕ) (hp : p + 128 ≤ 256) (c : Fin 128) (k : ℕ) : EReal :=
  if h : k < 8192 then x2 (ix2 ⟨k, h⟩ ⟨p + c.val, by omega⟩) else 0

variable (c : Dev nD) (i : grid0.Coords)
  (arg3 : Memref sig .tc .vmem S1024x512 .bf16) (harg3 : arg3.IsWhole) (arg4 : Memref sig .tc .vmem S8192x512 .bf16) (harg4 : arg4.IsWhole)
  (arg5 : Memref sig .tc .vmem S8192x256 .bf16) (harg5 : arg5.IsWhole) (arg6 : Memref sig .tc .vmem S1024x256 .f32) (harg6 : arg6.IsWhole)
  (x0 : S1024x512.Idx → EReal) (x1 : S8192x512.Idx → EReal) (x2 : S8192x256.Idx → EReal)

/-- The queries of the first head. -/
abbrev qA : S1024x256.Idx → EReal :=
  View.readAt (Elt Ideal) arg3.view (Rect.unit (s := S1024x512) ![0, 0] S1024x256.size inb_S1024x512_S1024x256_0_0).toLoadRect (harg3.unread x0)
/-- The queries of the second head. -/
abbrev qB : S1024x256.Idx → EReal :=
  View.readAt (Elt Ideal) arg3.view (Rect.unit (s := S1024x512) ![0, 256] S1024x256.size inb_S1024x512_S1024x256_0_256).toLoadRect (harg3.unread x0)

/-- One block of the walk, both heads. -/
theorem trip_eq (q0 q1 : S1024x256.Idx → EReal) (k : Fin (k0_t1_loop i).trips) (a l : S1024x1.Idx → EReal) (z : S1024x128.Idx → EReal)
    (a' l' : S1024x1.Idx → EReal) (z' : S1024x128.Idx → EReal) :
    tripR_k0_t1 (F := Ideal) Variants.none c none i arg3 harg3 arg4 harg4 arg5 harg5 arg6 harg6 q0 q1 (harg4.unread x1) (harg5.unread x2) k (a, l, z, a', l', z')
      = (k0_pay4 (F := Ideal) (k0_pay29 (F := Ideal) q0) a (View.readAt (Elt Ideal) arg4.view (Rect.unit (s := S8192x512) (k0_off1 i k) S1024x256.size (k0_off1_inb i k)).toLoadRect (harg4.unread x1)),
         k0_pay7 (F := Ideal) (k0_pay29 (F := Ideal) q0) a l (View.readAt (Elt Ideal) arg4.view (Rect.unit (s := S8192x512) (k0_off1 i k) S1024x256.size (k0_off1_inb i k)).toLoadRect (harg4.unread x1)),
         k0_pay8 (F := Ideal) (k0_pay29 (F := Ideal) q0) a z (View.readAt (Elt Ideal) arg4.view (Rect.unit (s := S8192x512) (k0_off1 i k) S1024x256.size (k0_off1_inb i k)).toLoadRect (harg4.unread x1))
           (View.readAt (Elt Ideal) arg5.view (Rect.unit (s := S8192x256) (k0_off2 i k) S1024x128.size (k0_off2_inb i k)).toLoadRect (harg5.unread x2)),
         k0_pay4 (F := Ideal) (k0_pay30 (F := Ideal) q1) a' (View.readAt (Elt Ideal) arg4.view (Rect.unit (s := S8192x512) (k0_off3 i k) S1024x256.size (k0_off3_inb i k)).toLoadRect (harg4.unread x1)),
         k0_pay7 (F := Ideal) (k0_pay30 (F := Ideal) q1) a' l' (View.readAt (Elt Ideal) arg4.view (Rect.unit (s := S8192x512) (k0_off3 i k) S1024x256.size (k0_off3_inb i k)).toLoadRect (harg4.unread x1)),
         k0_pay8 (F := Ideal) (k0_pay30 (F := Ideal) q1) a' z' (View.readAt (Elt Ideal) arg4.view (Rect.unit (s := S8192x512) (k0_off3 i k) S1024x256.size (k0_off3_inb i k)).toLoadRect (harg4.unread x1))
           (View.readAt (Elt Ideal) arg5.view (Rect.unit (s := S8192x256) (k0_off4 i k) S1024x128.size (k0_off4_inb i k)).toLoadRect (harg5.unread x2))) := by
  unfold tripR_k0_t1 trip_k0_t1
  dsimp only
  rfl

theorem flatA (q : S1024x256.Idx → EReal) : k0_pay29 (F := Ideal) q = q := shapeCast_self _ _
theorem flatB (q : S1024x256.Idx → EReal) : k0_pay30 (F := Ideal) q = q := shapeCast_self _ _

/-- The carried arrays before block `n`. -/
abbrev carried (n : ℕ) :=
  st_k0_t1 (F := Ideal) Variants.none c none i arg3 harg3 arg4 harg4 arg5 harg5 arg6 harg6 (qA arg3 harg3 x0) (qB arg3 harg3 x0) (harg4.unread x1) (harg5.unread x2)
    (k0_pay31, k0_pay32, k0_pay33, k0_pay31, k0_pay32, k0_pay33) n

theorem seen_block (q k : S1024x256.Idx → EReal) (p : ℕ) (hp : p + 256 ≤ 512) (b n : ℕ) (hb : b < 8) (hn : n < b)
    (hq : ∀ r d, q (ix2 r d) = x0 (ix2 r ⟨p + d.val, by omega⟩))
    (hk : ∀ (r : Fin 1024) (d : Fin 256), k (ix2 r d) = x1 (ix2 ⟨n * 1024 + r.val, by omega⟩ ⟨p + d.val, by omega⟩)) (r j : Fin 1024) :
    seen x0 x1 p hp b r (n * 1024 + j.val) = k0_pay3 (F := Ideal) q k (ix2 r j) := by
  have h1 : n * 1024 + j.val < 8192 := by omega
  have h2 : (n * 1024 + j.val) / 64 ≤ (b * 1024 + r.val) / 64 := Nat.div_le_div_right (by omega)
  unfold seen
  rw [dif_pos h1, if_pos h2, score_apply]
  simp only [hq, hk, score]

theorem seen_diag (q k : S1024x256.Idx → EReal) (p : ℕ) (hp : p + 256 ≤ 512) (b : ℕ) (hb : b < 8)
    (hq : ∀ r d, q (ix2 r d) = x0 (ix2 r ⟨p + d.val, by omega⟩))
    (hk : ∀ (r : Fin 1024) (d : Fin 256), k (ix2 r d) = x1 (ix2 ⟨b * 1024 + r.val, by omega⟩ ⟨p + d.val, by omega⟩)) (r j : Fin 1024) :
    seen x0 x1 p hp b r (b * 1024 + j.val) = if j.val / 64 ≤ r.val / 64 then k0_pay3 (F := Ideal) q k (ix2 r j) else ⊥ := by
  have h1 : b * 1024 + j.val < 8192 := by omega
  have h2 : ((b * 1024 + j.val) / 64 ≤ (b * 1024 + r.val) / 64) ↔ (j.val / 64 ≤ r.val / 64) := by omega
  unfold seen
  rw [dif_pos h1, score_apply]
  simp only [hq, hk, score, h2]

theorem val_block (v : S1024x128.Idx → EReal) (p : ℕ) (hp : p + 128 ≤ 256) (n : ℕ) (hn : n < 8)
    (hv : ∀ (r : Fin 1024) (d : Fin 128), v (ix2 r d) = x2 (ix2 ⟨n * 1024 + r.val, by omega⟩ ⟨p + d.val, by omega⟩)) (j : Fin 1024) (e : Fin 128) :
    val x2 p hp e (n * 1024 + j.val) = v (ix2 j e) := by
  have h1 : n * 1024 + j.val < 8192 := by omega
  unfold val
  rw [dif_pos h1, hv]

/-- Both heads' arrays before block `n`. -/
theorem carried_held (n : ℕ) (hn : n ≤ (i 2).val) :
    Held (seen x0 x1 0 (by decide) (i 2).val) (val x2 0 (by decide)) (n * 1024) (carried c i arg3 harg3 arg4 harg4 arg5 harg5 arg6 harg6 x0 x1 x2 n).1
        (carried c i arg3 harg3 arg4 harg4 arg5 harg5 arg6 harg6 x0 x1 x2 n).2.1 (carried c i arg3 harg3 arg4 harg4 arg5 harg5 arg6 harg6 x0 x1 x2 n).2.2.1
    ∧ Held (seen x0 x1 256 (by decide) (i 2).val) (val x2 128 (by decide)) (n * 1024) (carried c i arg3 harg3 arg4 harg4 arg5 harg5 arg6 harg6 x0 x1 x2 n).2.2.2.1
        (carried c i arg3 harg3 arg4 harg4 arg5 harg5 arg6 harg6 x0 x1 x2 n).2.2.2.2.1 (carried c i arg3 harg3 arg4 harg4 arg5 harg5 arg6 harg6 x0 x1 x2 n).2.2.2.2.2 := by
  induction n with
  | zero =>
    rw [Nat.zero_mul]
    exact ⟨held_zero _ _, held_zero _ _⟩
  | succ n ih =>
    have hi : (i 2).val < 8 := (i 2).isLt
    have h8 : n < 8 := by omega
    have hk : n < (k0_t1_loop i).trips := lt_of_lt_of_eq (Nat.lt_of_succ_le hn) (trips1 i).symm
    have ih := ih (by omega)
    have e := st_k0_t1_succ (F := Ideal) Variants.none c none i arg3 harg3 arg4 harg4 arg5 harg5 arg6 harg6 (qA arg3 harg3 x0) (qB arg3 harg3 x0) (harg4.unread x1) (harg5.unread x2)
      (k0_pay31, k0_pay32, k0_pay33, k0_pay31, k0_pay32, k0_pay33) ⟨n, hk⟩
    have e' := e.trans (trip_eq c i arg3 harg3 arg4 harg4 arg5 harg5 arg6 harg6 x1 x2 (qA arg3 harg3 x0) (qB arg3 harg3 x0) ⟨n, hk⟩ _ _ _ _ _ _)
    rw [flatA, flatB] at e'
    unfold carried
    rw [show n + 1 = (⟨n, hk⟩ : Fin (k0_t1_loop i).trips).val + 1 from rfl, e', Nat.succ_mul]
    refine ⟨held_step _ _ _ ih.1 (seen_block x0 x1 _ _ 0 (by decide) _ n hi hn (fun r d => ?_) (fun r d => ?_)) (val_block x2 _ 0 (by decide) n h8 fun r d => ?_),
      held_step _ _ _ ih.2 (seen_block x0 x1 _ _ 256 (by decide) _ n hi hn (fun r d => ?_) (fun r d => ?_)) (val_block x2 _ 128 (by decide) n h8 fun r d => ?_)⟩
    · exact loadQ arg3 harg3 x0 _ _ 0 (by decide) rfl r d
    · exact loadK arg4 harg4 x1 _ _ (n * 1024) 0 (by omega) (by decide) (off1 i ⟨n, hk⟩) r d
    · exact loadV arg5 harg5 x2 _ _ (n * 1024) 0 (by omega) (by decide) (off2 i ⟨n, hk⟩) r d
    · exact loadQ arg3 harg3 x0 _ _ 256 (by decide) rfl r d
    · exact loadK arg4 harg4 x1 _ _ (n * 1024) 256 (by omega) (by decide) (off3 i ⟨n, hk⟩) r d
    · exact loadV arg5 harg5 x2 _ _ (n * 1024) 128 (by omega) (by decide) (off4 i ⟨n, hk⟩) r d

/-- One stored head: the arrays `a l z` held before the diagonal block, then that block. -/
abbrev stored (q k : S1024x256.Idx → EReal) (a l : S1024x1.Idx → EReal) (z v : S1024x128.Idx → EReal) : S1024x128.Idx → EReal :=
  k0_pay1 (F := Ideal) z (k0_pay42 (F := Ideal) q a k0_pay36 k0_pay37 1#32 k) (k0_pay44 (F := Ideal) q a l k0_pay36 k0_pay37 1#32 k)
    (k0_pay45 (F := Ideal) q a k0_pay36 k0_pay37 1#32 k) v

/-- The two pieces a point stores. -/
theorem pieces_eq : (kernelRun0_A (F := Ideal) c i arg3 harg3 arg4 harg4 arg5 harg5 arg6 harg6 x0 x1 x2).1
    = [⟨Rect.unit (s := S1024x256) ![0, 128] S1024x128.size inb_S1024x256_S1024x128_0_128,
          stored (k0_pay30 (F := Ideal) (qB arg3 harg3 x0)) (View.readAt (Elt Ideal) arg4.view (Rect.unit (s := S8192x512) (k0_off11 i) S1024x256.size (k0_off11_inb i)).toLoadRect (harg4.unread x1))
            (carried c i arg3 harg3 arg4 harg4 arg5 harg5 arg6 harg6 x0 x1 x2 (i 2).val).2.2.2.1
            (carried c i arg3 harg3 arg4 harg4 arg5 harg5 arg6 harg6 x0 x1 x2 (i 2).val).2.2.2.2.1
            (carried c i arg3 harg3 arg4 harg4 arg5 harg5 arg6 harg6 x0 x1 x2 (i 2).val).2.2.2.2.2
            (View.readAt (Elt Ideal) arg5.view (Rect.unit (s := S8192x256) (k0_off12 i) S1024x128.size (k0_off12_inb i)).toLoadRect (harg5.unread x2))⟩,
       ⟨Rect.unit (s := S1024x256) ![0, 0] S1024x128.size inb_S1024x256_S1024x128_0_0,
          stored (k0_pay29 (F := Ideal) (qA arg3 harg3 x0)) (View.readAt (Elt Ideal) arg4.view (Rect.unit (s := S8192x512) (k0_off9 i) S1024x256.size (k0_off9_inb i)).toLoadRect (harg4.unread x1))
            (carried c i arg3 harg3 arg4 harg4 arg5 harg5 arg6 harg6 x0 x1 x2 (i 2).val).1
            (carried c i arg3 harg3 arg4 harg4 arg5 harg5 arg6 harg6 x0 x1 x2 (i 2).val).2.1
            (carried c i arg3 harg3 arg4 harg4 arg5 harg5 arg6 harg6 x0 x1 x2 (i 2).val).2.2.1
            (View.readAt (Elt Ideal) arg5.view (Rect.unit (s := S8192x256) (k0_off10 i) S1024x128.size (k0_off10_inb i)).toLoadRect (harg5.unread x2))⟩] := by
  have w : ∀ x, st_k0_t2 (F := Ideal) Variants.none c none i arg3 harg3 arg4 harg4 arg5 harg5 arg6 harg6 (qA arg3 harg3 x0) (qB arg3 harg3 x0) (k0_t1_loop i).ub (harg4.unread x1) (harg5.unread x2)
      x (Scf.trips (k0_t2_loop i).lb (k0_t2_loop i).ub (k0_t2_loop i).st) = x := fun x => by rw [trips2]; rfl
  have t : carried c i arg3 harg3 arg4 harg4 arg5 harg5 arg6 harg6 x0 x1 x2 (i 2).val
      = carried c i arg3 harg3 arg4 harg4 arg5 harg5 arg6 harg6 x0 x1 x2 (Scf.trips (k0_t1_loop i).lb (k0_t1_loop i).ub (k0_t1_loop i).st) := by rw [trips1]
  rw [t]
  have w' := w (carried c i arg3 harg3 arg4 harg4 arg5 harg5 arg6 harg6 x0 x1 x2 (Scf.trips (k0_t1_loop i).lb (k0_t1_loop i).ub (k0_t1_loop i).st))
  generalize hS : carried c i arg3 harg3 arg4 harg4 arg5 harg5 arg6 harg6 x0 x1 x2 (Scf.trips (k0_t1_loop i).lb (k0_t1_loop i).ub (k0_t1_loop i).st) = S at w' ⊢
  rw [← w', ← hS]
  unfold kernelRun0_A
  dsimp only
  rfl

end Cert.Kernel2Ideal.Hand
-- ==== Proof.Attn.Point.lean ====
/- What a point leaves in its block of results, entry by entry. -/
module

public import proofs.«01_k».proof.Proof.Attn.Walk
public import Idealize.ShloMosaic.Lib.Writes

@[expose] public section

noncomputable section

namespace Cert.Kernel2Ideal.Hand

open Cert.Kernel2Ideal Cert.Kernel2Ideal.Gen Cert.Attn
open Idealize.ShloMosaic

theorem seen_past (x0 : S1024x512.Idx → EReal) (x1 : S8192x512.Idx → EReal) (p : ℕ) (hp : p + 256 ≤ 512) (b : ℕ) (r : Fin 1024) (k : ℕ)
    (h : b * 1024 + 1024 ≤ k) : seen x0 x1 p hp b r k = ⊥ := by
  unfold seen
  split
  · rw [if_neg (by omega)]
  · rfl

theorem pair {a b : ℕ} (y : (⟨2, ![a, b]⟩ : Shape).Idx) : ∃ (r : Fin a) (e : Fin b), y = ix2 r e :=
  ⟨y 0, y 1, funext fun d => match d with
    | ⟨0, _⟩ => rfl
    | ⟨1, _⟩ => rfl⟩

/-- One entry of a point's results. -/
def cell (x0 : S1024x512.Idx → EReal) (x1 : S8192x512.Idx → EReal) (x2 : S8192x256.Idx → EReal) (p : ℕ) (hp : p + 256 ≤ 512) (s : ℕ) (hs : s + 128 ≤ 256)
    (b : ℕ) (r : Fin 1024) (e : Fin 128) : EReal :=
  Ideal.div (num (seen x0 x1 p hp b r) (val x2 s hs e) 8192) (den (seen x0 x1 p hp b r) 8192)

variable (c : Dev nD) (i : grid0.Coords)
  (arg3 : Memref sig .tc .vmem S1024x512 .bf16) (harg3 : arg3.IsWhole) (arg4 : Memref sig .tc .vmem S8192x512 .bf16) (harg4 : arg4.IsWhole)
  (arg5 : Memref sig .tc .vmem S8192x256 .bf16) (harg5 : arg5.IsWhole) (arg6 : Memref sig .tc .vmem S1024x256 .f32) (harg6 : arg6.IsWhole)
  (x0 : S1024x512.Idx → EReal) (x1 : S8192x512.Idx → EReal) (x2 : S8192x256.Idx → EReal)

theorem cell_of (q k : S1024x256.Idx → EReal) (a l : S1024x1.Idx → EReal) (z v : S1024x128.Idx → EReal) (p : ℕ) (hp : p + 256 ≤ 512) (s : ℕ) (hs : s + 128 ≤ 256)
    (b : ℕ) (hb : b < 8) (h : Held (seen x0 x1 p hp b) (val x2 s hs) (b * 1024) a l z)
    (hq : ∀ r d, q (ix2 r d) = x0 (ix2 r ⟨p + d.val, by omega⟩))
    (hk : ∀ (r : Fin 1024) (d : Fin 256), k (ix2 r d) = x1 (ix2 ⟨b * 1024 + r.val, by omega⟩ ⟨p + d.val, by omega⟩))
    (hv : ∀ (r : Fin 1024) (d : Fin 128), v (ix2 r d) = x2 (ix2 ⟨b * 1024 + r.val, by omega⟩ ⟨s + d.val, by omega⟩)) (r : Fin 1024) (e : Fin 128) :
    stored q k a l z v (ix2 r e) = cell x0 x1 x2 p hp s hs b r e := by
  refine (held_last q k v h (seen_diag x0 x1 q k p hp b hb hq hk) (val_block x2 v s hs b hb hv) r e).trans ?_
  unfold cell
  have hz : ∀ j, b * 1024 + 1024 ≤ j → j < 8192 → seen x0 x1 p hp b r j = ⊥ := fun j hj _ => seen_past x0 x1 p hp b r j hj
  rw [num_past (seen x0 x1 p hp b r) (val x2 s hs e) (by omega : b * 1024 + 1024 ≤ 8192) hz, den_past (seen x0 x1 p hp b r) (by omega : b * 1024 + 1024 ≤ 8192) hz]

/-- The block of results of a point. -/
def block (b : ℕ) (y : S1024x256.Idx) : EReal :=
  if h : (y 1).val < 128 then cell x0 x1 x2 0 (by decide) 0 (by decide) b (y 0) ⟨(y 1).val, h⟩
  else cell x0 x1 x2 256 (by decide) 128 (by decide) b (y 0) ⟨(y 1).val - 128, by have := (y 1).isLt; have : S1024x256.size 1 = 256 := rfl; omega⟩

theorem out_eq : out0_A_3 (F := Ideal) c i arg3 harg3 arg4 harg4 arg5 harg5 arg6 harg6 x0 x1 x2 = block x0 x1 x2 (i 2).val := by
  have hi : (i 2).val < 8 := (i 2).isLt
  have hh := carried_held c i arg3 harg3 arg4 harg4 arg5 harg5 arg6 harg6 x0 x1 x2 (i 2).val le_rfl
  funext y
  unfold out0_A_3
  refine View.read_writes_apply_of_pieces VO0_3 _ (block x0 x1 x2 (i 2).val) _ ?_ y (cover0_A_3 (F := Ideal) c i arg3 harg3 arg4 harg4 arg5 harg5 arg6 harg6 x0 x1 x2 y)
  rw [pieces_eq, flatA, flatB]
  refine List.forall_mem_cons.mpr ⟨fun x => ?_, List.forall_mem_cons.mpr ⟨fun x => ?_, List.forall_mem_nil _⟩⟩
  · obtain ⟨r, e, rfl⟩ : ∃ (r : Fin 1024) (e : Fin 128), x = ix2 r e := pair x
    have he : ¬ ((((Rect.unit (s := S1024x256) ![0, 128] S1024x128.size inb_S1024x256_S1024x128_0_128).emb (ix2 r e)) 1).val < 128) := by
      show ¬ (128 + 1 * e.val < 128); omega
    refine (cell_of x0 x1 x2 _ _ _ _ _ _ 256 (by decide) 128 (by decide) (i 2).val hi hh.2 (fun r d => ?_) (fun r d => ?_) (fun r d => ?_) r e).trans ?_
    · exact loadQ arg3 harg3 x0 _ _ 256 (by decide) rfl r d
    · exact loadK arg4 harg4 x1 _ _ ((i 2).val * 1024) 256 (by omega) (by decide) (off11 i) r d
    · exact loadV arg5 harg5 x2 _ _ ((i 2).val * 1024) 128 (by omega) (by decide) (off12 i) r d
    · unfold block
      rw [dif_neg he]
      congr 1
      · exact Fin.ext (show r.val = 0 + 1 * r.val by omega)
      · exact Fin.ext (show e.val = 128 + 1 * e.val - 128 by omega)
  · obtain ⟨r, e, rfl⟩ : ∃ (r : Fin 1024) (e : Fin 128), x = ix2 r e := pair x
    have he : (((Rect.unit (s := S1024x256) ![0, 0] S1024x128.size inb_S1024x256_S1024x128_0_0).emb (ix2 r e)) 1).val < 128 := by
      show 0 + 1 * e.val < 128; omega
    refine (cell_of x0 x1 x2 _ _ _ _ _ _ 0 (by decide) 0 (by decide) (i 2).val hi hh.1 (fun r d => ?_) (fun r d => ?_) (fun r d => ?_) r e).trans ?_
    · exact loadQ arg3 harg3 x0 _ _ 0 (by decide) rfl r d
    · exact loadK arg4 harg4 x1 _ _ ((i 2).val * 1024) 0 (by omega) (by decide) (off9 i) r d
    · exact loadV arg5 harg5 x2 _ _ ((i 2).val * 1024) 0 (by omega) (by decide) (off10 i) r d
    · unfold block
      rw [dif_pos he]
      congr 1
      · exact Fin.ext (show r.val = 0 + 1 * r.val by omega)
      · exact Fin.ext (show e.val = 0 + 1 * e.val by omega)

end Cert.Kernel2Ideal.Hand
-- ==== Proof.Attn.Grid.lean ====
/- The array of results: every entry the quotient of its row's weighted sum of values and sum of weights. -/
module

public import proofs.«01_k».proof.Proof.Attn.Point
public import Idealize.ShloMosaic.Lib.Pipeline.ValueKit.Geometry

@[expose] public section

noncomputable section

namespace Cert.Kernel2Ideal.Hand

open Cert.Kernel2Ideal Cert.Kernel2Ideal.Gen Cert.Attn
open Idealize.ShloMosaic Idealize.ShloMosaic.TcCoe Idealize.SL.Sem
open Idealize.ShloMosaic.Pipeline (Dat)

/-- The scores of row `R` and head `h`, over the keys of the row's batch. -/
def keyed (Q K : S16384x1024.Idx → EReal) (R : Fin 16384) (h : Fin 4) (k : ℕ) : EReal :=
  if hk : k < 8192 then
    if k / 64 ≤ (R.val % 8192) / 64 then
      ∑ d : Fin 256, Q (ix2 R ⟨256 * h.val + d.val, by omega⟩) * K (ix2 ⟨R.val / 8192 * 8192 + k, by omega⟩ ⟨256 * h.val + d.val, by omega⟩)
    else ⊥
  else ⊥

/-- Column `C` of the values of row `R`'s batch. -/
def valued (W : S16384x512.Idx → EReal) (R : Fin 16384) (C : Fin 512) (k : ℕ) : EReal :=
  if hk : k < 8192 then W (ix2 ⟨R.val / 8192 * 8192 + k, by omega⟩ C) else 0

/-- One entry of the array of results. -/
def entry (Q K : S16384x1024.Idx → EReal) (W : S16384x512.Idx → EReal) (R : Fin 16384) (C : Fin 512) : EReal :=
  Ideal.div (num (keyed Q K R ⟨C.val / 128, by omega⟩) (valued W R C) 8192) (den (keyed Q K R ⟨C.val / 128, by omega⟩) 8192)

theorem index2 {a b : ℕ} {x x' : Fin a} {y y' : Fin b} (hx : x.val = x'.val) (hy : y.val = y'.val) : ix2 x y = ix2 x' y' := by
  obtain rfl := Fin.ext hx
  obtain rfl := Fin.ext hy
  rfl

section

variable (Q K : S16384x1024.Idx → EReal) (W : S16384x512.Idx → EReal) (x0 : S1024x512.Idx → EReal) (x1 : S8192x512.Idx → EReal) (x2 : S8192x256.Idx → EReal)
  (t : ℕ) (ht : t < 32)

include ht in
theorem seen_eq (h0 : ∀ r d, x0 (ix2 r d) = Q (ix2 ⟨(t / 16 * 8 + t % 8) * 1024 + r.val, by omega⟩ ⟨t / 8 % 2 * 512 + d.val, by omega⟩))
    (h1 : ∀ r d, x1 (ix2 r d) = K (ix2 ⟨t / 16 * 8192 + r.val, by omega⟩ ⟨t / 8 % 2 * 512 + d.val, by omega⟩))
    (p : ℕ) (hp : p + 256 ≤ 512) (r : Fin 1024) (R : Fin 16384) (h : Fin 4) (hR : R.val = (t / 16 * 8 + t % 8) * 1024 + r.val) (hh : 256 * h.val = t / 8 % 2 * 512 + p) :
    seen x0 x1 p hp (t % 8) r = keyed Q K R h := by
  funext k
  unfold seen keyed
  by_cases hk : k < 8192
  · rw [dif_pos hk, dif_pos hk]
    have hc : (k / 64 ≤ (t % 8 * 1024 + r.val) / 64) ↔ (k / 64 ≤ R.val % 8192 / 64) := by
      have : R.val % 8192 = t % 8 * 1024 + r.val := by omega
      rw [this]
    by_cases hm : k / 64 ≤ R.val % 8192 / 64
    · rw [if_pos hm, if_pos (hc.mpr hm)]
      unfold score
      refine Finset.sum_congr rfl fun d _ => ?_
      rw [h0, h1]
      refine congrArg₂ (· * ·) (congrArg Q (index2 ?_ ?_)) (congrArg K (index2 ?_ ?_))
      · exact hR.symm
      · show t / 8 % 2 * 512 + (p + d.val) = 256 * h.val + d.val; omega
      · show t / 16 * 8192 + k = R.val / 8192 * 8192 + k; omega
      · show t / 8 % 2 * 512 + (p + d.val) = 256 * h.val + d.val; omega
    · rw [if_neg hm, if_neg fun hm' => hm (hc.mp hm')]
  · rw [dif_neg hk, dif_neg hk]

include ht in
theorem val_eq (h2 : ∀ r d, x2 (ix2 r d) = W (ix2 ⟨t / 16 * 8192 + r.val, by omega⟩ ⟨t / 8 % 2 * 256 + d.val, by omega⟩))
    (s : ℕ) (hs : s + 128 ≤ 256) (r : Fin 1024) (e : Fin 128) (R : Fin 16384) (C : Fin 512) (hR : R.val = (t / 16 * 8 + t % 8) * 1024 + r.val)
    (hC : C.val = t / 8 % 2 * 256 + (s + e.val)) : val x2 s hs e = valued W R C := by
  funext k
  unfold val valued
  by_cases hk : k < 8192
  · rw [dif_pos hk, dif_pos hk, h2]
    refine congrArg W (index2 ?_ ?_)
    · show t / 16 * 8192 + k = R.val / 8192 * 8192 + k; omega
    · exact hC.symm
  · rw [dif_neg hk, dif_neg hk]

theorem block_eq (h0 : ∀ r d, x0 (ix2 r d) = Q (ix2 ⟨(t / 16 * 8 + t % 8) * 1024 + r.val, by omega⟩ ⟨t / 8 % 2 * 512 + d.val, by omega⟩))
    (h1 : ∀ r d, x1 (ix2 r d) = K (ix2 ⟨t / 16 * 8192 + r.val, by omega⟩ ⟨t / 8 % 2 * 512 + d.val, by omega⟩))
    (h2 : ∀ r d, x2 (ix2 r d) = W (ix2 ⟨t / 16 * 8192 + r.val, by omega⟩ ⟨t / 8 % 2 * 256 + d.val, by omega⟩)) (r : Fin 1024) (j : Fin 256) :
    block x0 x1 x2 (t % 8) (ix2 r j) = entry Q K W ⟨(t / 16 * 8 + t % 8) * 1024 + r.val, by omega⟩ ⟨t / 8 % 2 * 256 + j.val, by omega⟩ := by
  unfold block entry
  by_cases hj : j.val < 128
  · rw [dif_pos (show ((ix2 r j : S1024x256.Idx) 1).val < 128 from hj)]
    unfold cell
    exact congrArg₂ (fun x w => Ideal.div (num x w 8192) (den x 8192)) (seen_eq Q K x0 x1 t ht h0 h1 0 (by decide) r ⟨(t / 16 * 8 + t % 8) * 1024 + r.val, by omega⟩ ⟨(t / 8 % 2 * 256 + j.val) / 128, by omega⟩ rfl
        (by show 256 * ((t / 8 % 2 * 256 + j.val) / 128) = _; omega))
      (val_eq W x2 t ht h2 0 (by decide) r ⟨j.val, hj⟩ ⟨(t / 16 * 8 + t % 8) * 1024 + r.val, by omega⟩ ⟨t / 8 % 2 * 256 + j.val, by omega⟩ rfl
        (by show t / 8 % 2 * 256 + j.val = t / 8 % 2 * 256 + (0 + j.val); omega))
  · rw [dif_neg (show ¬ ((ix2 r j : S1024x256.Idx) 1).val < 128 from hj)]
    unfold cell
    exact congrArg₂ (fun x w => Ideal.div (num x w 8192) (den x 8192)) (seen_eq Q K x0 x1 t ht h0 h1 256 (by decide) r ⟨(t / 16 * 8 + t % 8) * 1024 + r.val, by omega⟩ ⟨(t / 8 % 2 * 256 + j.val) / 128, by omega⟩ rfl
        (by show 256 * ((t / 8 % 2 * 256 + j.val) / 128) = _; omega))
      (val_eq W x2 t ht h2 128 (by decide) r ⟨j.val - 128, by omega⟩ ⟨(t / 16 * 8 + t % 8) * 1024 + r.val, by omega⟩ ⟨t / 8 % 2 * 256 + j.val, by omega⟩ rfl
        (by show t / 8 % 2 * 256 + j.val = t / 8 % 2 * 256 + (128 + (j.val - 128)); omega))

end

variable (m : (ℓ : Loc nD τ sig) → Buf (Elt Ideal) ℓ) (ρ : Dev nD → PrngReg)

theorem pos0 : ∀ t : Fin cfg0.N, (cfg0.win 0).index t = ![t.val / 16 * 8 + t.val % 8, t.val / 8 % 2] :=
  (by decide +kernel : ∀ t : Fin grid0.N, win0_0.index t = ![t.val / 16 * 8 + t.val % 8, t.val / 8 % 2])
theorem pos1 : ∀ t : Fin cfg0.N, (cfg0.win 1).index t = ![t.val / 16, t.val / 8 % 2] :=
  (by decide +kernel : ∀ t : Fin grid0.N, win0_1.index t = ![t.val / 16, t.val / 8 % 2])
theorem pos2 : ∀ t : Fin cfg0.N, (cfg0.win 2).index t = ![t.val / 16, t.val / 8 % 2] :=
  (by decide +kernel : ∀ t : Fin grid0.N, win0_2.index t = ![t.val / 16, t.val / 8 % 2])
theorem pos3 : ∀ t : Fin cfg0.N, (cfg0.win 3).index t = ![t.val / 16 * 8 + t.val % 8, t.val / 8 % 2] :=
  (by decide +kernel : ∀ t : Fin grid0.N, win0_3.index t = ![t.val / 16 * 8 + t.val % 8, t.val / 8 % 2])
theorem third : ∀ t : Fin grid0.N, (grid0.coords t 2).val = t.val % 8 := by decide +kernel
theorem lt32 (t : Fin cfg0.N) : t.val < 32 := t.isLt

theorem in0 (c : Dev nD) (t : Fin cfg0.N) (r : Fin 1024) (d : Fin 512) :
    (iblk (F := Ideal) m c 0 t : S1024x512.Idx → EReal) (ix2 r d)
      = (V (F := Ideal) m c main_v8 : S16384x1024.Idx → EReal) (ix2 ⟨(t.val / 16 * 8 + t.val % 8) * 1024 + r.val, by have := lt32 t; omega⟩ ⟨t.val / 8 % 2 * 512 + d.val, by omega⟩) := by
  show V (F := Ideal) m c main_v8 (((cfg0.win 0).blk t).view.emb (ix2 r d)) = _
  refine congrArg (V (F := Ideal) m c main_v8) (funext fun a => Fin.ext ?_)
  refine ((cfg0.win 0).rect_emb_val t (ix2 r d) a).trans ?_
  rw [pos0]
  fin_cases a <;> rfl

theorem in1 (c : Dev nD) (t : Fin cfg0.N) (r : Fin 8192) (d : Fin 512) :
    (iblk (F := Ideal) m c 1 t : S8192x512.Idx → EReal) (ix2 r d)
      = (V (F := Ideal) m c main_v13 : S16384x1024.Idx → EReal) (ix2 ⟨t.val / 16 * 8192 + r.val, by have := lt32 t; omega⟩ ⟨t.val / 8 % 2 * 512 + d.val, by omega⟩) := by
  show V (F := Ideal) m c main_v13 (((cfg0.win 1).blk t).view.emb (ix2 r d)) = _
  refine congrArg (V (F := Ideal) m c main_v13) (funext fun a => Fin.ext ?_)
  refine ((cfg0.win 1).rect_emb_val t (ix2 r d) a).trans ?_
  rw [pos1]
  fin_cases a <;> rfl

theorem in2 (c : Dev nD) (t : Fin cfg0.N) (r : Fin 8192) (d : Fin 256) :
    (iblk (F := Ideal) m c 2 t : S8192x256.Idx → EReal) (ix2 r d)
      = (V (F := Ideal) m c main_v15 : S16384x512.Idx → EReal) (ix2 ⟨t.val / 16 * 8192 + r.val, by have := lt32 t; omega⟩ ⟨t.val / 8 % 2 * 256 + d.val, by omega⟩) := by
  show V (F := Ideal) m c main_v15 (((cfg0.win 2).blk t).view.emb (ix2 r d)) = _
  refine congrArg (V (F := Ideal) m c main_v15) (funext fun a => Fin.ext ?_)
  refine ((cfg0.win 2).rect_emb_val t (ix2 r d) a).trans ?_
  rw [pos2]
  fin_cases a <;> rfl

theorem emb3 (t : Fin cfg0.N) (r : Fin 1024) (j : Fin 256) :
    ((cfg0.win 3).blk t).view.emb (ix2 (n0 := 1024) (n1 := 256) r j)
      = ix2 (n0 := 16384) (n1 := 512) ⟨(t.val / 16 * 8 + t.val % 8) * 1024 + r.val, by have := lt32 t; omega⟩ ⟨t.val / 8 % 2 * 256 + j.val, by omega⟩ := by
  funext a
  refine Fin.ext ?_
  refine ((cfg0.win 3).rect_emb_val t (ix2 (n0 := 1024) (n1 := 256) r j) a).trans ?_
  rw [pos3]
  fin_cases a <;> rfl

/-- What the array of results is shown to hold. -/
def res (c : Dev nD) : S16384x512.Idx → EReal := fun y =>
  entry (V (F := Ideal) m c main_v8) (V (F := Ideal) m c main_v13) (V (F := Ideal) m c main_v15) (y 0) (y 1)

theorem put3 (c : Dev nD) (t : Fin cfg0.N) (r : Fin 1024) (j : Fin 256) :
    (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) : S1024x256.Idx → EReal) (ix2 r j)
      = res m c (((cfg0.win 3).blk t).view.emb (ix2 (n0 := 1024) (n1 := 256) r j)) := by
  refine Eq.trans ?_ (congrArg (res m c) (emb3 t r j).symm)
  refine (congrFun (out_eq c (grid0.coords t) (ms0_0 t) (hs0_0 t) (ms0_1 t) (hs0_1 t) (ms0_2 t) (hs0_2 t) (ms0_3 t) (hs0_3 t) (iblk m c 0 t) (iblk m c 1 t) (iblk m c 2 t)) (ix2 r j)).trans ?_
  rw [third]
  exact block_eq _ _ _ _ _ _ t.val (lt32 t) (in0 m c t) (in1 m c t) (in2 m c t) r j

theorem put3' (c : Dev nD) (t : Fin cfg0.N) (y : S1024x256.Idx) :
    (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) : S1024x256.Idx → EReal) y
      = res m c (((cfg0.win 3).blk t).view.emb y) := by
  obtain ⟨r, j, rfl⟩ := pair y
  exact put3 m c t r j

theorem cover3 (y : S16384x512.Idx) : ∃ t : Fin cfg0.N, ∃ r : Fin 1024, ∃ j : Fin 256, ((cfg0.win 3).blk t).view.emb (ix2 (n0 := 1024) (n1 := 256) r j) = y := by
  obtain ⟨R, C, rfl⟩ := pair y
  refine ⟨⟨R.val / 8192 * 16 + C.val / 256 * 8 + R.val % 8192 / 1024, show _ < 32 by omega⟩, ⟨R.val % 1024, by omega⟩, ⟨C.val % 256, by omega⟩, ?_⟩
  refine (emb3 _ _ _).trans (index2 ?_ ?_)
  · show ((R.val / 8192 * 16 + C.val / 256 * 8 + R.val % 8192 / 1024) / 16 * 8 + (R.val / 8192 * 16 + C.val / 256 * 8 + R.val % 8192 / 1024) % 8) * 1024 + R.val % 1024 = R.val
    omega
  · show (R.val / 8192 * 16 + C.val / 256 * 8 + R.val % 8192 / 1024) / 8 % 2 * 256 + C.val % 256 = C.val
    omega

theorem in3 (y : S16384x512.Idx) : ∃ t : Fin cfg0.N, (cfg0.win 3).flush t = true ∧ y ∈ ((cfg0.win 3).blk t).view.set := by
  obtain ⟨t, r, j, e⟩ := cover3 y
  exact ⟨t, flush0_3 t, Eq.subst (motive := fun z => z ∈ ((cfg0.win 3).blk t).view.set) e (View.emb_mem_set _ _)⟩

set_option maxHeartbeats 2000000 in
/-- The array of results after the last point. -/
theorem final (c : Dev nD) : (dats (F := Ideal) m 0 c).arrAt 3 cfg0.N = res m c :=
  (dats (F := Ideal) m 0 c).arrAt_eq_of_emb 3 _ (fun t _ y => (congrFun (Value.flushed3_A m c t) y).trans (put3' m c t y)) (fun y => in3 y)

end Cert.Kernel2Ideal.Hand
-- ==== Proof.Attn.Pack.lean ====
/- The arrays the launch is given, in terms of the five arguments. -/
module

public import proofs.«01_k».proof.Proof.Gen.Kernel2Ideal.Value
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.SL.Sem

/-- Three parts laid end to end, the last one zeros. -/
def three (x : Fin 128 → EReal) (y : Fin 64 → EReal) (d : Fin 256) : EReal :=
  if h : d.val < 128 then x ⟨d.val, h⟩ else if h : d.val - 128 < 64 then y ⟨d.val - 128, h⟩ else 0

/-- The divisor of the queries: the root of the head's width times the logarithm of two. -/
def scale : EReal := ((Real.sqrt 192 * Real.log 2 : ℝ) : EReal)

variable (A0 A2 : S2x8192x4x128.Idx → EReal) (A1 : S2x8192x4x64.Idx → EReal) (A3 : S2x8192x64.Idx → EReal) (A4 : S2x8192x4x128.Idx → EReal)

/-- The packed queries. -/
def qPack : S16384x1024.Idx → EReal :=
  shapeCast S16384x1024 (truncf (F := Ideal) .bf16 (Host.divf (F := Ideal) (concatenate S2x8192x4x256 3 [⟨S2x8192x4x128, A0⟩, ⟨S2x8192x4x64, A1⟩,
      ⟨S2x8192x4x64, broadcastInDim S2x8192x4x64 ![] bcast_S_S2x8192x4x64 (constant (F := Ideal) S_ .f32 0x00000000#32)⟩] concatenates_S2x8192x4x128_S2x8192x4x64_S2x8192x4x64_S2x8192x4x256_d3)
    (broadcastInDim S2x8192x4x256 ![] bcast_S_S2x8192x4x256
      (mulf (F := Ideal) (Host.sqrt (F := Ideal) (constant (F := Ideal) S_ .f32 0x43400000#32)) (Host.log (F := Ideal) (constant (F := Ideal) S_ .f32 0x40000000#32))))) bitsLt_bf16_f32)
    shapeCasts_S2x8192x4x256_S16384x1024

/-- The packed keys. -/
def kPack : S16384x1024.Idx → EReal :=
  shapeCast S16384x1024 (truncf (F := Ideal) .bf16 (concatenate S2x8192x4x256 3 [⟨S2x8192x4x128, A2⟩,
      ⟨S2x8192x4x64, broadcastInDim S2x8192x4x64 ![0, 1, 2, 3] bcast_S2x8192x1x64_S2x8192x4x64_0_1_2_3 (broadcastInDim S2x8192x1x64 ![0, 1, 3] bcast_S2x8192x64_S2x8192x1x64_0_1_3 A3)⟩,
      ⟨S2x8192x4x64, broadcastInDim S2x8192x4x64 ![] bcast_S_S2x8192x4x64 (constant (F := Ideal) S_ .f32 0x00000000#32)⟩] concatenates_S2x8192x4x128_S2x8192x4x64_S2x8192x4x64_S2x8192x4x256_d3) bitsLt_bf16_f32)
    shapeCasts_S2x8192x4x256_S16384x1024

/-- The packed values. -/
def vPack : S16384x512.Idx → EReal :=
  shapeCast S16384x512 (truncf (F := Ideal) (φ := .f32) (s := S2x8192x4x128) .bf16 A4 bitsLt_bf16_f32) shapeCasts_S2x8192x4x128_S16384x512

theorem zero_word : Ideal.ofBits .f32 0x00000000#32 = (0 : EReal) := by simp [Ideal.ofBits, Ideal.ieee]
theorem width_word : Ideal.ofBits .f32 0x43400000#32 = ((192 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

theorem root_word : Ideal.sqrt (Ideal.ofBits .f32 0x43400000#32) = ((Real.sqrt 192 : ℝ) : EReal) := by
  rw [width_word, Ideal.sqrt_coe, if_neg (by norm_num)]
theorem log_word : Ideal.log (Ideal.ofBits .f32 0x40000000#32) = ((Real.log 2 : ℝ) : EReal) := by
  rw [two_word, Ideal.log_coe, if_neg (by norm_num)]

theorem scale_word : Ideal.sqrt (Ideal.ofBits .f32 0x43400000#32) * Ideal.log (Ideal.ofBits .f32 0x40000000#32) = scale := by
  rw [root_word, log_word, scale, EReal.coe_mul]

theorem qPack_apply (R : Fin 16384) (h : Fin 4) (d : Fin 256) :
    qPack A0 A1 (ix2 R ⟨256 * h.val + d.val, by omega⟩)
      = Ideal.div (three (fun i => A0 (ix4 ⟨R.val / 8192, by omega⟩ ⟨R.val % 8192, by omega⟩ h i))
          (fun i => A1 (ix4 ⟨R.val / 8192, by omega⟩ ⟨R.val % 8192, by omega⟩ h i)) d) scale := by
  unfold qPack
  refine (shapeCast_apply _ _ _ (ix4 ⟨R.val / 8192, by omega⟩ ⟨R.val % 8192, by omega⟩ h d) ?_).trans ?_
  · rw [Shape.rowMajor_val_four, Shape.rowMajor_val_two]
    show ((R.val / 8192 * 8192 + R.val % 8192) * 4 + h.val) * 256 + d.val = R.val * 1024 + (256 * h.val + d.val)
    omega
  · generalize (⟨R.val / 8192, by omega⟩ : Fin 2) = b
    generalize (⟨R.val % 8192, by omega⟩ : Fin 8192) = s
    rw [← scale_word]
    pointwise [three]

theorem kPack_apply (R : Fin 16384) (h : Fin 4) (d : Fin 256) :
    kPack A2 A3 (ix2 R ⟨256 * h.val + d.val, by omega⟩)
      = three (fun i => A2 (ix4 ⟨R.val / 8192, by omega⟩ ⟨R.val % 8192, by omega⟩ h i))
          (fun i => A3 (ix3 ⟨R.val / 8192, by omega⟩ ⟨R.val % 8192, by omega⟩ i)) d := by
  unfold kPack
  refine (shapeCast_apply _ _ _ (ix4 ⟨R.val / 8192, by omega⟩ ⟨R.val % 8192, by omega⟩ h d) ?_).trans ?_
  · rw [Shape.rowMajor_val_four, Shape.rowMajor_val_two]
    show ((R.val / 8192 * 8192 + R.val % 8192) * 4 + h.val) * 256 + d.val = R.val * 1024 + (256 * h.val + d.val)
    omega
  · generalize (⟨R.val / 8192, by omega⟩ : Fin 2) = b
    generalize (⟨R.val % 8192, by omega⟩ : Fin 8192) = s
    pointwise [three]

theorem vPack_apply (R : Fin 16384) (h : Fin 4) (c : Fin 128) :
    vPack A4 (ix2 R ⟨128 * h.val + c.val, by omega⟩) = A4 (ix4 ⟨R.val / 8192, by omega⟩ ⟨R.val % 8192, by omega⟩ h c) := by
  unfold vPack
  refine (shapeCast_apply _ _ _ (ix4 ⟨R.val / 8192, by omega⟩ ⟨R.val % 8192, by omega⟩ h c) ?_).trans ?_
  · rw [Shape.rowMajor_val_four, Shape.rowMajor_val_two]
    show ((R.val / 8192 * 8192 + R.val % 8192) * 4 + h.val) * 128 + c.val = R.val * 512 + (128 * h.val + c.val)
    omega
  · rfl

theorem V_v8 (m : (ℓ : Loc nD τ sig) → Buf (Elt Ideal) ℓ) (c : Dev nD) : V (F := Ideal) m c main_v8 = qPack (m ((c : Thread nD τ).loc main_arg0)) (m ((c : Thread nD τ).loc main_arg1)) := rfl
theorem V_v13 (m : (ℓ : Loc nD τ sig) → Buf (Elt Ideal) ℓ) (c : Dev nD) : V (F := Ideal) m c main_v13 = kPack (m ((c : Thread nD τ).loc main_arg2)) (m ((c : Thread nD τ).loc main_arg3)) := rfl
theorem V_v15 (m : (ℓ : Loc nD τ sig) → Buf (Elt Ideal) ℓ) (c : Dev nD) : V (F := Ideal) m c main_v15 = vPack (m ((c : Thread nD τ).loc main_arg4)) := rfl

end Cert.Kernel2Ideal.Hand
-- ==== Proof.Attn.Ref.lean ====
/- The reference's result read at the reals entry by entry: a softmax over the keys a query may see, laid on the values. -/
module

public import proofs.«01_k».proof.Proof.Gen.Reference2Ideal.Read
public import Idealize.ShloMosaic.Lib.Pointwise
public import Idealize.ShloMosaic.Lib.KernelVsHost
public import Idealize.ShloMosaic.Lib.WordCmp

@[expose] public section

noncomputable section

namespace Cert.Reference2Ideal.Hand

open Cert.Reference2Ideal Cert.Reference2Ideal.Gen Cert.Reference2Ideal.Read
open Idealize.ShloMosaic

theorem ext3 {a b c : Nat} {x y : (⟨3, ![a, b, c]⟩ : Shape).Idx} (h0 : (x 0).val = (y 0).val) (h1 : (x 1).val = (y 1).val)
    (h2 : (x 2).val = (y 2).val) : x = y := by
  funext d
  match d with
  | ⟨0, _⟩ => exact Fin.ext h0
  | ⟨1, _⟩ => exact Fin.ext h1
  | ⟨2, _⟩ => exact Fin.ext h2
theorem ext4 {a b c e : Nat} {x y : (⟨4, ![a, b, c, e]⟩ : Shape).Idx} (h0 : (x 0).val = (y 0).val) (h1 : (x 1).val = (y 1).val)
    (h2 : (x 2).val = (y 2).val) (h3 : (x 3).val = (y 3).val) : x = y := by
  funext d
  match d with
  | ⟨0, _⟩ => exact Fin.ext h0
  | ⟨1, _⟩ => exact Fin.ext h1
  | ⟨2, _⟩ => exact Fin.ext h2
  | ⟨3, _⟩ => exact Fin.ext h3

/-! ## The chunk a position lies in -/

/-- The floor of a word's quotient by sixty-four, as the reference computes it. -/
def chunk (w : BitVec 32) : BitVec 32 :=
  Scalar.select (IntOp.andi (IntOp.cmpi .ne (if w = 0 then (0 : BitVec 32) else if w.msb then -1 else 1) (if (64#32 : BitVec 32) = 0 then (0 : BitVec 32) else if (64#32 : BitVec 32).msb then -1 else 1))
      (IntOp.cmpi .ne (IntOp.remsi .host w 64#32) 0#32))
    (IntOp.subi (IntOp.divsi .host w 64#32) 1#32) (IntOp.divsi .host w 64#32)

theorem chunk_words : ∀ a : Fin 128, ∀ b : Fin 64, chunk (BitVec.ofNat 32 (a.val * 64 + b.val)) = BitVec.ofNat 32 a.val := by
  decide +kernel

theorem chunk_word (n : ℕ) (h : n < 8192) : chunk (BitVec.ofNat 32 n) = BitVec.ofNat 32 (n / 64) := by
  have e := chunk_words ⟨n / 64, by omega⟩ ⟨n % 64, by omega⟩
  rwa [show n / 64 * 64 + n % 64 = n by omega] at e

theorem key_word (i : S1x8192.Idx) : val_main_v9 (F := Ideal) i = BitVec.ofNat 32 ((i 1).val / 64) := by
  refine Eq.trans ?_ (chunk_word (i 1).val (i 1).isLt)
  simp only [val_main_v9_apply, val_main_call0_v11_apply, val_main_call0_v13_apply, val_main_call0_v2_apply, val_main_call0_v6_apply, val_main_call0_v10_apply,
    val_main_call0_v5_apply, val_main_call0_v8_apply, val_main_call0_v9_apply, val_main_call0_v12_apply, val_main_call0_v7_apply, val_main_call0_v1_apply,
    val_main_call0_v0_apply, val_main_call0_c_apply, val_main_call0_c_0_apply, val_main_c_apply, val_main_v8_apply, val_main_v0_apply, val_main_call0_v3, val_main_call0_v4, signi]
  rfl

theorem query_word (i : S8192x1.Idx) : val_main_v11 (F := Ideal) i = BitVec.ofNat 32 ((i 0).val / 64) := by
  refine Eq.trans ?_ (chunk_word (i 0).val (i 0).isLt)
  simp only [val_main_v11_apply, val_main_call1_v11_apply, val_main_call1_v13_apply, val_main_call1_v2_apply, val_main_call1_v6_apply, val_main_call1_v10_apply,
    val_main_call1_v5_apply, val_main_call1_v8_apply, val_main_call1_v9_apply, val_main_call1_v12_apply, val_main_call1_v7_apply, val_main_call1_v1_apply,
    val_main_call1_v0_apply, val_main_call1_c_apply, val_main_call1_c_0_apply, val_main_c_0_apply, val_main_v10_apply, val_main_v0_apply, val_main_call1_v3, val_main_call1_v4, signi]
  rfl

theorem chunks_le : ∀ a b : Fin 128, IntOp.cmpi .sle (BitVec.ofNat 32 a.val) (BitVec.ofNat 32 b.val) = if a.val ≤ b.val then 1#1 else 0#1 := by
  decide +kernel

theorem mask_bit (i : S8192x8192.Idx) :
    val_main_v14 (F := Ideal) i = if (i 1).val / 64 ≤ (i 0).val / 64 then 1#1 else 0#1 := by
  rw [val_main_v14_apply, val_main_v12_apply, val_main_v13_apply, key_word, query_word]
  have h0 : (i 0).val < 8192 := (i 0).isLt
  have h1 : (i 1).val < 8192 := (i 1).isLt
  exact chunks_le ⟨(i 1).val / 64, by omega⟩ ⟨(i 0).val / 64, by omega⟩

/-! ## The entries -/

variable (x0 x2 x4 : S2x8192x4x128.Idx → EReal) (x1 : S2x8192x4x64.Idx → EReal) (x3 : S2x8192x64.Idx → EReal)

/-- The product of a query and a key. -/
def prod (b : Fin 2) (h : Fin 4) (q k : Fin 8192) : EReal :=
  ∑ d : Fin 128, x0 (ix4 b q h d) * x2 (ix4 b k h d) + ∑ d : Fin 64, x3 (ix3 b k d) * x1 (ix4 b q h d)

/-- The scaled score. -/
def mark (b : Fin 2) (h : Fin 4) (q k : Fin 8192) : EReal :=
  if k.val / 64 ≤ q.val / 64 then Ideal.div (prod x0 x2 x1 x3 b h q k) ((Real.sqrt 192 : ℝ) : EReal) else ⊥

/-- The greatest score. -/
def best (b : Fin 2) (h : Fin 4) (q : Fin 8192) : EReal := (Finset.univ : Finset (Fin 8192)).sup (mark x0 x2 x1 x3 b h q)

/-- A weight before the division. -/
def heft (b : Fin 2) (h : Fin 4) (q k : Fin 8192) : EReal := Ideal.exp (mark x0 x2 x1 x3 b h q k - best x0 x2 x1 x3 b h q)

/-- One entry of the result. -/
def mix (b : Fin 2) (h : Fin 4) (q : Fin 8192) (c : Fin 128) : EReal :=
  ∑ k : Fin 8192, x4 (ix4 b k h c) * Ideal.div (heft x0 x2 x1 x3 b h q k) (∑ j : Fin 8192, heft x0 x2 x1 x3 b h q j)

theorem low_word : Ideal.ofBits .f32 0xFF800000#32 = (⊥ : EReal) := by simp [Ideal.ofBits, Ideal.ieee]
theorem nil_word : Ideal.ofBits .f32 0x00000000#32 = (0 : EReal) := by simp [Ideal.ofBits, Ideal.ieee]
theorem width_word : Ideal.ofBits .f32 0x43400000#32 = ((192 : ℝ) : EReal) := by
  simp [Ideal.ofBits, Ideal.ieee, -EReal.coe_mul]; norm_num
theorem root_word : Ideal.sqrt (Ideal.ofBits .f32 0x43400000#32) = ((Real.sqrt 192 : ℝ) : EReal) := by
  rw [width_word, Ideal.sqrt_coe, if_neg (by norm_num)]

theorem prod_eq (b : Fin 2) (h : Fin 4) (q k : Fin 8192) : val_main_v4 (F := Ideal) x0 x1 x2 x3 (ix4 b h q k) = prod x0 x2 x1 x3 b h q k := by
  rw [val_main_v4_apply, val_main_v3_apply, val_main_v1_apply, val_main_v2_apply]
  refine congrArg₂ (fun x y : EReal => x + y) (Finset.sum_congr rfl fun d _ => ?_) (Finset.sum_congr rfl fun d _ => ?_)
  · exact congrArg₂ (fun x y : EReal => x * y) (congrArg x0 (ext4 rfl rfl rfl rfl)) (congrArg x2 (ext4 rfl rfl rfl rfl))
  · exact congrArg₂ (fun x y : EReal => x * y) (congrArg x3 (ext3 rfl rfl rfl)) (congrArg x1 (ext4 rfl rfl rfl rfl))

theorem mark_eq (b : Fin 2) (h : Fin 4) (q k : Fin 8192) : val_main_v16 (F := Ideal) x0 x1 x2 x3 (ix4 b h q k) = mark x0 x2 x1 x3 b h q k := by
  rw [val_main_v16_apply, val_main_call2_v1_apply, val_main_v15_apply, mask_bit, val_main_v7_apply, prod_eq, val_main_v6_apply, val_main_v5_apply, val_main_cst_apply,
    val_main_call2_v2_apply, val_main_call2_v0_apply, val_main_cst_1_apply]
  show Scalar.select (if k.val / 64 ≤ q.val / 64 then 1#1 else 0#1) (Ideal.div (prod x0 x2 x1 x3 b h q k) (Ideal.sqrt (Ideal.ofBits .f32 0x43400000#32))) (Ideal.ofBits .f32 0xFF800000#32) = _
  rw [root_word, low_word]
  unfold mark
  split <;> rfl

theorem lifted (hd : S2x4x8192x8192.Reduces [3] S2x4x8192) (b : Fin 2) (h : Fin 4) (q : Fin 8192) (k : Fin (S2x4x8192x8192.size 3)) :
    hd.lift (ix3 b h q) k = ix4 b h q (⟨k.val, k.isLt⟩ : Fin 8192) := by
  funext c; apply Fin.ext
  fin_cases c <;> rfl

theorem best_eq (b : Fin 2) (h : Fin 4) (q : Fin 8192) : val_main_v19 (F := Ideal) x0 x1 x2 x3 (ix3 b h q) = best x0 x2 x1 x3 b h q := by
  rw [val_main_v19_apply, val_main_v18_apply, val_main_cst_3_apply]
  unfold val_main_v17
  have hd : S2x4x8192x8192.Reduces [3] S2x4x8192 := by decide
  have hf : (val_main_v16 (F := Ideal) x0 x1 x2 x3 ∘ hd.lift (ix3 b h q)) = mark x0 x2 x1 x3 b h q :=
    funext fun k => (congrArg (val_main_v16 (F := Ideal) x0 x1 x2 x3) (lifted hd b h q k)).trans (mark_eq x0 x2 x1 x3 b h q ⟨k.val, k.isLt⟩)
  have e := Host.reduce_eq_fold_single (FloatOps.maximumf (F := Ideal) (φ := .f32)) (val_main_v16 (F := Ideal) x0 x1 x2 x3) (val_main_cst_2 (F := Ideal))
    reducesTo_S2x4x8192x8192_S2x4x8192_d3 hd h_S_ (ix3 b h q)
  rw [hf, val_main_cst_2_apply] at e
  refine (congrArg (fun z : EReal => max (Ideal.ofBits .f32 0xFF800000#32) z) e).trans ?_
  show max (Ideal.ofBits .f32 0xFF800000#32) (Finset.fold max (Ideal.ofBits .f32 0xFF800000#32) (mark x0 x2 x1 x3 b h q) (Finset.univ : Finset (Fin 8192))) = _
  rw [low_word]
  exact bot_sup_eq _

theorem heft_eq (b : Fin 2) (h : Fin 4) (q k : Fin 8192) : val_main_v23 (F := Ideal) x0 x1 x2 x3 (ix4 b h q k) = heft x0 x2 x1 x3 b h q k := by
  rw [val_main_v23_apply, val_main_v22_apply, mark_eq, val_main_v21_apply, val_main_v20_apply,
    show idx_main_v20 (idx_main_v21 (ix4 b h q k)) = ix3 b h q from ext3 rfl rfl rfl, best_eq]
  rfl

theorem total_eq (b : Fin 2) (h : Fin 4) (q : Fin 8192) : val_main_v24 (F := Ideal) x0 x1 x2 x3 (ix3 b h q) = ∑ j : Fin 8192, heft x0 x2 x1 x3 b h q j := by
  rw [val_main_v24_apply, val_main_cst_4_apply]
  show Ideal.ofBits .f32 0x00000000#32 + _ = _
  rw [nil_word, zero_add]
  refine Finset.sum_congr rfl fun j _ => ?_
  rw [show idx_main_v24 (ix3 b h q) j = ix4 b h q j from ext4 rfl rfl rfl rfl, heft_eq]

theorem share_eq (b : Fin 2) (h : Fin 4) (q k : Fin 8192) :
    val_main_v27 (F := Ideal) x0 x1 x2 x3 (ix4 b h q k) = Ideal.div (heft x0 x2 x1 x3 b h q k) (∑ j : Fin 8192, heft x0 x2 x1 x3 b h q j) := by
  rw [val_main_v27_apply, heft_eq, val_main_v26_apply, val_main_v25_apply,
    show idx_main_v25 (idx_main_v26 (ix4 b h q k)) = ix3 b h q from ext3 rfl rfl rfl, total_eq]
  rfl

theorem mix_eq (R : Fin 16384) (C : Fin 512) :
    val_main_v30 (F := Ideal) x0 x1 x2 x3 x4 (ix2 R C)
      = mix x0 x2 x4 x1 x3 ⟨R.val / 8192, by omega⟩ ⟨C.val / 128, by omega⟩ ⟨R.val % 8192, by omega⟩ ⟨C.val % 128, by omega⟩ := by
  rw [val_main_v30_apply, show idx_main_v30 (ix2 R C) = ix4 (n0 := 2) (n1 := 8192) (n2 := 4) (n3 := 128) ⟨R.val / 8192, by omega⟩ ⟨R.val % 8192, by omega⟩ ⟨C.val / 128, by omega⟩ ⟨C.val % 128, by omega⟩ from
      ext4 (by show (R.val * 512 + C.val) / 4194304 = R.val / 8192; omega) (by show (R.val * 512 + C.val) / 512 % 8192 = R.val % 8192; omega)
        (by show (R.val * 512 + C.val) / 128 % 4 = C.val / 128; omega) (by show (R.val * 512 + C.val) % 128 = C.val % 128; omega),
    val_main_v29_apply, val_main_v28_apply]
  unfold mix
  refine Finset.sum_congr rfl fun k _ => ?_
  rw [← share_eq]
  exact congrArg₂ (fun x y : EReal => x * y) (congrArg x4 (ext4 rfl rfl rfl rfl)) (congrArg (val_main_v27 (F := Ideal) x0 x1 x2 x3) (ext4 rfl rfl rfl rfl))

end Cert.Reference2Ideal.Hand
-- ==== Proof.Attn.Meet.lean ====
/- The kernel's quotient and the reference's softmax are one number, at arguments that are real. -/
module

public import proofs.«01_k».proof.Proof.Attn.Soft
public import proofs.«01_k».proof.Proof.Attn.Grid
public import proofs.«01_k».proof.Proof.Attn.Pack
public import proofs.«01_k».proof.Proof.Attn.Ref

@[expose] public section

noncomputable section

namespace Cert.Attn

open Idealize.ShloMosaic

theorem log_two_pos : 0 < Real.log 2 := Real.log_pos (by norm_num)

theorem top_fin (x : ℕ → EReal) (n : ℕ) : top x n = (Finset.univ : Finset (Fin n)).sup fun k => x k.val := by
  refine le_antisymm (Finset.sup_le fun k hk => ?_) (Finset.sup_le fun k _ => ?_)
  · exact Finset.le_sup (f := fun k : Fin n => x k.val) (Finset.mem_univ ⟨k, Finset.mem_range.mp hk⟩)
  · exact Finset.le_sup (f := x) (Finset.mem_range.mpr k.isLt)

theorem grow : Monotone fun z : EReal => z * ((Real.log 2 : ℝ) : EReal) := fun _ _ h =>
  mul_le_mul_of_nonneg_right h (EReal.coe_nonneg.mpr log_two_pos.le)

theorem top_scaled (x : ℕ → EReal) (n : ℕ) (y : Fin n → EReal) (hy : ∀ k, y k = x k.val * ((Real.log 2 : ℝ) : EReal)) :
    (Finset.univ : Finset (Fin n)).sup y = top x n * ((Real.log 2 : ℝ) : EReal) := by
  rw [top_fin]
  refine Eq.trans ?_ (Finset.comp_sup_eq_sup_comp_of_is_total (fun z : EReal => z * ((Real.log 2 : ℝ) : EReal)) grow
    (EReal.bot_mul_coe_of_pos log_two_pos)).symm
  exact congrArg _ (funext hy)

theorem sub_scaled (a t : EReal) (ha : a ≠ ⊤) (ht : t ≠ ⊤) (ht' : t ≠ ⊥) (L : ℝ) (hL : 0 < L) :
    a * (L : EReal) - t * (L : EReal) = (a - t) * (L : EReal) := by
  induction t with
  | bot => exact absurd rfl ht'
  | top => exact absurd rfl ht
  | coe t =>
    induction a with
    | top => exact absurd rfl ha
    | bot => rw [EReal.bot_mul_coe_of_pos hL, EReal.bot_sub, EReal.bot_sub, EReal.bot_mul_coe_of_pos hL]
    | coe a => norm_cast; ring_nf

theorem top_real (x : ℕ → EReal) (n k₀ : ℕ) (hk : k₀ < n) (h0 : x k₀ ≠ ⊥) (h1 : ∀ k, x k ≠ ⊤) : top x n ≠ ⊤ ∧ top x n ≠ ⊥ := by
  obtain ⟨j, _, hm⟩ := Finset.exists_mem_eq_sup (Finset.range n) ⟨k₀, Finset.mem_range.mpr hk⟩ x
  have ht : top x n = x j := hm
  refine ⟨ht ▸ h1 j, fun e => h0 (le_bot_iff.mp (e ▸ ?_))⟩
  exact Finset.le_sup (f := x) (Finset.mem_range.mpr hk)

/-- The quotient of the two sums is the values weighted by the softmax of the scores, in whichever base. -/
theorem softened (x v : ℕ → EReal) (n k₀ : ℕ) (hk : k₀ < n) (h0 : x k₀ ≠ ⊥) (h1 : ∀ k, x k ≠ ⊤) (y w : Fin n → EReal)
    (hy : ∀ k, y k = x k.val * ((Real.log 2 : ℝ) : EReal)) (hw : ∀ k, w k = v k.val) :
    Ideal.div (num x v n) (den x n)
      = ∑ k : Fin n, w k * Ideal.div (Ideal.exp (y k - (Finset.univ : Finset (Fin n)).sup y)) (∑ j : Fin n, Ideal.exp (y j - (Finset.univ : Finset (Fin n)).sup y)) := by
  obtain ⟨ht, ht'⟩ := top_real x n k₀ hk h0 h1
  have e : ∀ k : Fin n, Ideal.exp (y k - (Finset.univ : Finset (Fin n)).sup y) = Ideal.exp2 (x k.val - top x n) := fun k => by
    rw [top_scaled x n y hy, hy, sub_scaled _ _ (h1 _) ht ht' _ log_two_pos, exp2_mul_log]
  have d : ∑ j : Fin n, Ideal.exp (y j - (Finset.univ : Finset (Fin n)).sup y) = den x n := by
    unfold den
    rw [Finset.sum_range]
    exact Finset.sum_congr rfl fun k _ => e k
  rw [share x v n (den_pos x n k₀ hk h0 h1) (Finset.sum_nonneg fun k _ => exp2_nonneg _), Finset.sum_range, d]
  exact Finset.sum_congr rfl fun k _ => by rw [e, hw]

end Cert.Attn

namespace Cert.Kernel2Ideal.Hand

open Cert.Kernel2Ideal Cert.Kernel2Ideal.Gen Cert.Attn
open Idealize.ShloMosaic

theorem real_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The three parts at real entries. -/
def threeR (x : Fin 128 → ℝ) (y : Fin 64 → ℝ) (d : Fin 256) : ℝ :=
  if h : d.val < 128 then x ⟨d.val, h⟩ else if h : d.val - 128 < 64 then y ⟨d.val - 128, h⟩ else 0

theorem three_real (x : Fin 128 → ℝ) (y : Fin 64 → ℝ) (d : Fin 256) :
    three (fun i => ((x i : ℝ) : EReal)) (fun i => ((y i : ℝ) : EReal)) d = ((threeR x y d : ℝ) : EReal) := by
  unfold three threeR
  split
  · rfl
  · split <;> rfl

theorem threeR_sum (x x' : Fin 128 → ℝ) (y y' : Fin 64 → ℝ) :
    ∑ d : Fin 256, threeR x y d * threeR x' y' d = ∑ i, x i * x' i + ∑ i, y' i * y i := by
  show ∑ d : Fin (128 + (64 + 64)), threeR x y d * threeR x' y' d = _
  rw [Fin.sum_univ_add, Fin.sum_univ_add]
  have e1 : ∀ (u : Fin 128 → ℝ) (w : Fin 64 → ℝ) (i : Fin 128), threeR u w (Fin.castAdd (64 + 64) i) = u i := fun u w i => by
    unfold threeR
    exact dif_pos i.isLt
  have e2 : ∀ (u : Fin 128 → ℝ) (w : Fin 64 → ℝ) (i : Fin 64), threeR u w (Fin.natAdd 128 (Fin.castAdd 64 i)) = w i := fun u w i => by
    unfold threeR
    refine (dif_neg (show ¬ 128 + i.val < 128 by omega)).trans ((dif_pos (show 128 + i.val - 128 < 64 by omega)).trans ?_)
    exact congrArg w (Fin.ext (show 128 + i.val - 128 = i.val by omega))
  have e3 : ∀ (u : Fin 128 → ℝ) (w : Fin 64 → ℝ) (i : Fin 64), threeR u w (Fin.natAdd 128 (Fin.natAdd 64 i)) = 0 := fun u w i => by
    unfold threeR
    exact (dif_neg (show ¬ 128 + (64 + i.val) < 128 by omega)).trans (dif_neg (show ¬ 128 + (64 + i.val) - 128 < 64 by omega))
  simp only [e1, e2, e3, mul_zero, Finset.sum_const_zero, add_zero]
  exact congrArg _ (Finset.sum_congr rfl fun i _ => mul_comm _ _)

theorem scale_ne : Real.sqrt 192 * Real.log 2 ≠ 0 := mul_ne_zero (Real.sqrt_ne_zero'.mpr (by norm_num)) log_two_pos.ne'

theorem three_dot (x x' : Fin 128 → ℝ) (y y' : Fin 64 → ℝ) :
    ∑ d : Fin 256, Ideal.div (three (fun i => ((x i : ℝ) : EReal)) (fun i => ((y i : ℝ) : EReal)) d) scale * three (fun i => ((x' i : ℝ) : EReal)) (fun i => ((y' i : ℝ) : EReal)) d
      = (((∑ i, x i * x' i + ∑ i, y' i * y i) * (1 / (Real.sqrt 192 * Real.log 2)) : ℝ) : EReal) := by
  rw [← threeR_sum, Finset.sum_mul, ← real_sum]
  refine Finset.sum_congr rfl fun d _ => ?_
  rw [three_real, three_real, scale, Ideal.div_coe scale_ne, ← EReal.coe_mul, ← EReal.coe_mul]
  exact congrArg _ (by ring)

section

variable (a0 a2 : S2x8192x4x128.Idx → ℝ) (a1 : S2x8192x4x64.Idx → ℝ) (a3 : S2x8192x64.Idx → ℝ) (A4 : S2x8192x4x128.Idx → EReal)

/-- The product of a query and a key at real entries. -/
def prodR (b : Fin 2) (h : Fin 4) (q k : Fin 8192) : ℝ :=
  ∑ d : Fin 128, a0 (ix4 b q h d) * a2 (ix4 b k h d) + ∑ d : Fin 64, a3 (ix3 b k d) * a1 (ix4 b q h d)

theorem prod_real (b : Fin 2) (h : Fin 4) (q k : Fin 8192) :
    Cert.Reference2Ideal.Hand.prod (fun i => ((a0 i : ℝ) : EReal)) (fun i => ((a2 i : ℝ) : EReal)) (fun i => ((a1 i : ℝ) : EReal)) (fun i => ((a3 i : ℝ) : EReal)) b h q k
      = ((prodR a0 a2 a1 a3 b h q k : ℝ) : EReal) := by
  unfold Cert.Reference2Ideal.Hand.prod prodR
  simp only [← EReal.coe_mul, real_sum, ← EReal.coe_add]

theorem keyed_real (R : Fin 16384) (h : Fin 4) (k : Fin 8192) :
    keyed (qPack (fun i => ((a0 i : ℝ) : EReal)) (fun i => ((a1 i : ℝ) : EReal))) (kPack (fun i => ((a2 i : ℝ) : EReal)) (fun i => ((a3 i : ℝ) : EReal))) R h k.val
      = if k.val / 64 ≤ (R.val % 8192) / 64 then
          ((prodR a0 a2 a1 a3 ⟨R.val / 8192, by omega⟩ h ⟨R.val % 8192, by omega⟩ k * (1 / (Real.sqrt 192 * Real.log 2)) : ℝ) : EReal) else ⊥ := by
  unfold keyed
  rw [dif_pos k.isLt]
  split
  · refine Eq.trans ?_ (three_dot _ _ _ _)
    refine Finset.sum_congr rfl fun d _ => ?_
    rw [qPack_apply, kPack_apply]
    have eb : (⟨(R.val / 8192 * 8192 + k.val) / 8192, by omega⟩ : Fin 2) = ⟨R.val / 8192, by omega⟩ := Fin.ext (show (R.val / 8192 * 8192 + k.val) / 8192 = R.val / 8192 by omega)
    have ek : (⟨(R.val / 8192 * 8192 + k.val) % 8192, by omega⟩ : Fin 8192) = k := Fin.ext (show (R.val / 8192 * 8192 + k.val) % 8192 = k.val by omega)
    simp only [eb, ek]
  · rfl

/-- One entry of the kernel's result is the reference's. -/
theorem entry_real (R : Fin 16384) (C : Fin 512) :
    entry (qPack (fun i => ((a0 i : ℝ) : EReal)) (fun i => ((a1 i : ℝ) : EReal))) (kPack (fun i => ((a2 i : ℝ) : EReal)) (fun i => ((a3 i : ℝ) : EReal))) (vPack A4) R C
      = Cert.Reference2Ideal.Hand.mix (fun i => ((a0 i : ℝ) : EReal)) (fun i => ((a2 i : ℝ) : EReal)) A4 (fun i => ((a1 i : ℝ) : EReal)) (fun i => ((a3 i : ℝ) : EReal))
          ⟨R.val / 8192, by omega⟩ ⟨C.val / 128, by omega⟩ ⟨R.val % 8192, by omega⟩ ⟨C.val % 128, by omega⟩ := by
  unfold entry
  have hx := keyed_real a0 a2 a1 a3 R ⟨C.val / 128, by omega⟩
  refine softened _ _ 8192 (R.val % 8192) (by omega) ?_ ?_ _ _ ?_ ?_
  · rw [hx ⟨R.val % 8192, by omega⟩, if_pos le_rfl]
    exact EReal.coe_ne_bot _
  · intro k
    by_cases hk : k < 8192
    · rw [hx ⟨k, hk⟩]
      split
      · exact EReal.coe_ne_top _
      · exact bot_ne_top
    · unfold keyed
      rw [dif_neg hk]
      exact bot_ne_top
  · intro k
    rw [hx k]
    unfold Cert.Reference2Ideal.Hand.mark
    split
    · rw [prod_real, Ideal.div_coe (Real.sqrt_ne_zero'.mpr (by norm_num)), ← EReal.coe_mul, ← EReal.coe_mul]
      refine congrArg _ ?_
      have := log_two_pos.ne'
      field_simp
    · exact (EReal.bot_mul_coe_of_pos log_two_pos).symm
  · intro k
    unfold valued
    rw [dif_pos k.isLt]
    have e := vPack_apply A4 ⟨R.val / 8192 * 8192 + k.val, by omega⟩ ⟨C.val / 128, by omega⟩ ⟨C.val % 128, by omega⟩
    have ec : (⟨128 * (C.val / 128) + C.val % 128, by omega⟩ : Fin 512) = C := Fin.ext (show 128 * (C.val / 128) + C.val % 128 = C.val by omega)
    have eb : (⟨(R.val / 8192 * 8192 + k.val) / 8192, by omega⟩ : Fin 2) = ⟨R.val / 8192, by omega⟩ := Fin.ext (show (R.val / 8192 * 8192 + k.val) / 8192 = R.val / 8192 by omega)
    have ek : (⟨(R.val / 8192 * 8192 + k.val) % 8192, by omega⟩ : Fin 8192) = k := Fin.ext (show (R.val / 8192 * 8192 + k.val) % 8192 = k.val by omega)
    simp only [eb, ek, ec] at e
    exact e.symm

end

end Cert.Kernel2Ideal.Hand
-- ==== Proof.Attn.Reals.lean ====
/- The precondition read entry by entry: the queries and the keys it admits are real. -/
module

public import proofs.«01_k».proof.Proof.Gen.Pre_reals
public import Idealize.ShloMosaic.Lib.Pointwise
public import Idealize.ShloMosaic.Lib.StableHlo.Predicate
public import Idealize.ShloMosaic.PureOps.Ideal.Laws

@[expose] public section

noncomputable section

namespace Cert.Pre_reals.Hand

open Cert.Pre_reals Cert.Pre_reals.Gen
open Idealize.ShloMosaic

theorem high_word : Ideal.ofBits .f32 0x7F800000#32 = (⊤ : EReal) := by simp [Ideal.ofBits, Ideal.ieee]

theorem real_of (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  rw [high_word] at h
  have h' : max x (-x) < ⊤ := of_decide_eq_true ((StableHlo.Predicate.ofBool_eq_one_iff _).mp h)
  induction x with
  | bot => exact absurd h' (by simp)
  | top => exact absurd h' (by simp)
  | coe r => exact ⟨r, rfl⟩

variable (x0 x2 x4 : S2x8192x4x128.Idx → EReal) (x1 : S2x8192x4x64.Idx → EReal) (x3 : S2x8192x64.Idx → EReal)

theorem real0 (h : (fn (F := Ideal) x0 x1 x2 x3 x4).1 = fun _ => 1#1) : ∃ a : S2x8192x4x128.Idx → ℝ, x0 = fun i => ((a i : ℝ) : EReal) := by
  obtain ⟨a, ha⟩ := Classical.skolem.mp fun i => real_of (x0 i) (congrFun h i)
  exact ⟨a, funext ha⟩
theorem real1 (h : (fn (F := Ideal) x0 x1 x2 x3 x4).2.1 = fun _ => 1#1) : ∃ a : S2x8192x4x64.Idx → ℝ, x1 = fun i => ((a i : ℝ) : EReal) := by
  obtain ⟨a, ha⟩ := Classical.skolem.mp fun i => real_of (x1 i) (congrFun h i)
  exact ⟨a, funext ha⟩
theorem real2 (h : (fn (F := Ideal) x0 x1 x2 x3 x4).2.2.1 = fun _ => 1#1) : ∃ a : S2x8192x4x128.Idx → ℝ, x2 = fun i => ((a i : ℝ) : EReal) := by
  obtain ⟨a, ha⟩ := Classical.skolem.mp fun i => real_of (x2 i) (congrFun h i)
  exact ⟨a, funext ha⟩
theorem real3 (h : (fn (F := Ideal) x0 x1 x2 x3 x4).2.2.2 = fun _ => 1#1) : ∃ a : S2x8192x64.Idx → ℝ, x3 = fun i => ((a i : ℝ) : EReal) := by
  obtain ⟨a, ha⟩ := Classical.skolem.mp fun i => real_of (x3 i) (congrFun h i)
  exact ⟨a, funext ha⟩

end Cert.Pre_reals.Hand
-- ==== Proof.Proj.Body.lean ====
/- What one block of rows gives, read at the reals entry by entry. -/
module

public import proofs.«01_k».proof.Proof.Gen.Kernel3Ideal.Skeleton
public import Idealize.ShloMosaic.Lib.Pointwise
public import Idealize.ShloMosaic.Lib.MatmulPlain

@[expose] public section

noncomputable section

namespace Cert.Proj

open Idealize.ShloMosaic

/-- A row times a matrix. -/
def lin {n m : ℕ} (x : Fin n → EReal) (w : Fin n → Fin m → EReal) (c : Fin m) : EReal := ∑ k, x k * w k c

/-- A row over the root of its mean square, and the gains on it. -/
def rms {n : ℕ} (d e : EReal) (x g : Fin n → EReal) (j : Fin n) : EReal :=
  x j * Ideal.rsqrt (Ideal.div (∑ k, x k * x k) d + e) * g j

/-- Columns of a row from an offset on. -/
def cols {n : ℕ} (m o : ℕ) (h : o + m ≤ n) (p : Fin n → EReal) (j : Fin m) : EReal := p ⟨o + j.val, by have := j.isLt; omega⟩

/-- The divisors of the mean squares, and what is added to them. -/
abbrev d256 : EReal := Ideal.ofBits .f32 0x43800000#32
abbrev d128 : EReal := Ideal.ofBits .f32 0x43000000#32
abbrev eps : EReal := Ideal.ofBits .f32 0x3727C5AC#32

theorem first_cols {n : ℕ} (m : ℕ) (h : 0 + m ≤ n) (p : Fin n → EReal) :
    cols m 0 h p = fun j => p ⟨j.val, by have := j.isLt; omega⟩ := by
  funext j
  exact congrArg p (Fin.ext (Nat.zero_add _))

end Cert.Proj

namespace Cert.Kernel3Ideal.Hand

open Cert.Kernel3Ideal Cert.Kernel3Ideal.Gen Cert.Proj
open Idealize.ShloMosaic

/-- The factor on the queries. -/
abbrev qs : EReal := Named.named (F := Ideal) (φ := .f32) κ "q_scale" 0x3DD53B95#32

theorem early (n : ℕ) (h : n < 65) (x y : EReal) :
    Scalar.select (Scalar.cmpi .slt (BitVec.ofNat 32 n) 64#32) x y = if n < 64 then x else y := by
  have e : (Scalar.cmpi .slt (BitVec.ofNat 32 n) 64#32) = if n < 64 then 1#1 else 0#1 := by
    revert n
    decide +kernel
  rw [e]
  by_cases hn : n < 64 <;> simp [hn, Scalar.select]

theorem proj_apply (i : grid0.Coords) (v1 v3 : S256x1024.Idx → EReal) (v7 : S1024x1408.Idx → EReal) (r : Fin 256) (c : Fin 1408) :
    k0_pay2 (F := Ideal) i v1 v3 v7 (ix2 r c)
      = lin (fun k : Fin 1024 => if (i 0).val < 64 then v1 (ix2 r k) else v3 (ix2 r k)) (fun k c => v7 (ix2 k c)) c := by
  pointwise [k0_pay2]
  exact Finset.sum_congr rfl fun k _ => congrArg (· * _) (early (i 0).val (i 0).isLt (v1 (ix2 r k)) (v3 (ix2 r k)))

theorem cos_apply (v : S256x128.Idx → EReal) (r : Fin 256) (l : Fin 128) : k0_pay3 (F := Ideal) v (ix2 r l) = v (ix2 r l) := by
  pointwise [k0_pay3]
theorem sin_apply (v : S256x128.Idx → EReal) (r : Fin 256) (l : Fin 128) : k0_pay4 (F := Ideal) v (ix2 r l) = v (ix2 r l) := by
  pointwise [k0_pay4]

theorem query_apply (i : grid0.Coords) (v1 v3 : S256x1024.Idx → EReal) (v7 : S1024x1408.Idx → EReal) (v15 : S1x256.Idx → EReal) (v30 : S256x1536.Idx → EReal)
    (r : Fin 256) (c : Fin 1536) :
    k0_pay5 (F := Ideal) i v1 v3 v7 v15 v30 (ix2 r c)
      = lin (rms d256 eps (cols 256 0 (by omega) fun c => k0_pay2 (F := Ideal) i v1 v3 v7 (ix2 r c)) fun k => v15 (ix2 0 k)) (fun k c => v30 (ix2 k c)) c := by
  rw [first_cols]
  generalize hp : k0_pay2 (F := Ideal) i v1 v3 v7 = p
  unfold k0_pay5
  rw [hp]
  clear hp
  pointwise []
  unfold lin rms
  rfl

theorem latent_apply (v9 : S256x1408.Idx → EReal) (v90 : S1x128.Idx → EReal) (r : Fin 256) (l : Fin 128) :
    k0_pay16 (F := Ideal) v9 v90 (ix2 r l) = rms d128 eps (cols 128 256 (by omega) fun c => v9 (ix2 r c)) (fun k => v90 (ix2 0 k)) l := by
  pointwise [k0_pay16]
  unfold rms cols
  rfl

theorem kv_apply (v9 : S256x1408.Idx → EReal) (v90 : S1x128.Idx → EReal) (v106 : S128x1024.Idx → EReal) (r : Fin 256) (c : Fin 1024) :
    k0_pay17 (F := Ideal) v9 v90 v106 (ix2 r c) = lin (fun k => k0_pay16 (F := Ideal) v9 v90 (ix2 r k)) (fun k c => v106 (ix2 k c)) c := by
  pointwise [k0_pay17]
  rfl

/-- A rotated slab of a row. -/
def turn {n : ℕ} (a b : ℕ) (ha : a + 128 ≤ n) (hb : b + 128 ≤ n) (p : Fin n → EReal) (co si : Fin 128 → EReal) (l : Fin 128) : EReal :=
  cols 128 a ha p l * co l + cols 128 b hb p l * si l

theorem key_apply (v9 : S256x1408.Idx → EReal) (v11 v13 : S256x128.Idx → EReal) (r : Fin 256) (l : Fin 128) :
    k0_pay18 (F := Ideal) v9 v11 v13 (ix2 r l)
      = turn 384 512 (by omega) (by omega) (fun c => v9 (ix2 r c)) (fun l => v11 (ix2 r l)) (fun l => v13 (ix2 r l)) l := by
  pointwise [k0_pay18]
  rfl
theorem krow_apply (v9 : S256x1408.Idx → EReal) (v11 v13 : S256x128.Idx → EReal) (r : Fin 256) (l : Fin 64) :
    k0_pay19 (F := Ideal) v9 v11 v13 (ix2 r l) = k0_pay18 (F := Ideal) v9 v11 v13 (ix2 r ⟨l.val, by have := l.isLt; omega⟩) := by
  pointwise [k0_pay19]
theorem gate_apply (v9 : S256x1408.Idx → EReal) (r : Fin 256) (l : Fin 256) :
    k0_pay29 (F := Ideal) v9 (ix2 r l) = cols 256 640 (by omega) (fun c => v9 (ix2 r c)) l := by
  pointwise [k0_pay29]
  rfl

section
variable (v32 : S256x1536.Idx → EReal) (v11 v13 v38 v113 : S256x128.Idx → EReal) (v108 : S256x1024.Idx → EReal) (r : Fin 256) (l : Fin 128)
theorem p8_apply : k0_pay8 (F := Ideal) v38 (ix2 r l) = v38 (ix2 r l) * qs := by pointwise [k0_pay8]
theorem p9_apply : k0_pay9 (F := Ideal) v38 (ix2 r l) = v38 (ix2 r l) * qs := by pointwise [k0_pay9]
theorem p10_apply : k0_pay10 (F := Ideal) v32 (ix2 r l) = cols 128 256 (by omega) (fun c => v32 (ix2 r c)) l * qs := by pointwise [k0_pay10]; rfl
theorem p12_apply : k0_pay12 (F := Ideal) v32 (ix2 r l) = cols 128 512 (by omega) (fun c => v32 (ix2 r c)) l * qs := by pointwise [k0_pay12]; rfl
theorem p14_apply : k0_pay14 (F := Ideal) v32 (ix2 r l) = cols 128 768 (by omega) (fun c => v32 (ix2 r c)) l * qs := by pointwise [k0_pay14]; rfl
theorem p11_apply : k0_pay11 (F := Ideal) v11 v13 v32 (ix2 r l) = turn 384 1152 (by omega) (by omega) (fun c => v32 (ix2 r c)) (fun l => v11 (ix2 r l)) (fun l => v13 (ix2 r l)) l * qs := by pointwise [k0_pay11]; rfl
theorem p13_apply : k0_pay13 (F := Ideal) v11 v13 v32 (ix2 r l) = turn 640 1280 (by omega) (by omega) (fun c => v32 (ix2 r c)) (fun l => v11 (ix2 r l)) (fun l => v13 (ix2 r l)) l * qs := by pointwise [k0_pay13]; rfl
theorem p15_apply : k0_pay15 (F := Ideal) v11 v13 v32 (ix2 r l) = turn 896 1408 (by omega) (by omega) (fun c => v32 (ix2 r c)) (fun l => v11 (ix2 r l)) (fun l => v13 (ix2 r l)) l * qs := by pointwise [k0_pay15]; rfl
theorem p20_apply : k0_pay20 (F := Ideal) v113 (ix2 r l) = v113 (ix2 r l) := by pointwise [k0_pay20]
theorem p21_apply : k0_pay21 (F := Ideal) v108 (ix2 r l) = cols 128 0 (by omega) (fun c => v108 (ix2 r c)) l := by rw [first_cols]; pointwise [k0_pay21]
theorem p22_apply : k0_pay22 (F := Ideal) v108 (ix2 r l) = cols 128 128 (by omega) (fun c => v108 (ix2 r c)) l := by pointwise [k0_pay22]; rfl
theorem p23_apply : k0_pay23 (F := Ideal) v108 (ix2 r l) = cols 128 256 (by omega) (fun c => v108 (ix2 r c)) l := by pointwise [k0_pay23]; rfl
theorem p24_apply : k0_pay24 (F := Ideal) v108 (ix2 r l) = cols 128 384 (by omega) (fun c => v108 (ix2 r c)) l := by pointwise [k0_pay24]; rfl
theorem p25_apply : k0_pay25 (F := Ideal) v108 (ix2 r l) = cols 128 512 (by omega) (fun c => v108 (ix2 r c)) l := by pointwise [k0_pay25]; rfl
theorem p26_apply : k0_pay26 (F := Ideal) v108 (ix2 r l) = cols 128 640 (by omega) (fun c => v108 (ix2 r c)) l := by pointwise [k0_pay26]; rfl
theorem p27_apply : k0_pay27 (F := Ideal) v108 (ix2 r l) = cols 128 768 (by omega) (fun c => v108 (ix2 r c)) l := by pointwise [k0_pay27]; rfl
theorem p28_apply : k0_pay28 (F := Ideal) v108 (ix2 r l) = cols 128 896 (by omega) (fun c => v108 (ix2 r c)) l := by pointwise [k0_pay28]; rfl
end

theorem p6_apply (i : grid0.Coords) (v1 v3 : S256x1024.Idx → EReal) (v7 : S1024x1408.Idx → EReal) (v15 : S1x256.Idx → EReal) (v30 : S256x1536.Idx → EReal)
    (r : Fin 256) (l : Fin 128) :
    k0_pay6 (F := Ideal) i v1 v3 v7 v15 v30 (ix2 r l) = cols 128 0 (by omega) (fun c => k0_pay5 (F := Ideal) i v1 v3 v7 v15 v30 (ix2 r c)) l := by
  rw [first_cols]
  generalize hp : k0_pay5 (F := Ideal) i v1 v3 v7 v15 v30 = p
  unfold k0_pay6
  rw [hp]
  clear hp
  pointwise []

theorem p7_apply (i : grid0.Coords) (v1 v3 : S256x1024.Idx → EReal) (v7 : S1024x1408.Idx → EReal) (v15 : S1x256.Idx → EReal) (v30 : S256x1536.Idx → EReal)
    (v10 v12 : S256x128.Idx → EReal) (r : Fin 256) (l : Fin 128) :
    k0_pay7 (F := Ideal) i v1 v3 v7 v10 v12 v15 v30 (ix2 r l)
      = turn 128 1024 (by omega) (by omega) (fun c => k0_pay5 (F := Ideal) i v1 v3 v7 v15 v30 (ix2 r c)) (fun l => v10 (ix2 r l)) (fun l => v12 (ix2 r l)) l := by
  generalize hp : k0_pay5 (F := Ideal) i v1 v3 v7 v15 v30 = p
  unfold k0_pay7
  rw [hp]
  clear hp
  pointwise [k0_pay3, k0_pay4]
  unfold turn cols
  rfl

end Cert.Kernel3Ideal.Hand
-- ==== Proof.Proj.Point.lean ====
/- What one point of the grid stores, in terms of its blocks. -/
module

public import proofs.«01_k».proof.Proof.Proj.Body
public import proofs.«01_k».proof.Proof.Proj.Value
public import Idealize.ShloMosaic.Lib.Pipeline.ValueKit.Tiles

@[expose] public section

noncomputable section

namespace Cert.Proj

open Idealize.ShloMosaic
open Cert.Kernel3Ideal.Hand (turn)

variable (q : Fin 1536 → EReal) (kv : Fin 1024 → EReal) (kr co si : Fin 128 → EReal) (s : EReal)

/-- The four queries of a row, each with its rotated slab, scaled. -/
def qRow (C : Fin 1024) : EReal :=
  if C.val % 256 < 128 then q ⟨C.val, by omega⟩ * s
  else (q ⟨C.val, by omega⟩ * co ⟨C.val % 256 - 128, by omega⟩ + q ⟨1024 + 128 * (C.val / 256) + (C.val % 256 - 128), by omega⟩ * si ⟨C.val % 256 - 128, by omega⟩) * s

/-- The four keys of a row, each with the shared slab. -/
def kRow (C : Fin 1024) : EReal :=
  if C.val % 256 < 128 then kv C else kr ⟨C.val % 256 - 128, by omega⟩

/-- The four values of a row. -/
def vRow (C : Fin 512) : EReal := kv ⟨256 * (C.val / 128) + 128 + C.val % 128, by omega⟩

theorem qRow_plain (o : ℕ) (h : o + 128 ≤ 1536) (ho : o % 256 = 0) (l : Fin 128) (C : Fin 1024) (hC : C.val = o + l.val) :
    cols 128 o h q l * s = qRow q co si s C := by
  have hl := l.isLt
  unfold qRow cols
  rw [if_pos (by omega)]
  exact congrArg (q · * s) (Fin.ext hC.symm)

theorem qRow_turn (o b : ℕ) (h : o + 128 ≤ 1536) (h' : b + 128 ≤ 1536) (ho : o % 256 = 128) (hb : b = 1024 + 128 * (o / 256)) (l : Fin 128) (C : Fin 1024) (hC : C.val = o + l.val) :
    turn o b h h' q co si l * s = qRow q co si s C := by
  have hl := l.isLt
  unfold qRow turn cols
  rw [if_neg (by omega)]
  have e : (⟨C.val % 256 - 128, by omega⟩ : Fin 128) = l := Fin.ext (by show C.val % 256 - 128 = l.val; omega)
  rw [e]
  have e1 : (⟨C.val, by omega⟩ : Fin 1536) = ⟨o + l.val, by omega⟩ := Fin.ext hC
  have e2 : (⟨1024 + 128 * (C.val / 256) + (C.val % 256 - 128), by omega⟩ : Fin 1536) = ⟨b + l.val, by omega⟩ := Fin.ext (by
    show 1024 + 128 * (C.val / 256) + (C.val % 256 - 128) = b + l.val; omega)
  rw [e1, e2]

theorem kRow_plain (o : ℕ) (h : o + 128 ≤ 1024) (ho : o % 256 = 0) (l : Fin 128) (C : Fin 1024) (hC : C.val = o + l.val) :
    cols 128 o h kv l = kRow kv kr C := by
  have hl := l.isLt
  unfold kRow cols
  rw [if_pos (by omega)]
  exact congrArg kv (Fin.ext hC.symm)

theorem kRow_turn (o : ℕ) (ho : o % 256 = 128) (l : Fin 128) (C : Fin 1024) (hC : C.val = o + l.val) :
    kr l = kRow kv kr C := by
  have hl := l.isLt
  unfold kRow
  rw [if_neg (by omega)]
  exact congrArg kr (Fin.ext (by show l.val = C.val % 256 - 128; omega))

theorem vRow_eq (o o' : ℕ) (h : o + 128 ≤ 1024) (ho : o' % 128 = 0) (hoo : o = 256 * (o' / 128) + 128) (l : Fin 128) (C : Fin 512) (hC : C.val = o' + l.val) :
    cols 128 o h kv l = vRow kv C := by
  have hl := l.isLt
  unfold vRow cols
  exact congrArg kv (Fin.ext (by show o + l.val = 256 * (C.val / 128) + 128 + C.val % 128; omega))

end Cert.Proj

namespace Cert.Kernel3Ideal.Hand

open Cert.Kernel3Ideal Cert.Kernel3Ideal.Gen Cert.Proj
open Idealize.ShloMosaic Idealize.SL.Sem

section

variable (i : grid0.Coords) (x0 x1 : S256x1024.Idx → EReal) (x2 : S1024x1408.Idx → EReal) (x3 : S1x256.Idx → EReal) (x4 : S256x1536.Idx → EReal)
  (x5 : S1x128.Idx → EReal) (x6 : S128x1024.Idx → EReal) (x7 x8 : S256x128.Idx → EReal) (x9 x10 : S1x256.Idx → EReal) (x11 : S256x256.Idx → EReal)
  (x12 : S1x128x512.Idx → EReal) (x13 : S1x128x256.Idx → EReal) (r : Fin 256)

/-- The row the point reads. -/
def xin (k : Fin 1024) : EReal := if (i 0).val < 64 then x0 (ix2 r k) else x1 (ix2 r k)
/-- Its projections. -/
def pin : Fin 1408 → EReal := lin (xin i x0 x1 r) fun k c => x2 (ix2 k c)

theorem ld0 (x : S256x1024.Idx → EReal) : View.ld (Val := Elt Ideal) (e' := .f32) x r0_0 = x := View.ld_unit_lit (Val := Elt Ideal) (e := .f32) (S := S256x1024) (off := ![0, 0]) _ x (by decide)
theorem ld1 (x : S1024x1408.Idx → EReal) : View.ld (Val := Elt Ideal) (e' := .bf16) x r0_1 = x := View.ld_unit_lit (Val := Elt Ideal) (e := .bf16) (S := S1024x1408) (off := ![0, 0]) _ x (by decide)
theorem ld2 (x : S256x128.Idx → EReal) : View.ld (Val := Elt Ideal) (e' := .f32) x r0_2 = x := View.ld_unit_lit (Val := Elt Ideal) (e := .f32) (S := S256x128) (off := ![0, 0]) _ x (by decide)
theorem ld3 (x : S1x256.Idx → EReal) : View.ld (Val := Elt Ideal) (e' := .f32) x r0_3 = x := View.ld_unit_lit (Val := Elt Ideal) (e := .f32) (S := S1x256) (off := ![0, 0]) _ x (by decide)
theorem ld4 (x : S256x1536.Idx → EReal) : View.ld (Val := Elt Ideal) (e' := .bf16) x r0_4 = x := View.ld_unit_lit (Val := Elt Ideal) (e := .bf16) (S := S256x1536) (off := ![0, 0]) _ x (by decide)
theorem ld13 (x : S1x128.Idx → EReal) : View.ld (Val := Elt Ideal) (e' := .f32) x r0_13 = x := View.ld_unit_lit (Val := Elt Ideal) (e := .f32) (S := S1x128) (off := ![0, 0]) _ x (by decide)
theorem ld14 (x : S128x1024.Idx → EReal) : View.ld (Val := Elt Ideal) (e' := .bf16) x r0_14 = x := View.ld_unit_lit (Val := Elt Ideal) (e := .bf16) (S := S128x1024) (off := ![0, 0]) _ x (by decide)

theorem v9_eq : k0_pay54 (F := Ideal) i x0 x1 x2 x3 x4 x5 x6 x7 x8 x9 x10 x11 x12 x13 = k0_pay2 (F := Ideal) i x0 x1 x2 := by
  unfold k0_pay54
  rw [ld0, ld0, ld1]
theorem v11_eq : k0_pay55 (F := Ideal) i x0 x1 x2 x3 x4 x5 x6 x7 x8 x9 x10 x11 x12 x13 = k0_pay3 (F := Ideal) x7 := by
  unfold k0_pay55
  rw [ld2]
theorem v13_eq : k0_pay56 (F := Ideal) i x0 x1 x2 x3 x4 x5 x6 x7 x8 x9 x10 x11 x12 x13 = k0_pay4 (F := Ideal) x8 := by
  unfold k0_pay56
  rw [ld2]
theorem v32_eq : k0_pay57 (F := Ideal) i x0 x1 x2 x3 x4 x5 x6 x7 x8 x9 x10 x11 x12 x13 = k0_pay5 (F := Ideal) i x0 x1 x2 x3 x4 := by
  unfold k0_pay57
  rw [ld0, ld0, ld1, ld3, ld4]
theorem v108_eq : k0_pay58 (F := Ideal) i x0 x1 x2 x3 x4 x5 x6 x7 x8 x9 x10 x11 x12 x13 = k0_pay17 (F := Ideal) (k0_pay2 (F := Ideal) i x0 x1 x2) x5 x6 := by
  unfold k0_pay58
  rw [v9_eq, ld13, ld14]
theorem v113_eq : k0_pay59 (F := Ideal) i x0 x1 x2 x3 x4 x5 x6 x7 x8 x9 x10 x11 x12 x13
    = k0_pay18 (F := Ideal) (k0_pay2 (F := Ideal) i x0 x1 x2) (k0_pay3 (F := Ideal) x7) (k0_pay4 (F := Ideal) x8) := by
  unfold k0_pay59
  rw [v9_eq, v11_eq, v13_eq]

theorem gate_out (l : Fin 256) :
    out0_19 (F := Ideal) i x0 x1 x2 x3 x4 x5 x6 x7 x8 x9 x10 x11 x12 x13 (ix2 r l) = cols 256 640 (by omega) (pin i x0 x1 x2 r) l := by
  unfold out0_19
  refine (congrFun (View.canon_cons_unit_lit (Val := Elt Ideal) (e := .f32) _ _ _ (by decide)) _).trans ?_
  rw [v9_eq]
  refine (gate_apply _ r l).trans ?_
  exact congrArg (cols 256 640 _ · l) (funext fun c => proj_apply i x0 x1 x2 r c)

/-- The row's queries before the rotation. -/
def qin : Fin 1536 → EReal := lin (rms d256 eps (cols 256 0 (by omega) (pin i x0 x1 x2 r)) fun k => x3 (ix2 0 k)) fun k c => x4 (ix2 k c)
/-- The row's latent. -/
def latin : Fin 128 → EReal := rms d128 eps (cols 128 256 (by omega) (pin i x0 x1 x2 r)) fun k => x5 (ix2 0 k)
/-- The row's keys and values. -/
def kvin : Fin 1024 → EReal := lin (latin i x0 x1 x2 x5 r) fun k c => x6 (ix2 k c)
/-- The row's rotated slab. -/
def krin : Fin 128 → EReal := turn 384 512 (by omega) (by omega) (pin i x0 x1 x2 r) (fun l => x7 (ix2 r l)) (fun l => x8 (ix2 r l))

theorem pin_eq : (fun c => k0_pay2 (F := Ideal) i x0 x1 x2 (ix2 r c)) = pin i x0 x1 x2 r := funext fun c => proj_apply i x0 x1 x2 r c
theorem qin_eq : (fun c => k0_pay57 (F := Ideal) i x0 x1 x2 x3 x4 x5 x6 x7 x8 x9 x10 x11 x12 x13 (ix2 r c)) = qin i x0 x1 x2 x3 x4 r := by
  funext c
  rw [v32_eq, query_apply, pin_eq]
  rfl
theorem qin_eq' : (fun c => k0_pay5 (F := Ideal) i x0 x1 x2 x3 x4 (ix2 r c)) = qin i x0 x1 x2 x3 x4 r := by
  funext c
  rw [query_apply, pin_eq]
  rfl
theorem co_eq : (fun l => k0_pay55 (F := Ideal) i x0 x1 x2 x3 x4 x5 x6 x7 x8 x9 x10 x11 x12 x13 (ix2 r l)) = fun l => x7 (ix2 r l) := by
  funext c
  rw [v11_eq, cos_apply]
theorem si_eq : (fun l => k0_pay56 (F := Ideal) i x0 x1 x2 x3 x4 x5 x6 x7 x8 x9 x10 x11 x12 x13 (ix2 r l)) = fun l => x8 (ix2 r l) := by
  funext c
  rw [v13_eq, sin_apply]
theorem lat_eq (l : Fin 128) : k0_pay16 (F := Ideal) (k0_pay2 (F := Ideal) i x0 x1 x2) x5 (ix2 r l) = latin i x0 x1 x2 x5 r l := by
  rw [latent_apply, pin_eq]
  rfl
theorem kv_eq : (fun c => k0_pay58 (F := Ideal) i x0 x1 x2 x3 x4 x5 x6 x7 x8 x9 x10 x11 x12 x13 (ix2 r c)) = kvin i x0 x1 x2 x5 x6 r := by
  funext c
  rw [v108_eq, kv_apply]
  unfold kvin
  exact congrArg (lin · (fun k c => x6 (ix2 k c)) c) (funext fun l => lat_eq i x0 x1 x2 x5 r l)
theorem kr_eq (l : Fin 128) : k0_pay59 (F := Ideal) i x0 x1 x2 x3 x4 x5 x6 x7 x8 x9 x10 x11 x12 x13 (ix2 r l) = krin i x0 x1 x2 x7 x8 r l := by
  rw [v113_eq, key_apply, pin_eq]
  unfold krin
  exact congrArg₂ (fun a b => turn 384 512 _ _ (pin i x0 x1 x2 r) a b l) (funext fun l => cos_apply x7 r l) (funext fun l => sin_apply x8 r l)

theorem at_row {x : S256x128.Idx} (h0 : r.val = (x 0).val) : ∃ l : Fin 128, x = ix2 r l := by
  refine ⟨x 1, ?_⟩
  funext d
  match d with
  | ⟨0, _⟩ => exact Fin.ext h0.symm
  | ⟨1, _⟩ => rfl

theorem q_out (C : Fin 1024) :
    out0_14 (F := Ideal) i x0 x1 x2 x3 x4 x5 x6 x7 x8 x9 x10 x11 x12 x13 (ix2 r C)
      = qRow (qin i x0 x1 x2 x3 x4 r) (fun l => x7 (ix2 r l)) (fun l => x8 (ix2 r l)) qs C := by
  canon_tiles x h
  all_goals obtain ⟨l, rfl⟩ := at_row r h0
  · rw [p15_apply, qin_eq, co_eq, si_eq]; exact qRow_turn _ _ _ _ 896 1408 _ _ (by decide) (by decide) l C h1
  · rw [p14_apply, qin_eq]; exact qRow_plain _ _ _ _ 768 _ (by decide) l C h1
  · rw [p13_apply, qin_eq, co_eq, si_eq]; exact qRow_turn _ _ _ _ 640 1280 _ _ (by decide) (by decide) l C h1
  · rw [p12_apply, qin_eq]; exact qRow_plain _ _ _ _ 512 _ (by decide) l C h1
  · rw [p11_apply, qin_eq, co_eq, si_eq]; exact qRow_turn _ _ _ _ 384 1152 _ _ (by decide) (by decide) l C h1
  · rw [p10_apply, qin_eq]; exact qRow_plain _ _ _ _ 256 _ (by decide) l C h1
  · rw [p9_apply, ld0, ld0, ld1, ld2, ld2, ld3, ld4, p7_apply, qin_eq']; exact qRow_turn _ _ _ _ 128 1024 _ _ (by decide) (by decide) l C h1
  · rw [p8_apply, ld0, ld0, ld1, ld3, ld4, p6_apply, qin_eq']; exact qRow_plain _ _ _ _ 0 _ (by decide) l C (by rw [Nat.zero_add]; exact h1)

theorem k_out (C : Fin 1024) :
    out0_15 (F := Ideal) i x0 x1 x2 x3 x4 x5 x6 x7 x8 x9 x10 x11 x12 x13 (ix2 r C) = kRow (kvin i x0 x1 x2 x5 x6 r) (krin i x0 x1 x2 x7 x8 r) C := by
  canon_tiles x h
  all_goals obtain ⟨l, rfl⟩ := at_row r h0
  · rw [p20_apply, kr_eq]; exact kRow_turn _ _ 896 (by decide) l C h1
  · rw [p27_apply, kv_eq]; exact kRow_plain _ _ 768 _ (by decide) l C h1
  · rw [p20_apply, kr_eq]; exact kRow_turn _ _ 640 (by decide) l C h1
  · rw [p25_apply, kv_eq]; exact kRow_plain _ _ 512 _ (by decide) l C h1
  · rw [p20_apply, kr_eq]; exact kRow_turn _ _ 384 (by decide) l C h1
  · rw [p23_apply, kv_eq]; exact kRow_plain _ _ 256 _ (by decide) l C h1
  · rw [p20_apply, kr_eq]; exact kRow_turn _ _ 128 (by decide) l C h1
  · rw [p21_apply, kv_eq]; exact kRow_plain _ _ 0 _ (by decide) l C (by rw [Nat.zero_add]; exact h1)

theorem v_out (C : Fin 512) :
    out0_16 (F := Ideal) i x0 x1 x2 x3 x4 x5 x6 x7 x8 x9 x10 x11 x12 x13 (ix2 r C) = vRow (kvin i x0 x1 x2 x5 x6 r) C := by
  canon_tiles x h
  all_goals obtain ⟨l, rfl⟩ := at_row r h0
  · rw [p28_apply, kv_eq]; exact vRow_eq _ 896 384 _ (by decide) (by decide) l C h1
  · rw [p26_apply, kv_eq]; exact vRow_eq _ 640 256 _ (by decide) (by decide) l C h1
  · rw [p24_apply, kv_eq]; exact vRow_eq _ 384 128 _ (by decide) (by decide) l C h1
  · rw [p22_apply, kv_eq]; exact vRow_eq _ 128 0 _ (by decide) (by decide) l C (by rw [Nat.zero_add]; exact h1)

theorem lat_out (l : Fin 128) :
    out0_17 (F := Ideal) i x0 x1 x2 x3 x4 x5 x6 x7 x8 x9 x10 x11 x12 x13 (ix2 r l) = latin i x0 x1 x2 x5 r l := by
  unfold out0_17
  refine (congrFun (View.canon_cons_unit_lit (Val := Elt Ideal) (e := .f32) _ _ _ (by decide)) _).trans ?_
  rw [v9_eq, ld13]
  exact lat_eq i x0 x1 x2 x5 r l

theorem kr_out (l : Fin 64) :
    out0_18 (F := Ideal) i x0 x1 x2 x3 x4 x5 x6 x7 x8 x9 x10 x11 x12 x13 (ix2 r l) = krin i x0 x1 x2 x7 x8 r ⟨l.val, by have := l.isLt; omega⟩ := by
  unfold out0_18
  refine (congrFun (View.canon_cons_unit_lit (Val := Elt Ideal) (e := .f32) _ _ _ (by decide)) _).trans ?_
  refine (krow_apply _ _ _ r l).trans ?_
  exact kr_eq i x0 x1 x2 x3 x4 x5 x6 x7 x8 x9 x10 x11 x12 x13 r ⟨l.val, by have := l.isLt; omega⟩

end

end Cert.Kernel3Ideal.Hand
-- ==== Proof.Proj.Grid.lean ====
/- The arrays after the last point of the grid: every row the projections of its row of the input. -/
module

public import proofs.«01_k».proof.Proof.Proj.Point
public import Idealize.ShloMosaic.Lib.Pipeline.ValueKit.Geometry

@[expose] public section

noncomputable section

namespace Cert.Kernel3Ideal.Hand

open Cert.Kernel3Ideal Cert.Kernel3Ideal.Gen Cert.Proj
open Idealize.ShloMosaic Idealize.ShloMosaic.TcCoe Idealize.SL.Sem
open Idealize.ShloMosaic.Pipeline (Dat)

theorem index2 {a b : ℕ} {x x' : Fin a} {y y' : Fin b} (hx : x.val = x'.val) (hy : y.val = y'.val) : ix2 x y = ix2 x' y' := by
  obtain rfl := Fin.ext hx
  obtain rfl := Fin.ext hy
  rfl

theorem pair {a b : ℕ} (y : (⟨2, ![a, b]⟩ : Shape).Idx) : ∃ (r : Fin a) (l : Fin b), y = ix2 r l := by
  refine ⟨y 0, y 1, ?_⟩
  funext d
  match d with
  | ⟨0, _⟩ => rfl
  | ⟨1, _⟩ => rfl

/-! ## A row of the arrays, of the arrays the launch is given -/

section
variable (X0 : S16384x1024.Idx → EReal) (X1 : S256x1024.Idx → EReal) (W : S1024x1408.Idx → EReal) (QG : S1x256.Idx → EReal) (WQ : S256x1536.Idx → EReal)
  (KG : S1x128.Idx → EReal) (WK : S128x1024.Idx → EReal) (CO SI : S8448x128.Idx → EReal) (R : Fin 16640)

/-- The row of the input. -/
def xrow (k : Fin 1024) : EReal := if h : R.val < 16384 then X0 (ix2 ⟨R.val, h⟩ k) else X1 (ix2 ⟨R.val - 16384, by omega⟩ k)
/-- The row of the tables. -/
def trow : Fin 8448 := if R.val < 16384 then ⟨R.val % 8192, by omega⟩ else ⟨8192 + (R.val - 16384), by omega⟩
/-- Its projections. -/
def prow : Fin 1408 → EReal := lin (xrow X0 X1 R) fun k c => W (ix2 k c)
/-- Its queries before the rotation. -/
def qlin : Fin 1536 → EReal := lin (rms d256 eps (cols 256 0 (by omega) (prow X0 X1 W R)) fun k => QG (ix2 0 k)) fun k c => WQ (ix2 k c)
/-- Its latent. -/
def lrow : Fin 128 → EReal := rms d128 eps (cols 128 256 (by omega) (prow X0 X1 W R)) fun k => KG (ix2 0 k)
/-- Its keys and values. -/
def kvrow : Fin 1024 → EReal := lin (lrow X0 X1 W KG R) fun k c => WK (ix2 k c)
/-- Its rotated slab. -/
def krrow : Fin 128 → EReal := turn 384 512 (by omega) (by omega) (prow X0 X1 W R) (fun l => CO (ix2 (trow R) l)) (fun l => SI (ix2 (trow R) l))
/-- Its queries. -/
def qrow : Fin 1024 → EReal := qRow (qlin X0 X1 W QG WQ R) (fun l => CO (ix2 (trow R) l)) (fun l => SI (ix2 (trow R) l)) qs
end

variable (m : (ℓ : Loc nD τ sig) → Buf (Elt Ideal) ℓ) (c : Dev nD)

abbrev A0 : S16384x1024.Idx → EReal := V (F := Ideal) m c main_v59
abbrev A1 : S256x1024.Idx → EReal := V (F := Ideal) m c main_v60
abbrev A2 : S1024x1408.Idx → EReal := V (F := Ideal) m c main_v33
abbrev A3 : S1x256.Idx → EReal := V (F := Ideal) m c main_v45
abbrev A4 : S256x1536.Idx → EReal := V (F := Ideal) m c main_v44
abbrev A5 : S1x128.Idx → EReal := V (F := Ideal) m c main_v46
abbrev A6 : S128x1024.Idx → EReal := V (F := Ideal) m c main_v47
abbrev A7 : S8448x128.Idx → EReal := V (F := Ideal) m c main_v23
abbrev A8 : S8448x128.Idx → EReal := V (F := Ideal) m c main_v25

theorem pos0 : ∀ t : Fin cfg0.N, (cfg0.win 0).index t = ![min t.val 63, 0] :=
  (by decide +kernel : ∀ t : Fin grid0.N, win0_0.index t = ![min t.val 63, 0])
theorem pos1 : ∀ t : Fin cfg0.N, (cfg0.win 1).index t = ![t.val - 64, 0] :=
  (by decide +kernel : ∀ t : Fin grid0.N, win0_1.index t = ![t.val - 64, 0])
theorem pos2 : ∀ t : Fin cfg0.N, (cfg0.win 2).index t = ![0, 0] := (by decide +kernel : ∀ t : Fin grid0.N, win0_2.index t = ![0, 0])
theorem pos3 : ∀ t : Fin cfg0.N, (cfg0.win 3).index t = ![0, 0] := (by decide +kernel : ∀ t : Fin grid0.N, win0_3.index t = ![0, 0])
theorem pos4 : ∀ t : Fin cfg0.N, (cfg0.win 4).index t = ![0, 0] := (by decide +kernel : ∀ t : Fin grid0.N, win0_4.index t = ![0, 0])
theorem pos5 : ∀ t : Fin cfg0.N, (cfg0.win 5).index t = ![0, 0] := (by decide +kernel : ∀ t : Fin grid0.N, win0_5.index t = ![0, 0])
theorem pos6 : ∀ t : Fin cfg0.N, (cfg0.win 6).index t = ![0, 0] := (by decide +kernel : ∀ t : Fin grid0.N, win0_6.index t = ![0, 0])
theorem pos7 : ∀ t : Fin cfg0.N, (cfg0.win 7).index t = ![if t.val < 64 then t.val % 32 else t.val - 32, 0] :=
  (by decide +kernel : ∀ t : Fin grid0.N, win0_7.index t = ![if t.val < 64 then t.val % 32 else t.val - 32, 0])
theorem pos8 : ∀ t : Fin cfg0.N, (cfg0.win 8).index t = ![if t.val < 64 then t.val % 32 else t.val - 32, 0] :=
  (by decide +kernel : ∀ t : Fin grid0.N, win0_8.index t = ![if t.val < 64 then t.val % 32 else t.val - 32, 0])
theorem pos14 : ∀ t : Fin cfg0.N, (cfg0.win 14).index t = ![t.val, 0] := (by decide +kernel : ∀ t : Fin grid0.N, win0_14.index t = ![t.val, 0])
theorem pos15 : ∀ t : Fin cfg0.N, (cfg0.win 15).index t = ![t.val, 0] := (by decide +kernel : ∀ t : Fin grid0.N, win0_15.index t = ![t.val, 0])
theorem pos16 : ∀ t : Fin cfg0.N, (cfg0.win 16).index t = ![t.val, 0] := (by decide +kernel : ∀ t : Fin grid0.N, win0_16.index t = ![t.val, 0])
theorem pos17 : ∀ t : Fin cfg0.N, (cfg0.win 17).index t = ![t.val, 0] := (by decide +kernel : ∀ t : Fin grid0.N, win0_17.index t = ![t.val, 0])
theorem pos18 : ∀ t : Fin cfg0.N, (cfg0.win 18).index t = ![t.val, 0] := (by decide +kernel : ∀ t : Fin grid0.N, win0_18.index t = ![t.val, 0])
theorem pos19 : ∀ t : Fin cfg0.N, (cfg0.win 19).index t = ![t.val, 0] := (by decide +kernel : ∀ t : Fin grid0.N, win0_19.index t = ![t.val, 0])
theorem first : ∀ t : Fin grid0.N, (grid0.coords t 0).val = t.val := by decide +kernel
theorem lt65 (t : Fin cfg0.N) : t.val < 65 := t.isLt

/-- The row of the arrays that row `r` of point `t` is. -/
def row (t : Fin cfg0.N) (r : Fin 256) : Fin 16640 := ⟨t.val * 256 + r.val, by have := lt65 t; omega⟩

theorem in0 (t : Fin cfg0.N) (r : Fin 256) (d : Fin 1024) :
    (iblk (F := Ideal) m c 0 t : S256x1024.Idx → EReal) (ix2 r d) = (V (F := Ideal) m c main_v59 : S16384x1024.Idx → EReal) (ix2 ⟨min t.val 63 * 256 + r.val, by omega⟩ d) := by
  show V (F := Ideal) m c main_v59 (((cfg0.win 0).blk t).view.emb (ix2 r d)) = _
  refine congrArg (V (F := Ideal) m c main_v59) (funext fun a => Fin.ext ?_)
  refine ((cfg0.win 0).rect_emb_val t (ix2 r d) a).trans ?_
  rw [pos0]
  match a with
  | ⟨0, _⟩ => rfl
  | ⟨1, _⟩ => exact (by show 0 * 1024 + d.val = d.val; omega)

theorem in1 (t : Fin cfg0.N) (r : Fin 256) (d : Fin 1024) :
    (iblk (F := Ideal) m c 1 t : S256x1024.Idx → EReal) (ix2 r d) = (V (F := Ideal) m c main_v60 : S256x1024.Idx → EReal) (ix2 ⟨(t.val - 64) * 256 + r.val, by have := lt65 t; omega⟩ d) := by
  show V (F := Ideal) m c main_v60 (((cfg0.win 1).blk t).view.emb (ix2 r d)) = _
  refine congrArg (V (F := Ideal) m c main_v60) (funext fun a => Fin.ext ?_)
  refine ((cfg0.win 1).rect_emb_val t (ix2 r d) a).trans ?_
  rw [pos1]
  match a with
  | ⟨0, _⟩ => rfl
  | ⟨1, _⟩ => exact (by show 0 * 1024 + d.val = d.val; omega)

theorem in2 (t : Fin cfg0.N) (r : Fin 1024) (d : Fin 1408) :
    (iblk (F := Ideal) m c 2 t : S1024x1408.Idx → EReal) (ix2 r d) = (V (F := Ideal) m c main_v33 : S1024x1408.Idx → EReal) (ix2 r d) := by
  show V (F := Ideal) m c main_v33 (((cfg0.win 2).blk t).view.emb (ix2 r d)) = _
  refine congrArg (V (F := Ideal) m c main_v33) (funext fun a => Fin.ext ?_)
  refine ((cfg0.win 2).rect_emb_val t (ix2 r d) a).trans ?_
  rw [pos2]
  match a with
  | ⟨0, _⟩ => exact (by show 0 * 1024 + r.val = r.val; omega)
  | ⟨1, _⟩ => exact (by show 0 * 1408 + d.val = d.val; omega)

theorem in3 (t : Fin cfg0.N) (r : Fin 1) (d : Fin 256) :
    (iblk (F := Ideal) m c 3 t : S1x256.Idx → EReal) (ix2 r d) = (V (F := Ideal) m c main_v45 : S1x256.Idx → EReal) (ix2 r d) := by
  show V (F := Ideal) m c main_v45 (((cfg0.win 3).blk t).view.emb (ix2 r d)) = _
  refine congrArg (V (F := Ideal) m c main_v45) (funext fun a => Fin.ext ?_)
  refine ((cfg0.win 3).rect_emb_val t (ix2 r d) a).trans ?_
  rw [pos3]
  match a with
  | ⟨0, _⟩ => exact (by show 0 * 1 + r.val = r.val; omega)
  | ⟨1, _⟩ => exact (by show 0 * 256 + d.val = d.val; omega)

theorem in4 (t : Fin cfg0.N) (r : Fin 256) (d : Fin 1536) :
    (iblk (F := Ideal) m c 4 t : S256x1536.Idx → EReal) (ix2 r d) = (V (F := Ideal) m c main_v44 : S256x1536.Idx → EReal) (ix2 r d) := by
  show V (F := Ideal) m c main_v44 (((cfg0.win 4).blk t).view.emb (ix2 r d)) = _
  refine congrArg (V (F := Ideal) m c main_v44) (funext fun a => Fin.ext ?_)
  refine ((cfg0.win 4).rect_emb_val t (ix2 r d) a).trans ?_
  rw [pos4]
  match a with
  | ⟨0, _⟩ => exact (by show 0 * 256 + r.val = r.val; omega)
  | ⟨1, _⟩ => exact (by show 0 * 1536 + d.val = d.val; omega)

theorem in5 (t : Fin cfg0.N) (r : Fin 1) (d : Fin 128) :
    (iblk (F := Ideal) m c 5 t : S1x128.Idx → EReal) (ix2 r d) = (V (F := Ideal) m c main_v46 : S1x128.Idx → EReal) (ix2 r d) := by
  show V (F := Ideal) m c main_v46 (((cfg0.win 5).blk t).view.emb (ix2 r d)) = _
  refine congrArg (V (F := Ideal) m c main_v46) (funext fun a => Fin.ext ?_)
  refine ((cfg0.win 5).rect_emb_val t (ix2 r d) a).trans ?_
  rw [pos5]
  match a with
  | ⟨0, _⟩ => exact (by show 0 * 1 + r.val = r.val; omega)
  | ⟨1, _⟩ => exact (by show 0 * 128 + d.val = d.val; omega)

theorem in6 (t : Fin cfg0.N) (r : Fin 128) (d : Fin 1024) :
    (iblk (F := Ideal) m c 6 t : S128x1024.Idx → EReal) (ix2 r d) = (V (F := Ideal) m c main_v47 : S128x1024.Idx → EReal) (ix2 r d) := by
  show V (F := Ideal) m c main_v47 (((cfg0.win 6).blk t).view.emb (ix2 r d)) = _
  refine congrArg (V (F := Ideal) m c main_v47) (funext fun a => Fin.ext ?_)
  refine ((cfg0.win 6).rect_emb_val t (ix2 r d) a).trans ?_
  rw [pos6]
  match a with
  | ⟨0, _⟩ => exact (by show 0 * 128 + r.val = r.val; omega)
  | ⟨1, _⟩ => exact (by show 0 * 1024 + d.val = d.val; omega)

theorem in7 (t : Fin cfg0.N) (r : Fin 256) (d : Fin 128) :
    (iblk (F := Ideal) m c 7 t : S256x128.Idx → EReal) (ix2 r d) = (V (F := Ideal) m c main_v23 : S8448x128.Idx → EReal) (ix2 ⟨(if t.val < 64 then t.val % 32 else t.val - 32) * 256 + r.val, by have := lt65 t; split <;> omega⟩ d) := by
  show V (F := Ideal) m c main_v23 (((cfg0.win 7).blk t).view.emb (ix2 r d)) = _
  refine congrArg (V (F := Ideal) m c main_v23) (funext fun a => Fin.ext ?_)
  refine ((cfg0.win 7).rect_emb_val t (ix2 r d) a).trans ?_
  rw [pos7]
  match a with
  | ⟨0, _⟩ => rfl
  | ⟨1, _⟩ => exact (by show 0 * 128 + d.val = d.val; omega)

theorem in8 (t : Fin cfg0.N) (r : Fin 256) (d : Fin 128) :
    (iblk (F := Ideal) m c 8 t : S256x128.Idx → EReal) (ix2 r d) = (V (F := Ideal) m c main_v25 : S8448x128.Idx → EReal) (ix2 ⟨(if t.val < 64 then t.val % 32 else t.val - 32) * 256 + r.val, by have := lt65 t; split <;> omega⟩ d) := by
  show V (F := Ideal) m c main_v25 (((cfg0.win 8).blk t).view.emb (ix2 r d)) = _
  refine congrArg (V (F := Ideal) m c main_v25) (funext fun a => Fin.ext ?_)
  refine ((cfg0.win 8).rect_emb_val t (ix2 r d) a).trans ?_
  rw [pos8]
  match a with
  | ⟨0, _⟩ => rfl
  | ⟨1, _⟩ => exact (by show 0 * 128 + d.val = d.val; omega)

theorem xrow_eq (t : Fin cfg0.N) (r : Fin 256) :
    xin (grid0.coords t) (iblk (F := Ideal) m c 0 t) (iblk (F := Ideal) m c 1 t) r = xrow (A0 m c) (A1 m c) (row t r) := by
  funext k
  have ht := lt65 t
  have hr := r.isLt
  unfold xin xrow
  rw [first]
  by_cases h : t.val < 64
  · rw [if_pos h, dif_pos (show (row t r).val < 16384 by show t.val * 256 + r.val < 16384; omega), in0]
    exact congrArg (A0 m c) (index2 (by show min t.val 63 * 256 + r.val = t.val * 256 + r.val; omega) rfl)
  · rw [if_neg h, dif_neg (show ¬ (row t r).val < 16384 by show ¬ t.val * 256 + r.val < 16384; omega), in1]
    exact congrArg (A1 m c) (index2 (by show (t.val - 64) * 256 + r.val = t.val * 256 + r.val - 16384; omega) rfl)

theorem trow_val (t : Fin cfg0.N) (r : Fin 256) : (if t.val < 64 then t.val % 32 else t.val - 32) * 256 + r.val = (trow (row t r)).val := by
  have ht := lt65 t
  have hr := r.isLt
  unfold trow
  by_cases h : t.val < 64
  · rw [if_pos h, if_pos (show (row t r).val < 16384 by show t.val * 256 + r.val < 16384; omega)]
    show t.val % 32 * 256 + r.val = (t.val * 256 + r.val) % 8192
    omega
  · rw [if_neg h, if_neg (show ¬ (row t r).val < 16384 by show ¬ t.val * 256 + r.val < 16384; omega)]
    show (t.val - 32) * 256 + r.val = 8192 + (t.val * 256 + r.val - 16384)
    omega

theorem prow_eq (t : Fin cfg0.N) (r : Fin 256) :
    pin (grid0.coords t) (iblk (F := Ideal) m c 0 t) (iblk (F := Ideal) m c 1 t) (iblk (F := Ideal) m c 2 t) r = prow (A0 m c) (A1 m c) (A2 m c) (row t r) := by
  unfold pin prow
  rw [xrow_eq]
  exact congrArg (lin _) (funext fun k => funext fun d => in2 m c t k d)

theorem qlin_eq (t : Fin cfg0.N) (r : Fin 256) :
    qin (grid0.coords t) (iblk (F := Ideal) m c 0 t) (iblk (F := Ideal) m c 1 t) (iblk (F := Ideal) m c 2 t) (iblk (F := Ideal) m c 3 t) (iblk (F := Ideal) m c 4 t) r
      = qlin (A0 m c) (A1 m c) (A2 m c) (A3 m c) (A4 m c) (row t r) := by
  unfold qin qlin
  rw [prow_eq]
  exact congrArg₂ (fun g w => lin (rms d256 eps _ g) w) (funext fun k => in3 m c t 0 k) (funext fun k => funext fun d => in4 m c t k d)

theorem lrow_eq (t : Fin cfg0.N) (r : Fin 256) :
    latin (grid0.coords t) (iblk (F := Ideal) m c 0 t) (iblk (F := Ideal) m c 1 t) (iblk (F := Ideal) m c 2 t) (iblk (F := Ideal) m c 5 t) r
      = lrow (A0 m c) (A1 m c) (A2 m c) (A5 m c) (row t r) := by
  unfold latin lrow
  rw [prow_eq]
  exact congrArg (rms d128 eps _) (funext fun k => in5 m c t 0 k)

theorem kvrow_eq (t : Fin cfg0.N) (r : Fin 256) :
    kvin (grid0.coords t) (iblk (F := Ideal) m c 0 t) (iblk (F := Ideal) m c 1 t) (iblk (F := Ideal) m c 2 t) (iblk (F := Ideal) m c 5 t) (iblk (F := Ideal) m c 6 t) r
      = kvrow (A0 m c) (A1 m c) (A2 m c) (A5 m c) (A6 m c) (row t r) := by
  unfold kvin kvrow
  rw [lrow_eq]
  exact congrArg (lin _) (funext fun k => funext fun d => in6 m c t k d)

theorem co_row (t : Fin cfg0.N) (r : Fin 256) :
    (fun l => (iblk (F := Ideal) m c 7 t : S256x128.Idx → EReal) (ix2 r l)) = fun l => A7 m c (ix2 (trow (row t r)) l) :=
  funext fun l => (in7 m c t r l).trans (congrArg (A7 m c) (index2 (trow_val t r) rfl))
theorem si_row (t : Fin cfg0.N) (r : Fin 256) :
    (fun l => (iblk (F := Ideal) m c 8 t : S256x128.Idx → EReal) (ix2 r l)) = fun l => A8 m c (ix2 (trow (row t r)) l) :=
  funext fun l => (in8 m c t r l).trans (congrArg (A8 m c) (index2 (trow_val t r) rfl))

theorem krrow_eq (t : Fin cfg0.N) (r : Fin 256) :
    krin (grid0.coords t) (iblk (F := Ideal) m c 0 t) (iblk (F := Ideal) m c 1 t) (iblk (F := Ideal) m c 2 t) (iblk (F := Ideal) m c 7 t) (iblk (F := Ideal) m c 8 t) r
      = krrow (A0 m c) (A1 m c) (A2 m c) (A7 m c) (A8 m c) (row t r) := by
  unfold krin krrow
  rw [prow_eq, co_row, si_row]

/-- What output 0 is shown to hold. -/
def res14 : S16640x1024.Idx → EReal := fun y => qrow (A0 m c) (A1 m c) (A2 m c) (A3 m c) (A4 m c) (A7 m c) (A8 m c) (y 0) (y 1)

theorem emb14 (t : Fin cfg0.N) (r : Fin 256) (j : Fin 1024) :
    ((cfg0.win 14).blk t).view.emb (ix2 (n0 := 256) (n1 := 1024) r j) = ix2 (n0 := 16640) (n1 := 1024) (row t r) j := by
  funext a
  refine Fin.ext ?_
  refine ((cfg0.win 14).rect_emb_val t (ix2 (n0 := 256) (n1 := 1024) r j) a).trans ?_
  rw [pos14]
  match a with
  | ⟨0, _⟩ => rfl
  | ⟨1, _⟩ => exact (by show 0 * 1024 + j.val = j.val; omega)

theorem put14 (t : Fin cfg0.N) (y : S256x1024.Idx) :
    (out0_14 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x1024.Idx → EReal) y = res14 m c (((cfg0.win 14).blk t).view.emb y) := by
  obtain ⟨r, j, rfl⟩ := pair y
  refine Eq.trans ?_ (congrArg (res14 m c) (emb14 t r j).symm)
  refine (q_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [qlin_eq, co_row, si_row]
  rfl

theorem within14 (y : S16640x1024.Idx) : ∃ t : Fin cfg0.N, (cfg0.win 14).flush t = true ∧ y ∈ ((cfg0.win 14).blk t).view.set := by
  obtain ⟨R, C, rfl⟩ := pair y
  have e := emb14 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_14 _, Eq.subst (motive := fun z => z ∈ ((cfg0.win 14).blk _).view.set) e (View.emb_mem_set _ _)⟩

set_option maxHeartbeats 2000000 in
theorem final14 : (dats (F := Ideal) m 0 c).arrAt 14 cfg0.N = res14 m c :=
  (dats (F := Ideal) m 0 c).arrAt_eq_of_emb 14 _ (fun t _ y => (congrFun (Value.flushed14 m c t) y).trans (put14 m c t y)) (fun y => within14 y)

/-- What output 1 is shown to hold. -/
def res15 : S16640x1024.Idx → EReal := fun y => kRow (kvrow (A0 m c) (A1 m c) (A2 m c) (A5 m c) (A6 m c) (y 0)) (krrow (A0 m c) (A1 m c) (A2 m c) (A7 m c) (A8 m c) (y 0)) (y 1)

theorem emb15 (t : Fin cfg0.N) (r : Fin 256) (j : Fin 1024) :
    ((cfg0.win 15).blk t).view.emb (ix2 (n0 := 256) (n1 := 1024) r j) = ix2 (n0 := 16640) (n1 := 1024) (row t r) j := by
  funext a
  refine Fin.ext ?_
  refine ((cfg0.win 15).rect_emb_val t (ix2 (n0 := 256) (n1 := 1024) r j) a).trans ?_
  rw [pos15]
  match a with
  | ⟨0, _⟩ => rfl
  | ⟨1, _⟩ => exact (by show 0 * 1024 + j.val = j.val; omega)

theorem put15 (t : Fin cfg0.N) (y : S256x1024.Idx) :
    (out0_15 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x1024.Idx → EReal) y = res15 m c (((cfg0.win 15).blk t).view.emb y) := by
  obtain ⟨r, j, rfl⟩ := pair y
  refine Eq.trans ?_ (congrArg (res15 m c) (emb15 t r j).symm)
  refine (k_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [kvrow_eq, krrow_eq]
  rfl

theorem within15 (y : S16640x1024.Idx) : ∃ t : Fin cfg0.N, (cfg0.win 15).flush t = true ∧ y ∈ ((cfg0.win 15).blk t).view.set := by
  obtain ⟨R, C, rfl⟩ := pair y
  have e := emb15 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_15 _, Eq.subst (motive := fun z => z ∈ ((cfg0.win 15).blk _).view.set) e (View.emb_mem_set _ _)⟩

set_option maxHeartbeats 2000000 in
theorem final15 : (dats (F := Ideal) m 0 c).arrAt 15 cfg0.N = res15 m c :=
  (dats (F := Ideal) m 0 c).arrAt_eq_of_emb 15 _ (fun t _ y => (congrFun (Value.flushed15 m c t) y).trans (put15 m c t y)) (fun y => within15 y)

/-- What output 2 is shown to hold. -/
def res16 : S16640x512.Idx → EReal := fun y => vRow (kvrow (A0 m c) (A1 m c) (A2 m c) (A5 m c) (A6 m c) (y 0)) (y 1)

theorem emb16 (t : Fin cfg0.N) (r : Fin 256) (j : Fin 512) :
    ((cfg0.win 16).blk t).view.emb (ix2 (n0 := 256) (n1 := 512) r j) = ix2 (n0 := 16640) (n1 := 512) (row t r) j := by
  funext a
  refine Fin.ext ?_
  refine ((cfg0.win 16).rect_emb_val t (ix2 (n0 := 256) (n1 := 512) r j) a).trans ?_
  rw [pos16]
  match a with
  | ⟨0, _⟩ => rfl
  | ⟨1, _⟩ => exact (by show 0 * 512 + j.val = j.val; omega)

theorem put16 (t : Fin cfg0.N) (y : S256x512.Idx) :
    (out0_16 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x512.Idx → EReal) y = res16 m c (((cfg0.win 16).blk t).view.emb y) := by
  obtain ⟨r, j, rfl⟩ := pair y
  refine Eq.trans ?_ (congrArg (res16 m c) (emb16 t r j).symm)
  refine (v_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [kvrow_eq]
  rfl

theorem within16 (y : S16640x512.Idx) : ∃ t : Fin cfg0.N, (cfg0.win 16).flush t = true ∧ y ∈ ((cfg0.win 16).blk t).view.set := by
  obtain ⟨R, C, rfl⟩ := pair y
  have e := emb16 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_16 _, Eq.subst (motive := fun z => z ∈ ((cfg0.win 16).blk _).view.set) e (View.emb_mem_set _ _)⟩

set_option maxHeartbeats 2000000 in
theorem final16 : (dats (F := Ideal) m 0 c).arrAt 16 cfg0.N = res16 m c :=
  (dats (F := Ideal) m 0 c).arrAt_eq_of_emb 16 _ (fun t _ y => (congrFun (Value.flushed16 m c t) y).trans (put16 m c t y)) (fun y => within16 y)

/-- What output 3 is shown to hold. -/
def res17 : S16640x128.Idx → EReal := fun y => lrow (A0 m c) (A1 m c) (A2 m c) (A5 m c) (y 0) (y 1)

theorem emb17 (t : Fin cfg0.N) (r : Fin 256) (j : Fin 128) :
    ((cfg0.win 17).blk t).view.emb (ix2 (n0 := 256) (n1 := 128) r j) = ix2 (n0 := 16640) (n1 := 128) (row t r) j := by
  funext a
  refine Fin.ext ?_
  refine ((cfg0.win 17).rect_emb_val t (ix2 (n0 := 256) (n1 := 128) r j) a).trans ?_
  rw [pos17]
  match a with
  | ⟨0, _⟩ => rfl
  | ⟨1, _⟩ => exact (by show 0 * 128 + j.val = j.val; omega)

theorem put17 (t : Fin cfg0.N) (y : S256x128.Idx) :
    (out0_17 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x128.Idx → EReal) y = res17 m c (((cfg0.win 17).blk t).view.emb y) := by
  obtain ⟨r, j, rfl⟩ := pair y
  refine Eq.trans ?_ (congrArg (res17 m c) (emb17 t r j).symm)
  refine (lat_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [lrow_eq]
  rfl

theorem within17 (y : S16640x128.Idx) : ∃ t : Fin cfg0.N, (cfg0.win 17).flush t = true ∧ y ∈ ((cfg0.win 17).blk t).view.set := by
  obtain ⟨R, C, rfl⟩ := pair y
  have e := emb17 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_17 _, Eq.subst (motive := fun z => z ∈ ((cfg0.win 17).blk _).view.set) e (View.emb_mem_set _ _)⟩

set_option maxHeartbeats 2000000 in
theorem final17 : (dats (F := Ideal) m 0 c).arrAt 17 cfg0.N = res17 m c :=
  (dats (F := Ideal) m 0 c).arrAt_eq_of_emb 17 _ (fun t _ y => (congrFun (Value.flushed17 m c t) y).trans (put17 m c t y)) (fun y => within17 y)

/-- What output 4 is shown to hold. -/
def res18 : S16640x64.Idx → EReal := fun y => krrow (A0 m c) (A1 m c) (A2 m c) (A7 m c) (A8 m c) (y 0) ⟨(y 1).val, Nat.lt_trans (y 1).isLt (by decide : 64 < 128)⟩

theorem emb18 (t : Fin cfg0.N) (r : Fin 256) (j : Fin 64) :
    ((cfg0.win 18).blk t).view.emb (ix2 (n0 := 256) (n1 := 64) r j) = ix2 (n0 := 16640) (n1 := 64) (row t r) j := by
  funext a
  refine Fin.ext ?_
  refine ((cfg0.win 18).rect_emb_val t (ix2 (n0 := 256) (n1 := 64) r j) a).trans ?_
  rw [pos18]
  match a with
  | ⟨0, _⟩ => rfl
  | ⟨1, _⟩ => exact (by show 0 * 64 + j.val = j.val; omega)

theorem put18 (t : Fin cfg0.N) (y : S256x64.Idx) :
    (out0_18 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x64.Idx → EReal) y = res18 m c (((cfg0.win 18).blk t).view.emb y) := by
  obtain ⟨r, j, rfl⟩ := pair y
  refine Eq.trans ?_ (congrArg (res18 m c) (emb18 t r j).symm)
  refine (kr_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [krrow_eq]
  rfl

theorem within18 (y : S16640x64.Idx) : ∃ t : Fin cfg0.N, (cfg0.win 18).flush t = true ∧ y ∈ ((cfg0.win 18).blk t).view.set := by
  obtain ⟨R, C, rfl⟩ := pair y
  have e := emb18 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_18 _, Eq.subst (motive := fun z => z ∈ ((cfg0.win 18).blk _).view.set) e (View.emb_mem_set _ _)⟩

set_option maxHeartbeats 2000000 in
theorem final18 : (dats (F := Ideal) m 0 c).arrAt 18 cfg0.N = res18 m c :=
  (dats (F := Ideal) m 0 c).arrAt_eq_of_emb 18 _ (fun t _ y => (congrFun (Value.flushed18 m c t) y).trans (put18 m c t y)) (fun y => within18 y)

/-- What output 5 is shown to hold. -/
def res19 : S16640x256.Idx → EReal := fun y => cols 256 640 (by omega) (prow (A0 m c) (A1 m c) (A2 m c) (y 0)) (y 1)

theorem emb19 (t : Fin cfg0.N) (r : Fin 256) (j : Fin 256) :
    ((cfg0.win 19).blk t).view.emb (ix2 (n0 := 256) (n1 := 256) r j) = ix2 (n0 := 16640) (n1 := 256) (row t r) j := by
  funext a
  refine Fin.ext ?_
  refine ((cfg0.win 19).rect_emb_val t (ix2 (n0 := 256) (n1 := 256) r j) a).trans ?_
  rw [pos19]
  match a with
  | ⟨0, _⟩ => rfl
  | ⟨1, _⟩ => exact (by show 0 * 256 + j.val = j.val; omega)

theorem put19 (t : Fin cfg0.N) (y : S256x256.Idx) :
    (out0_19 (F := Ideal) (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) : S256x256.Idx → EReal) y = res19 m c (((cfg0.win 19).blk t).view.emb y) := by
  obtain ⟨r, j, rfl⟩ := pair y
  refine Eq.trans ?_ (congrArg (res19 m c) (emb19 t r j).symm)
  refine (gate_out (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) r j).trans ?_
  rw [prow_eq]
  rfl

theorem within19 (y : S16640x256.Idx) : ∃ t : Fin cfg0.N, (cfg0.win 19).flush t = true ∧ y ∈ ((cfg0.win 19).blk t).view.set := by
  obtain ⟨R, C, rfl⟩ := pair y
  have e := emb19 ⟨R.val / 256, show _ < 65 by have := R.isLt; omega⟩ ⟨R.val % 256, by omega⟩ C
  have e' : row ⟨R.val / 256, show _ < 65 by have := R.isLt; omega⟩ ⟨R.val % 256, by omega⟩ = R := Fin.ext (by
    show R.val / 256 * 256 + R.val % 256 = R.val; omega)
  rw [e'] at e
  exact ⟨⟨R.val / 256, show _ < 65 by have := R.isLt; omega⟩, flush0_19 _, Eq.subst (motive := fun z => z ∈ ((cfg0.win 19).blk _).view.set) e (View.emb_mem_set _ _)⟩

set_option maxHeartbeats 2000000 in
theorem final19 : (dats (F := Ideal) m 0 c).arrAt 19 cfg0.N = res19 m c :=
  (dats (F := Ideal) m 0 c).arrAt_eq_of_emb 19 _ (fun t _ y => (congrFun (Value.flushed19 m c t) y).trans (put19 m c t y)) (fun y => within19 y)

end Cert.Kernel3Ideal.Hand
-- ==== Proof.Proj.Host.lean ====
/- The arrays the launch is given, in terms of the arguments. -/
module

public import proofs.«01_k».proof.Proof.Proj.Body
public import Idealize.ShloMosaic.Lib.Pointwise

@[expose] public section

noncomputable section

namespace Cert.Kernel3Ideal.Hand

open Cert.Kernel3Ideal Cert.Kernel3Ideal.Gen Cert.Proj
open Idealize.ShloMosaic Idealize.ShloMosaic.TcCoe Idealize.SL.Sem

/-- The positions of the rows of the tables. -/
def posT : S8448.Idx → BitVec 32 :=
  concatenate S8448 0 [⟨S8192, iotaInDim S8192 32 0⟩, ⟨S256, shapeCast S256 (broadcastInDim S8x32 ![0, 1] bcast_S1x32_S8x32_0_1
    (shapeCast S1x32 (addi (broadcastInDim S32 ![] bcast_S_S32 (constantI S_ 32 1024#32)) (iotaInDim S32 32 0)) shapeCasts_S32_S1x32)) shapeCasts_S8x32_S256⟩] concatenates_S8192_S256_S8448_d0

/-- The frequencies. -/
def freqT : S32.Idx → EReal :=
  Host.powf (F := Ideal) (φ := .f32) (broadcastInDim S32 ![] bcast_S_S32 (constant (F := Ideal) S_ .f32 0x461C4000#32))
    (Host.divf (F := Ideal) (φ := .f32) (Host.negf (F := Ideal) (φ := .f32) (sitofp (F := Ideal) .f32 (iotaInDim S32 32 0))) (broadcastInDim S32 ![] bcast_S_S32 (constant (F := Ideal) S_ .f32 0x42000000#32)))

/-- The angles. -/
def angT : S8448x32.Idx → EReal :=
  mulf (F := Ideal) (φ := .f32) (broadcastInDim S8448x32 ![0, 1] bcast_S8448x1_S8448x32_0_1 (broadcastInDim S8448x1 ![0] bcast_S8448_S8448x1_0 (sitofp (F := Ideal) .f32 posT)))
    (broadcastInDim S8448x32 ![0, 1] bcast_S1x32_S8448x32_0_1 (broadcastInDim S1x32 ![1] bcast_S32_S1x32_1 freqT))

/-- The table of cosines. -/
def cosT : S8448x128.Idx → EReal :=
  concatenate S8448x128 1 [⟨S8448x32, Host.cos (F := Ideal) (φ := .f32) angT⟩, ⟨S8448x32, Host.cos (F := Ideal) (φ := .f32) angT⟩,
    ⟨S8448x64, broadcastInDim S8448x64 ![] bcast_S_S8448x64 (constant (F := Ideal) S_ .f32 0x00000000#32)⟩] concatenates_S8448x32_S8448x32_S8448x64_S8448x128_d1

/-- The table of sines. -/
def sinT : S8448x128.Idx → EReal :=
  concatenate S8448x128 1 [⟨S8448x32, Host.negf (F := Ideal) (φ := .f32) (Host.sin (F := Ideal) (φ := .f32) angT)⟩, ⟨S8448x32, Host.sin (F := Ideal) (φ := .f32) angT⟩,
    ⟨S8448x64, broadcastInDim S8448x64 ![] bcast_S_S8448x64 (constant (F := Ideal) S_ .f32 0x00000000#32)⟩] concatenates_S8448x32_S8448x32_S8448x64_S8448x128_d1

/-- The packed input weights. -/
def wPack (w : S1024x1216.Idx → EReal) : S1024x1408.Idx → EReal :=
  truncf (F := Ideal) (φ := .f32) .bf16 (concatenate S1024x1408 1 [⟨S1024x384, extractStridedSlice S1024x384 ![0, 0] w slices_S1024x1216_S1024x384_0_0⟩,
    ⟨S1024x64, extractStridedSlice S1024x64 ![0, 384] w slices_S1024x1216_S1024x64_0_384⟩,
    ⟨S1024x64, broadcastInDim S1024x64 ![] bcast_S_S1024x64 (constant (F := Ideal) S_ .f32 0x00000000#32)⟩,
    ⟨S1024x32, extractStridedSlice S1024x32 ![0, 32] (extractStridedSlice S1024x64 ![0, 384] w slices_S1024x1216_S1024x64_0_384) slices_S1024x64_S1024x32_0_32⟩,
    ⟨S1024x32, extractStridedSlice S1024x32 ![0, 0] (extractStridedSlice S1024x64 ![0, 384] w slices_S1024x1216_S1024x64_0_384) slices_S1024x64_S1024x32_0_0⟩,
    ⟨S1024x64, broadcastInDim S1024x64 ![] bcast_S_S1024x64 (constant (F := Ideal) S_ .f32 0x00000000#32)⟩,
    ⟨S1024x768, extractStridedSlice S1024x768 ![0, 448] w slices_S1024x1216_S1024x768_0_448⟩]
    concatenates_S1024x384_S1024x64_S1024x64_S1024x32_S1024x32_S1024x64_S1024x768_S1024x1408_d1) bitsLt_bf16_f32

/-- The query weights by head. -/
def wHead (w : S256x768.Idx → EReal) : S256x4x192.Idx → EReal := shapeCast S256x4x192 w shapeCasts_S256x768_S256x4x192
/-- A head's weights with zeros after them. -/
def wLeft (w : S256x768.Idx → EReal) : S256x4x256.Idx → EReal :=
  concatenate S256x4x256 2 [⟨S256x4x192, wHead w⟩, ⟨S256x4x64, broadcastInDim S256x4x64 ![] bcast_S_S256x4x64 (constant (F := Ideal) S_ .f32 0x00000000#32)⟩] concatenates_S256x4x192_S256x4x64_S256x4x256_d2
/-- A head's rotary weights, the halves exchanged. -/
def wRight (w : S256x768.Idx → EReal) : S256x4x128.Idx → EReal :=
  concatenate S256x4x128 2 [⟨S256x4x32, extractStridedSlice S256x4x32 ![0, 0, 32] (extractStridedSlice S256x4x64 ![0, 0, 128] (wHead w) slices_S256x4x192_S256x4x64_0_0_128) slices_S256x4x64_S256x4x32_0_0_32⟩,
    ⟨S256x4x32, extractStridedSlice S256x4x32 ![0, 0, 0] (extractStridedSlice S256x4x64 ![0, 0, 128] (wHead w) slices_S256x4x192_S256x4x64_0_0_128) slices_S256x4x64_S256x4x32_0_0_0⟩,
    ⟨S256x4x64, broadcastInDim S256x4x64 ![] bcast_S_S256x4x64 (constant (F := Ideal) S_ .f32 0x00000000#32)⟩] concatenates_S256x4x32_S256x4x32_S256x4x64_S256x4x128_d2
/-- The packed query weights. -/
def wqPack (w : S256x768.Idx → EReal) : S256x1536.Idx → EReal :=
  truncf (F := Ideal) (φ := .f32) .bf16 (concatenate S256x1536 1 [⟨S256x1024, shapeCast S256x1024 (wLeft w) shapeCasts_S256x4x256_S256x1024⟩,
    ⟨S256x512, shapeCast S256x512 (wRight w) shapeCasts_S256x4x128_S256x512⟩] concatenates_S256x1024_S256x512_S256x1536_d1) bitsLt_bf16_f32

end Cert.Kernel3Ideal.Hand
-- ==== Proof.Proj.Arrays.lean ====
/- The arrays the launch is given are the packed arrays. -/
module

public import proofs.«01_k».proof.Proof.Proj.Value
public import proofs.«01_k».proof.Proof.Proj.Host

@[expose] public section

set_option maxHeartbeats 4000000

noncomputable section

namespace Cert.Kernel3Ideal.Hand

open Cert.Kernel3Ideal Cert.Kernel3Ideal.Gen Cert.Proj
open Idealize.ShloMosaic Idealize.ShloMosaic.TcCoe Idealize.SL.Sem

variable (m : (ℓ : Loc nD τ sig) → Buf (Elt Ideal) ℓ) (c : Dev nD)

theorem V_v45 : V (F := Ideal) m c main_v45 = shapeCast S1x256 (m ((c : Thread nD τ).loc main_arg3) : S256.Idx → EReal) shapeCasts_S256_S1x256 := rfl
theorem V_v46 : V (F := Ideal) m c main_v46 = shapeCast S1x128 (m ((c : Thread nD τ).loc main_arg5) : S128.Idx → EReal) shapeCasts_S128_S1x128 := rfl
theorem V_v47 : V (F := Ideal) m c main_v47 = truncf (F := Ideal) (φ := .f32) .bf16 (m ((c : Thread nD τ).loc main_arg6) : S128x1024.Idx → EReal) bitsLt_bf16_f32 := rfl
theorem V_v59 : V (F := Ideal) m c main_v59 = shapeCast S16384x1024 (m ((c : Thread nD τ).loc main_arg0) : S2x8192x1024.Idx → EReal) shapeCasts_S2x8192x1024_S16384x1024 := rfl
theorem V_v60 : V (F := Ideal) m c main_v60 = shapeCast S256x1024 (m ((c : Thread nD τ).loc main_arg1) : S8x32x1024.Idx → EReal) shapeCasts_S8x32x1024_S256x1024 := rfl
theorem V_v33 : V (F := Ideal) m c main_v33 = wPack (m ((c : Thread nD τ).loc main_arg2)) := rfl
theorem V_v44 : V (F := Ideal) m c main_v44 = wqPack (m ((c : Thread nD τ).loc main_arg4)) := rfl
theorem V_v23 : V (F := Ideal) m c main_v23 = cosT := rfl
theorem V_v25 : V (F := Ideal) m c main_v25 = sinT := rfl

end Cert.Kernel3Ideal.Hand
-- ==== Proof.Proj.Common.lean ====
/- What both programs are read as: rows of the input, positions, angles and the rotation. -/
module

public import proofs.«01_k».proof.Proof.Proj.Body

@[expose] public section

noncomputable section

namespace Cert.Proj

open Idealize.ShloMosaic

/-- A row of the two inputs laid one after the other. -/
def pick (X0 : Fin 16384 → Fin 1024 → EReal) (X1 : Fin 256 → Fin 1024 → EReal) (R : Fin 16640) (k : Fin 1024) : EReal :=
  if h : R.val < 16384 then X0 ⟨R.val, h⟩ k else X1 ⟨R.val - 16384, by omega⟩ k

/-- The position of a row. -/
def pos (R : Fin 16640) : BitVec 32 :=
  if R.val < 16384 then BitVec.ofNat 32 (R.val % 8192) else IntOp.addi 1024#32 (BitVec.ofNat 32 ((R.val - 16384) % 32))

/-- The frequency of a pair of coordinates. -/
def freq (l : Fin 32) : EReal :=
  Ideal.pow (Ideal.ofBits .f32 0x461C4000#32)
    (Ideal.div (-FloatOps.sitofp (F := Ideal) .f32 (BitVec.ofNat 32 l.val)) (Ideal.ofBits .f32 0x42000000#32))

/-- The angle at a position. -/
def ang (p : BitVec 32) (l : Fin 32) : EReal := FloatOps.sitofp (F := Ideal) .f32 p * freq l

/-- The rotation of the pairs of a vector's two halves by the angles at a position. -/
def rot (p : BitVec 32) (a b : Fin 32 → EReal) (l : Fin 64) : EReal :=
  if h : l.val < 32 then a ⟨l.val, h⟩ * Ideal.cos (ang p ⟨l.val, h⟩) - b ⟨l.val, h⟩ * Ideal.sin (ang p ⟨l.val, h⟩)
  else a ⟨l.val - 32, by omega⟩ * Ideal.sin (ang p ⟨l.val - 32, by omega⟩) + b ⟨l.val - 32, by omega⟩ * Ideal.cos (ang p ⟨l.val - 32, by omega⟩)

/-- Three parts laid end to end, the last one zeros. -/
def three (x : Fin 128 → EReal) (y : Fin 64 → EReal) (d : Fin 256) : EReal :=
  if h : d.val < 128 then x ⟨d.val, h⟩ else if h : d.val - 128 < 64 then y ⟨d.val - 128, h⟩ else 0

end Cert.Proj
-- ==== Proof.Proj.Entries.lean ====
/- The entries of the packed arrays. -/
module

public import proofs.«01_k».proof.Proof.Proj.Host
public import proofs.«01_k».proof.Proof.Proj.Common

@[expose] public section

set_option maxRecDepth 4000

noncomputable section

namespace Cert.Kernel3Ideal.Hand

open Cert.Kernel3Ideal Cert.Kernel3Ideal.Gen Cert.Proj
open Idealize.ShloMosaic Idealize.ShloMosaic.TcCoe Idealize.SL.Sem

theorem wPack_low (w : S1024x1216.Idx → EReal) (k : Fin 1024) (c : Fin 1408) (h : c.val < 448) : wPack w (ix2 k c) = w (ix2 k ⟨c.val, by omega⟩) := by
  pointwise [wPack]
  split
  · rfl
  · rw [dif_pos (by omega)]
    exact congrArg (fun j => w (ix2 k j)) (Fin.ext (by show 384 + (c.val - 384) = c.val; omega))

theorem wPack_second (w : S1024x1216.Idx → EReal) (k : Fin 1024) (c : Fin 1408) (h : 512 ≤ c.val) (h' : c.val < 544) : wPack w (ix2 k c) = w (ix2 k ⟨c.val - 96, by omega⟩) := by
  pointwise [wPack]
  rw [dif_neg (by omega), dif_neg (by omega), dif_neg (by omega), dif_pos (by omega)]
  exact congrArg (fun j => w (ix2 k j)) (Fin.ext (by show 384 + (32 + (c.val - 384 - 64 - 64)) = c.val - 96; omega))

theorem wPack_first (w : S1024x1216.Idx → EReal) (k : Fin 1024) (c : Fin 1408) (h : 544 ≤ c.val) (h' : c.val < 576) : wPack w (ix2 k c) = w (ix2 k ⟨c.val - 160, by omega⟩) := by
  pointwise [wPack]
  rw [dif_neg (by omega), dif_neg (by omega), dif_neg (by omega), dif_neg (by omega), dif_pos (by omega)]
  exact congrArg (fun j => w (ix2 k j)) (Fin.ext (by show 384 + (c.val - 384 - 64 - 64 - 32) = c.val - 160; omega))

theorem wPack_high (w : S1024x1216.Idx → EReal) (k : Fin 1024) (c : Fin 1408) (h : 640 ≤ c.val) : wPack w (ix2 k c) = w (ix2 k ⟨c.val - 192, by omega⟩) := by
  pointwise [wPack]
  rw [dif_neg (by omega), dif_neg (by omega), dif_neg (by omega), dif_neg (by omega), dif_neg (by omega), dif_neg (by omega)]
  exact congrArg (fun j => w (ix2 k j)) (Fin.ext (by show 448 + (c.val - 384 - 64 - 64 - 32 - 32 - 64) = c.val - 192; omega))

theorem wHead_apply (w : S256x768.Idx → EReal) (k : Fin 256) (h : Fin 4) (i : Fin 192) : wHead w (ix3 k h i) = w (ix2 k ⟨192 * h.val + i.val, by omega⟩) := by
  unfold wHead
  refine shapeCast_apply _ _ _ (ix2 k ⟨192 * h.val + i.val, by omega⟩) ?_
  rw [Shape.rowMajor_val_three, Shape.rowMajor_val_two]
  show k.val * 768 + (192 * h.val + i.val) = (k.val * 4 + h.val) * 192 + i.val
  omega

theorem wqPack_left (w : S256x768.Idx → EReal) (k : Fin 256) (h : Fin 4) (d : Fin 256) (C : Fin 1536) (hC : C.val = 256 * h.val + d.val) :
    wqPack w (ix2 k C) = if hd : d.val < 192 then w (ix2 k ⟨192 * h.val + d.val, by omega⟩) else 0 := by
  have e : wqPack w (ix2 k C) = wLeft w (ix3 k h d) := by
    have hs : shapeCast S256x1024 (wLeft w) shapeCasts_S256x4x256_S256x1024 (ix2 k ⟨C.val, by omega⟩) = wLeft w (ix3 k h d) := by
      refine shapeCast_apply _ _ _ (ix3 k h d) ?_
      rw [Shape.rowMajor_val_three, Shape.rowMajor_val_two]
      show (k.val * 4 + h.val) * 256 + d.val = k.val * 1024 + C.val
      omega
    rw [← hs]
    unfold wqPack
    generalize shapeCast S256x1024 (wLeft w) shapeCasts_S256x4x256_S256x1024 = a
    generalize shapeCast S256x512 (wRight w) shapeCasts_S256x4x128_S256x512 = b
    pointwise []
    rw [dif_pos (by omega)]
  have hw := wHead_apply w k h
  rw [e]
  unfold wLeft
  generalize wHead w = v at hw ⊢
  pointwise []
  simp only [hw]

theorem wqPack_right (w : S256x768.Idx → EReal) (k : Fin 256) (h : Fin 4) (l : Fin 64) (C : Fin 1536) (hC : C.val = 1024 + 128 * h.val + l.val) :
    wqPack w (ix2 k C) = if hd : l.val < 32 then w (ix2 k ⟨192 * h.val + 160 + l.val, by omega⟩) else w (ix2 k ⟨192 * h.val + 128 + (l.val - 32), by omega⟩) := by
  have e : wqPack w (ix2 k C) = wRight w (ix3 k h ⟨l.val, by omega⟩) := by
    have hs : shapeCast S256x512 (wRight w) shapeCasts_S256x4x128_S256x512 (ix2 k ⟨C.val - 1024, by omega⟩) = wRight w (ix3 k h ⟨l.val, by omega⟩) := by
      refine shapeCast_apply _ _ _ (ix3 k h ⟨l.val, by omega⟩) ?_
      rw [Shape.rowMajor_val_three, Shape.rowMajor_val_two]
      show (k.val * 4 + h.val) * 128 + l.val = k.val * 512 + (C.val - 1024)
      omega
    rw [← hs]
    unfold wqPack
    generalize shapeCast S256x1024 (wLeft w) shapeCasts_S256x4x256_S256x1024 = a
    generalize shapeCast S256x512 (wRight w) shapeCasts_S256x4x128_S256x512 = b
    pointwise []
    rw [dif_neg (by omega)]
  have hw := wHead_apply w k h
  rw [e]
  unfold wRight
  generalize wHead w = v at hw ⊢
  pointwise []
  simp only [hw]
  split
  · exact congrArg (fun j => w (ix2 k j)) (Fin.ext (by show 192 * h.val + (128 + (32 + l.val)) = 192 * h.val + 160 + l.val; omega))
  · rw [dif_pos (by omega)]
    exact congrArg (fun j => w (ix2 k j)) (Fin.ext (by show 192 * h.val + (128 + (l.val - 32)) = 192 * h.val + 128 + (l.val - 32); omega))

/-! ## The tables -/

theorem freqT_apply (l : Fin 32) : freqT (ix1 l) = freq l := by
  pointwise [freqT, freq]

theorem posT_apply (R : Fin 16640) (T : Fin 8448) (hT : T.val = if R.val < 16384 then R.val % 8192 else 8192 + (R.val - 16384)) : posT (ix1 T) = pos R := by
  unfold pos posT
  have hb : ∀ r : Fin 256, shapeCast S256 (broadcastInDim S8x32 ![0, 1] bcast_S1x32_S8x32_0_1
      (shapeCast S1x32 (addi (broadcastInDim S32 ![] bcast_S_S32 (constantI S_ 32 1024#32)) (iotaInDim S32 32 0)) shapeCasts_S32_S1x32)) shapeCasts_S8x32_S256 (ix1 r)
      = IntOp.addi 1024#32 (BitVec.ofNat 32 (r.val % 32)) := fun r => by
    refine (shapeCast_apply _ _ _ (ix2 ⟨r.val / 32, by omega⟩ ⟨r.val % 32, by omega⟩) ?_).trans ?_
    · rw [Shape.rowMajor_val_two, Shape.rowMajor_val_one]
      show r.val / 32 * 32 + r.val % 32 = r.val
      omega
    · generalize (⟨r.val / 32, by omega⟩ : Fin 8) = a
      have hb' : ∀ b : Fin 32, shapeCast S1x32 (addi (broadcastInDim S32 ![] bcast_S_S32 (constantI S_ 32 1024#32)) (iotaInDim S32 32 0)) shapeCasts_S32_S1x32 (ix2 0 b)
          = IntOp.addi 1024#32 (BitVec.ofNat 32 b.val) := fun b => by
        refine (shapeCast_apply _ _ _ (ix1 b) ?_).trans rfl
        rw [Shape.rowMajor_val_two, Shape.rowMajor_val_one]
        show b.val = 0 * 32 + b.val
        omega
      refine Eq.trans ?_ (hb' ⟨r.val % 32, by omega⟩)
      generalize shapeCast S1x32 (addi (broadcastInDim S32 ![] bcast_S_S32 (constantI S_ 32 1024#32)) (iotaInDim S32 32 0)) shapeCasts_S32_S1x32 = u
      generalize (⟨r.val % 32, by omega⟩ : Fin 32) = b
      pointwise []
  have ha : ∀ r : Fin 8192, iotaInDim S8192 32 0 (ix1 r) = BitVec.ofNat 32 r.val := fun r => rfl
  generalize shapeCast S256 (broadcastInDim S8x32 ![0, 1] bcast_S1x32_S8x32_0_1
      (shapeCast S1x32 (addi (broadcastInDim S32 ![] bcast_S_S32 (constantI S_ 32 1024#32)) (iotaInDim S32 32 0)) shapeCasts_S32_S1x32)) shapeCasts_S8x32_S256 = b at hb ⊢
  generalize iotaInDim S8192 32 0 = a at ha ⊢
  pointwise []
  simp only [ha, hb]
  by_cases h : R.val < 16384
  · rw [if_pos h] at hT ⊢
    rw [dif_pos (by omega), hT]
  · rw [if_neg h] at hT ⊢
    rw [dif_neg (by omega), show T.val - 8192 = R.val - 16384 by omega]

theorem angT_apply (R : Fin 16640) (T : Fin 8448) (hT : T.val = if R.val < 16384 then R.val % 8192 else 8192 + (R.val - 16384)) (l : Fin 32) :
    angT (ix2 T l) = ang (pos R) l := by
  have hp := posT_apply R T hT
  have hf := freqT_apply l
  unfold ang angT
  generalize posT = p at hp ⊢
  generalize freqT = f at hf ⊢
  pointwise []
  rw [hp, hf]

theorem cosT_apply (T : Fin 8448) (l : Fin 128) : cosT (ix2 T l)
    = if h : l.val < 32 then Ideal.cos (angT (ix2 T ⟨l.val, h⟩)) else if h : l.val - 32 < 32 then Ideal.cos (angT (ix2 T ⟨l.val - 32, h⟩)) else 0 := by
  unfold cosT
  generalize angT = a
  pointwise []

theorem sinT_apply (T : Fin 8448) (l : Fin 128) : sinT (ix2 T l)
    = if h : l.val < 32 then -Ideal.sin (angT (ix2 T ⟨l.val, h⟩)) else if h : l.val - 32 < 32 then Ideal.sin (angT (ix2 T ⟨l.val - 32, h⟩)) else 0 := by
  unfold sinT
  generalize angT = a
  pointwise []

end Cert.Kernel3Ideal.Hand
-- ==== Proof.Proj.Ref.lean ====
/- The reference's six arrays, read entry by entry. -/
module

public import proofs.«01_k».proof.Proof.Gen.Reference3Ideal.Read
public import proofs.«01_k».proof.Proof.Proj.Common
public import proofs.«01_k».proof.Proof.Attn.Pack

@[expose] public section

set_option maxRecDepth 4000

noncomputable section

namespace Cert.Reference3Ideal.Hand

open Cert.Reference3Ideal Cert.Reference3Ideal.Gen Cert.Reference3Ideal.Read Cert.Proj
open Idealize.ShloMosaic Idealize.ShloMosaic.TcCoe Idealize.SL.Sem

section
variable (x0 : S2x8192x1024.Idx → EReal) (x1 : S8x32x1024.Idx → EReal) (x2 : S1024x1216.Idx → EReal) (x3 : S256.Idx → EReal)
  (x4 : S256x768.Idx → EReal) (x5 : S128.Idx → EReal) (x6 : S128x1024.Idx → EReal) (R : Fin 16640)

/-- The projections of a row. -/
def yrow : Fin 1216 → EReal :=
  lin (pick (fun r k => shapeCast S16384x1024 x0 shapeCasts_S2x8192x1024_S16384x1024 (ix2 r k))
    (fun r k => shapeCast S256x1024 x1 shapeCasts_S8x32x1024_S256x1024 (ix2 r k)) R) fun k c => x2 (ix2 k c)
/-- The latent of a row. -/
def latent : Fin 128 → EReal := rms d128 eps (cols 128 256 (by omega) (yrow x0 x1 x2 R)) fun k => x5 (ix1 k)
/-- The query of a row before the rotation. -/
def query : Fin 768 → EReal := lin (rms d256 eps (cols 256 0 (by omega) (yrow x0 x1 x2 R)) fun k => x3 (ix1 k)) fun k c => x4 (ix2 k c)
/-- The keys and values of a row. -/
def keys : Fin 1024 → EReal := lin (latent x0 x1 x2 x5 R) fun k c => x6 (ix2 k c)
/-- The rotary key of a row. -/
def rotary : Fin 64 → EReal := rot (pos R) (cols 32 384 (by omega) (yrow x0 x1 x2 R)) (cols 32 416 (by omega) (yrow x0 x1 x2 R))

theorem v14_apply (c : Fin 1216) : val_main_v14 (F := Ideal) x0 x1 x2 (ix2 R c) = yrow x0 x1 x2 R c := by
  unfold yrow lin pick
  generalize hp : shapeCast S16384x1024 x0 shapeCasts_S2x8192x1024_S16384x1024 = p
  generalize hq : shapeCast S256x1024 x1 shapeCasts_S8x32x1024_S256x1024 = q
  unfold val_main_v14 val_main_v2 val_main_v0 val_main_v1
  rw [hp, hq]
  clear hp hq
  pointwise []

theorem v75_apply (c : Fin 128) : val_main_v75 (F := Ideal) x0 x1 x2 x5 (ix2 R c) = latent x0 x1 x2 x5 R c := by
  have h := v14_apply x0 x1 x2 R
  unfold latent rms cols
  simp only [← h]
  clear h
  unfold val_main_v75 val_main_v74 val_main_v73 val_main_v72 val_main_v71 val_main_v70 val_main_v69 val_main_v68 val_main_v67 val_main_v66 val_main_v65 val_main_v64 val_main_v63 val_main_v62 val_main_cst_4 val_main_cst_5 val_main_cst_6
  generalize val_main_v14 (F := Ideal) x0 x1 x2 = y
  pointwise []

theorem v123_apply (c : Fin 256) : val_main_v123 (F := Ideal) x0 x1 x2 (ix2 R c) = cols 256 448 (by omega) (yrow x0 x1 x2 R) c := by
  refine Eq.trans ?_ (v14_apply x0 x1 x2 R _)
  pointwise [val_main_v123]

theorem v29_apply (c : Fin 768) : val_main_v29 (F := Ideal) x0 x1 x2 x3 x4 (ix2 R c) = query x0 x1 x2 x3 x4 R c := by
  have h := v14_apply x0 x1 x2 R
  unfold query rms lin
  rw [first_cols]
  simp only [← h]
  clear h
  unfold val_main_v29 val_main_v28 val_main_v27 val_main_v26 val_main_v25 val_main_v24 val_main_v23 val_main_v22 val_main_v21 val_main_v20 val_main_v19 val_main_v18 val_main_v17 val_main_v16 val_main_v15 val_main_cst val_main_cst_0 val_main_cst_1
  generalize val_main_v14 (F := Ideal) x0 x1 x2 = y
  pointwise []

theorem v103_apply (c : Fin 1024) : val_main_v103 (F := Ideal) x0 x1 x2 x5 x6 (ix2 R c) = keys x0 x1 x2 x5 x6 R c := by
  unfold keys lin
  simp only [← v75_apply]
  unfold val_main_v103
  generalize val_main_v75 (F := Ideal) x0 x1 x2 x5 = y
  pointwise []

/-! ## The rotation -/

theorem v13_apply : val_main_v13 (F := Ideal) (ix1 R) = pos R := by
  unfold pos val_main_v13
  have h6 : ∀ r : Fin 16384, val_main_v6 (F := Ideal) (ix1 r) = BitVec.ofNat 32 (r.val % 8192) := fun r => by
    rw [val_main_v6_apply, val_main_v5_apply, val_main_v4_apply, val_main_v3_apply]
    show BitVec.ofNat 32 (0 * 8192 + r.val % 8192) = _
    rw [Nat.zero_mul, Nat.zero_add]
  have h12 : ∀ r : Fin 256, val_main_v12 (F := Ideal) (ix1 r) = IntOp.addi 1024#32 (BitVec.ofNat 32 (r.val % 32)) := fun r => by
    rw [val_main_v12_apply, val_main_v11_apply, val_main_v10_apply, val_main_v9_apply, val_main_v8_apply, val_main_v7_apply, val_main_c_apply]
    show IntOp.addi 1024#32 (BitVec.ofNat 32 (0 * 32 + r.val % 32)) = _
    rw [Nat.zero_mul, Nat.zero_add]
  generalize val_main_v6 (F := Ideal) = a at h6 ⊢
  generalize val_main_v12 (F := Ideal) = b at h12 ⊢
  pointwise []
  simp only [h6, h12]
  split <;> rfl

theorem v44_apply (l : Fin 32) : val_main_v44 (F := Ideal) (ix2 R l) = ang (pos R) l := by
  unfold ang freq
  rw [← v13_apply]
  unfold val_main_v44 val_main_v43 val_main_v42 val_main_v41 val_main_v40 val_main_v39 val_main_v38 val_main_v37 val_main_v36 val_main_v35 val_main_v34 val_main_v33 val_main_cst_3 val_main_cst_2
  generalize val_main_v13 (F := Ideal) = p
  pointwise []

theorem v89_apply (l : Fin 32) : val_main_v89 (F := Ideal) (ix2 R l) = ang (pos R) l := by
  unfold ang freq
  rw [← v13_apply]
  unfold val_main_v89 val_main_v88 val_main_v87 val_main_v86 val_main_v85 val_main_v84 val_main_v83 val_main_v82 val_main_v81 val_main_v80 val_main_v79 val_main_v78 val_main_cst_8 val_main_cst_7
  generalize val_main_v13 (F := Ideal) = p
  pointwise []

theorem v102_apply (l : Fin 64) : val_main_v102 (F := Ideal) x0 x1 x2 (ix3 R 0 l) = rotary x0 x1 x2 R l := by
  have h := v14_apply x0 x1 x2 R
  have ha := v89_apply R
  have e1 : ∀ j : Fin 32, cols 32 384 (by omega) (yrow x0 x1 x2 R) j = val_main_v14 (F := Ideal) x0 x1 x2 (ix2 R ⟨384 + j.val, by omega⟩) := fun j => (h _).symm
  have e2 : ∀ j : Fin 32, cols 32 416 (by omega) (yrow x0 x1 x2 R) j = val_main_v14 (F := Ideal) x0 x1 x2 (ix2 R ⟨384 + (32 + j.val), by omega⟩) := fun j => by
    rw [h]; exact congrArg (yrow x0 x1 x2 R) (Fin.ext (by show 416 + j.val = 384 + (32 + j.val); omega))
  unfold rotary rot
  simp only [e1, e2, ← ha]
  clear e1 e2 h ha
  unfold val_main_v102 val_main_v101 val_main_v100 val_main_v99 val_main_v98 val_main_v97 val_main_v96 val_main_v95 val_main_v94 val_main_v93 val_main_v92 val_main_v91 val_main_v90 val_main_v77 val_main_v76
  generalize val_main_v89 (F := Ideal) = a
  generalize val_main_v14 (F := Ideal) x0 x1 x2 = y
  pointwise []

theorem v122_apply (l : Fin 64) : val_main_v122 (F := Ideal) x0 x1 x2 (ix2 R l) = rotary x0 x1 x2 R l := by
  refine Eq.trans ?_ (v102_apply x0 x1 x2 R l)
  unfold val_main_v122
  generalize val_main_v102 (F := Ideal) x0 x1 x2 = y
  refine shapeCast_apply _ _ _ (ix3 R 0 l) ?_
  rw [Shape.rowMajor_val_three, Shape.rowMajor_val_two]
  show (R.val * 1 + 0) * 64 + l.val = R.val * 64 + l.val
  omega

theorem v30_apply (h : Fin 4) (i : Fin 192) : val_main_v30 (F := Ideal) x0 x1 x2 x3 x4 (ix3 R h i) = query x0 x1 x2 x3 x4 R ⟨192 * h.val + i.val, by omega⟩ := by
  refine Eq.trans ?_ (v29_apply x0 x1 x2 x3 x4 R _)
  unfold val_main_v30
  generalize val_main_v29 (F := Ideal) x0 x1 x2 x3 x4 = y
  refine shapeCast_apply _ _ _ (ix2 R ⟨192 * h.val + i.val, by omega⟩) ?_
  rw [Shape.rowMajor_val_three, Shape.rowMajor_val_two]
  show R.val * 768 + (192 * h.val + i.val) = (R.val * 4 + h.val) * 192 + i.val
  omega

/-- The rotated part of a head's query. -/
def turned (h : Fin 4) : Fin 64 → EReal :=
  rot (pos R) (cols 32 (192 * h.val + 128) (by omega) (query x0 x1 x2 x3 x4 R)) (cols 32 (192 * h.val + 160) (by omega) (query x0 x1 x2 x3 x4 R))

theorem v61_apply (h : Fin 4) (l : Fin 64) : val_main_v61 (F := Ideal) x0 x1 x2 x3 x4 (ix3 R h l) = turned x0 x1 x2 x3 x4 R h l := by
  have hq := v30_apply x0 x1 x2 x3 x4 R h
  have ha := v44_apply R
  have e1 : ∀ j : Fin 32, cols 32 (192 * h.val + 128) (by omega) (query x0 x1 x2 x3 x4 R) j = val_main_v30 (F := Ideal) x0 x1 x2 x3 x4 (ix3 R h ⟨128 + j.val, by omega⟩) := fun j => by
    rw [hq]; exact congrArg (query x0 x1 x2 x3 x4 R) (Fin.ext (by show 192 * h.val + 128 + j.val = 192 * h.val + (128 + j.val); omega))
  have e2 : ∀ j : Fin 32, cols 32 (192 * h.val + 160) (by omega) (query x0 x1 x2 x3 x4 R) j = val_main_v30 (F := Ideal) x0 x1 x2 x3 x4 (ix3 R h ⟨128 + (32 + j.val), by omega⟩) := fun j => by
    rw [hq]; exact congrArg (query x0 x1 x2 x3 x4 R) (Fin.ext (by show 192 * h.val + 160 + j.val = 192 * h.val + (128 + (32 + j.val)); omega))
  unfold turned rot
  simp only [e1, e2, ← ha]
  clear e1 e2 ha hq
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v32
  generalize val_main_v44 (F := Ideal) = a
  generalize val_main_v30 (F := Ideal) x0 x1 x2 x3 x4 = y
  pointwise []

theorem v113_apply (h : Fin 4) (d : Fin 256) : val_main_v113 (F := Ideal) x0 x1 x2 x3 x4 (ix3 R h d)
    = Ideal.div (three (cols 128 (192 * h.val) (by omega) (query x0 x1 x2 x3 x4 R)) (turned x0 x1 x2 x3 x4 R h) d) Kernel2Ideal.Hand.scale := by
  have hq := v30_apply x0 x1 x2 x3 x4 R h
  have ht := v61_apply x0 x1 x2 x3 x4 R h
  have e1 : cols 128 (192 * h.val) (by omega) (query x0 x1 x2 x3 x4 R) = fun j : Fin 128 => val_main_v30 (F := Ideal) x0 x1 x2 x3 x4 (ix3 R h ⟨j.val, by omega⟩) := funext fun j => by
    rw [hq]; rfl
  have e2 : turned x0 x1 x2 x3 x4 R h = fun l => val_main_v61 (F := Ideal) x0 x1 x2 x3 x4 (ix3 R h l) := funext fun l => (ht l).symm
  rw [e1, e2, ← Kernel2Ideal.Hand.scale_word]
  clear e1 e2 hq ht
  unfold three val_main_v113 val_main_v112 val_main_v111 val_main_v110 val_main_v109 val_main_v108 val_main_v107 val_main_v31 val_main_cst_9 val_main_cst_10 val_main_cst_11
  generalize val_main_v30 (F := Ideal) x0 x1 x2 x3 x4 = y
  generalize val_main_v61 (F := Ideal) x0 x1 x2 x3 x4 = z
  pointwise []

theorem v117_apply (h : Fin 4) (d : Fin 256) : val_main_v117 (F := Ideal) x0 x1 x2 x3 x4 (ix2 R ⟨256 * h.val + d.val, by omega⟩)
    = Ideal.div (three (cols 128 (192 * h.val) (by omega) (query x0 x1 x2 x3 x4 R)) (turned x0 x1 x2 x3 x4 R h) d) Kernel2Ideal.Hand.scale := by
  refine Eq.trans ?_ (v113_apply x0 x1 x2 x3 x4 R h d)
  unfold val_main_v117 val_main_v116
  generalize val_main_v113 (F := Ideal) x0 x1 x2 x3 x4 = y
  show shapeCast S16640x1024 y _ _ = _
  refine shapeCast_apply _ _ _ (ix3 R h d) ?_
  rw [Shape.rowMajor_val_three, Shape.rowMajor_val_two]
  show (R.val * 4 + h.val) * 256 + d.val = R.val * 1024 + (256 * h.val + d.val)
  omega

theorem v104_apply (h : Fin 4) (i : Fin 256) : val_main_v104 (F := Ideal) x0 x1 x2 x5 x6 (ix3 R h i) = keys x0 x1 x2 x5 x6 R ⟨256 * h.val + i.val, by omega⟩ := by
  refine Eq.trans ?_ (v103_apply x0 x1 x2 x5 x6 R _)
  unfold val_main_v104
  generalize val_main_v103 (F := Ideal) x0 x1 x2 x5 x6 = y
  refine shapeCast_apply _ _ _ (ix2 R ⟨256 * h.val + i.val, by omega⟩) ?_
  rw [Shape.rowMajor_val_three, Shape.rowMajor_val_two]
  show R.val * 1024 + (256 * h.val + i.val) = (R.val * 4 + h.val) * 256 + i.val
  omega

theorem v115_apply (h : Fin 4) (d : Fin 256) : val_main_v115 (F := Ideal) x0 x1 x2 x5 x6 (ix3 R h d)
    = three (cols 128 (256 * h.val) (by omega) (keys x0 x1 x2 x5 x6 R)) (rotary x0 x1 x2 R) d := by
  have hq := v104_apply x0 x1 x2 x5 x6 R h
  have e1 : cols 128 (256 * h.val) (by omega) (keys x0 x1 x2 x5 x6 R) = fun j : Fin 128 => val_main_v104 (F := Ideal) x0 x1 x2 x5 x6 (ix3 R h ⟨j.val, by omega⟩) := funext fun j => by
    rw [hq]; rfl
  have e2 : rotary x0 x1 x2 R = fun l => val_main_v102 (F := Ideal) x0 x1 x2 (ix3 R 0 l) := funext fun l => (v102_apply x0 x1 x2 R l).symm
  rw [e1, e2]
  clear e1 e2 hq
  unfold three val_main_v115 val_main_v114 val_main_v107 val_main_v105 val_main_cst_9
  generalize val_main_v104 (F := Ideal) x0 x1 x2 x5 x6 = y
  generalize val_main_v102 (F := Ideal) x0 x1 x2 = z
  pointwise []

theorem v119_apply (h : Fin 4) (d : Fin 256) : val_main_v119 (F := Ideal) x0 x1 x2 x5 x6 (ix2 R ⟨256 * h.val + d.val, by omega⟩)
    = three (cols 128 (256 * h.val) (by omega) (keys x0 x1 x2 x5 x6 R)) (rotary x0 x1 x2 R) d := by
  refine Eq.trans ?_ (v115_apply x0 x1 x2 x5 x6 R h d)
  unfold val_main_v119 val_main_v118
  generalize val_main_v115 (F := Ideal) x0 x1 x2 x5 x6 = y
  show shapeCast S16640x1024 y _ _ = _
  refine shapeCast_apply _ _ _ (ix3 R h d) ?_
  rw [Shape.rowMajor_val_three, Shape.rowMajor_val_two]
  show (R.val * 4 + h.val) * 256 + d.val = R.val * 1024 + (256 * h.val + d.val)
  omega

theorem v121_apply (h : Fin 4) (i : Fin 128) : val_main_v121 (F := Ideal) x0 x1 x2 x5 x6 (ix2 R ⟨128 * h.val + i.val, by omega⟩)
    = keys x0 x1 x2 x5 x6 R ⟨256 * h.val + (128 + i.val), by omega⟩ := by
  refine Eq.trans ?_ (v104_apply x0 x1 x2 x5 x6 R h ⟨128 + i.val, by omega⟩)
  unfold val_main_v121 val_main_v120 val_main_v106
  generalize val_main_v104 (F := Ideal) x0 x1 x2 x5 x6 = y
  show shapeCast S16640x512 (extractStridedSlice S16640x4x128 ![0, 0, 128] y slices_S16640x4x256_S16640x4x128_0_0_128) shapeCasts_S16640x4x128_S16640x512 _ = _
  refine (shapeCast_apply _ _ _ (ix3 R h i) ?_).trans ?_
  · rw [Shape.rowMajor_val_three, Shape.rowMajor_val_two]
    show (R.val * 4 + h.val) * 128 + i.val = R.val * 512 + (128 * h.val + i.val)
    omega
  · pointwise []
end

end Cert.Reference3Ideal.Hand
-- ==== Proof.Proj.Meet.lean ====
/- The kernel's rows are the reference's rows. -/
module

public import proofs.«01_k».proof.Proof.Proj.Grid
public import proofs.«01_k».proof.Proof.Proj.Arrays
public import proofs.«01_k».proof.Proof.Proj.Entries
public import proofs.«01_k».proof.Proof.Proj.Ref

@[expose] public section

noncomputable section

namespace Cert.Kernel3Ideal.Hand

open Cert.Kernel3Ideal Cert.Kernel3Ideal.Gen Cert.Proj
open Idealize.ShloMosaic Idealize.ShloMosaic.TcCoe Idealize.SL.Sem
open Cert.Reference3Ideal.Hand (yrow latent query keys rotary turned)
open Cert.Kernel2Ideal.Hand (scale)

theorem qs_value : qs = (((Real.sqrt 192 * Real.log 2)⁻¹ : ℝ) : EReal) := IdealRules.named_const.ideal_named_scalar _ _ _ _ rfl

theorem scale_ne : Real.sqrt 192 * Real.log 2 ≠ 0 :=
  mul_ne_zero (Real.sqrt_ne_zero'.mpr (by norm_num)) (Real.log_pos (by norm_num)).ne'

theorem scaled (x : EReal) : x * qs = Ideal.div x scale := by
  rw [qs_value, scale, Ideal.div_coe scale_ne, one_div]

section
variable (x0 : S2x8192x1024.Idx → EReal) (x1 : S8x32x1024.Idx → EReal) (x2 : S1024x1216.Idx → EReal) (x3 : S256.Idx → EReal)
  (x4 : S256x768.Idx → EReal) (x5 : S128.Idx → EReal) (x6 : S128x1024.Idx → EReal) (R : Fin 16640)

/-- The two inputs by rows. -/
abbrev B0 : S16384x1024.Idx → EReal := shapeCast S16384x1024 x0 shapeCasts_S2x8192x1024_S16384x1024
abbrev B1 : S256x1024.Idx → EReal := shapeCast S256x1024 x1 shapeCasts_S8x32x1024_S256x1024
/-- The gains as one row each. -/
abbrev B3 : S1x256.Idx → EReal := shapeCast S1x256 x3 shapeCasts_S256_S1x256
abbrev B5 : S1x128.Idx → EReal := shapeCast S1x128 x5 shapeCasts_S128_S1x128

theorem prow_of (c : Fin 1408) (c' : Fin 1216) (h : ∀ k, wPack x2 (ix2 k c) = x2 (ix2 k c')) : prow (B0 x0) (B1 x1) (wPack x2) R c = yrow x0 x1 x2 R c' := by
  unfold prow yrow lin
  exact Finset.sum_congr rfl fun k _ => congrArg (xrow (B0 x0) (B1 x1) R k * ·) (h k)

theorem low (m o : ℕ) (h : o + m ≤ 448) : cols m o (by omega) (prow (B0 x0) (B1 x1) (wPack x2) R) = cols m o (by omega) (yrow x0 x1 x2 R) := by
  funext j
  exact prow_of x0 x1 x2 R _ _ fun k => wPack_low x2 k _ (by show o + j.val < 448; omega)

theorem gate_eq : cols 256 640 (by omega) (prow (B0 x0) (B1 x1) (wPack x2) R) = cols 256 448 (by omega) (yrow x0 x1 x2 R) := by
  funext j
  refine prow_of x0 x1 x2 R _ _ fun k => (wPack_high x2 k _ (by show 640 ≤ 640 + j.val; omega)).trans ?_
  exact congrArg (fun i => x2 (ix2 k i)) (Fin.ext (by show 640 + j.val - 192 = 448 + j.val; omega))

theorem gain3 (k : Fin 256) : B3 x3 (ix2 0 k) = x3 (ix1 k) := by
  refine shapeCast_apply _ _ _ (ix1 k) ?_
  rw [Shape.rowMajor_val_two, Shape.rowMajor_val_one]
  show k.val = 0 * 256 + k.val
  omega

theorem gain5 (k : Fin 128) : B5 x5 (ix2 0 k) = x5 (ix1 k) := by
  refine shapeCast_apply _ _ _ (ix1 k) ?_
  rw [Shape.rowMajor_val_two, Shape.rowMajor_val_one]
  show k.val = 0 * 128 + k.val
  omega

theorem latent_eq : lrow (B0 x0) (B1 x1) (wPack x2) (B5 x5) R = latent x0 x1 x2 x5 R := by
  unfold lrow latent
  rw [low x0 x1 x2 R 128 256 (by omega), funext (gain5 x5)]

theorem keys_eq : kvrow (B0 x0) (B1 x1) (wPack x2) (B5 x5) x6 R = keys x0 x1 x2 x5 x6 R := by
  unfold kvrow keys
  rw [latent_eq]

theorem qlin_of (c : Fin 1536) (c' : Fin 768) (h : ∀ k, wqPack x4 (ix2 k c) = x4 (ix2 k c')) :
    qlin (B0 x0) (B1 x1) (wPack x2) (B3 x3) (wqPack x4) R c = query x0 x1 x2 x3 x4 R c' := by
  unfold qlin query lin
  rw [low x0 x1 x2 R 256 0 (by omega), funext (gain3 x3)]
  exact Finset.sum_congr rfl fun k _ => congrArg (_ * ·) (h k)

theorem trow_eq : (trow R).val = if R.val < 16384 then R.val % 8192 else 8192 + (R.val - 16384) := by
  unfold trow
  split <;> rfl

theorem rotates (a b : Fin 32 → EReal) (P S : EReal) (l : Fin 64)
    (hP : P = if h : l.val < 32 then a ⟨l.val, h⟩ else b ⟨l.val - 32, by omega⟩) (hS : S = if h : l.val < 32 then b ⟨l.val, h⟩ else a ⟨l.val - 32, by omega⟩) :
    P * cosT (ix2 (trow R) ⟨l.val, by omega⟩) + S * sinT (ix2 (trow R) ⟨l.val, by omega⟩) = rot (pos R) a b l := by
  have hl := l.isLt
  have ha := angT_apply R (trow R) (trow_eq R)
  rw [hP, hS, cosT_apply, sinT_apply]
  unfold rot
  by_cases h : l.val < 32
  · simp only [dif_pos h, ha]
    rw [mul_neg, ← sub_eq_add_neg]
  · have h' : l.val - 32 < 32 := by omega
    simp only [dif_neg h, dif_pos h', ha]
    exact add_comm _ _

theorem dark (P S : EReal) (l : Fin 128) (h : 64 ≤ l.val) : P * cosT (ix2 (trow R) l) + S * sinT (ix2 (trow R) l) = 0 := by
  have h1 : ¬ l.val < 32 := by omega
  have h2 : ¬ l.val - 32 < 32 := by omega
  rw [cosT_apply, sinT_apply]
  simp only [dif_neg h1, dif_neg h2, mul_zero, add_zero]

theorem rotary_eq (l : Fin 64) : krrow (B0 x0) (B1 x1) (wPack x2) cosT sinT R ⟨l.val, by omega⟩ = rotary x0 x1 x2 R l := by
  have hl := l.isLt
  unfold krrow turn rotary
  refine rotates R _ _ _ _ l ?_ ?_
  · refine (prow_of x0 x1 x2 R _ ⟨384 + l.val, by omega⟩ fun k => wPack_low x2 k _ (by show 384 + l.val < 448; omega)).trans ?_
    split
    · rfl
    · exact congrArg (yrow x0 x1 x2 R) (Fin.ext (by show 384 + l.val = 416 + (l.val - 32); omega))
  · split
    · rename_i h
      refine prow_of x0 x1 x2 R _ _ fun k => (wPack_second x2 k _ (by show 512 ≤ 512 + l.val; omega) (by show 512 + l.val < 544; omega)).trans ?_
      exact congrArg (fun i => x2 (ix2 k i)) (Fin.ext (by show 512 + l.val - 96 = 416 + l.val; omega))
    · rename_i h
      refine prow_of x0 x1 x2 R _ _ fun k => (wPack_first x2 k _ (by show 544 ≤ 512 + l.val; omega) (by show 512 + l.val < 576; omega)).trans ?_
      exact congrArg (fun i => x2 (ix2 k i)) (Fin.ext (by show 512 + l.val - 160 = 384 + (l.val - 32); omega))

theorem rotary_dark (l : Fin 128) (h : 64 ≤ l.val) : krrow (B0 x0) (B1 x1) (wPack x2) cosT sinT R l = 0 := by
  unfold krrow turn
  exact dark R _ _ l h

theorem kRow_at (kv : Fin 1024 → EReal) (kr : Fin 128 → EReal) (h : Fin 4) (d : Fin 256) :
    kRow kv kr ⟨256 * h.val + d.val, by omega⟩ = if d.val < 128 then kv ⟨256 * h.val + d.val, by omega⟩ else kr ⟨d.val - 128, by omega⟩ := by
  have hm : (256 * h.val + d.val) % 256 = d.val := by omega
  unfold kRow
  simp only [hm]

theorem k_eq (h : Fin 4) (d : Fin 256) : kRow (kvrow (B0 x0) (B1 x1) (wPack x2) (B5 x5) x6 R) (krrow (B0 x0) (B1 x1) (wPack x2) cosT sinT R) ⟨256 * h.val + d.val, by omega⟩
    = three (cols 128 (256 * h.val) (by omega) (keys x0 x1 x2 x5 x6 R)) (rotary x0 x1 x2 R) d := by
  rw [kRow_at, keys_eq]
  unfold three
  by_cases hd : d.val < 128
  · rw [if_pos hd, dif_pos hd]
    rfl
  · rw [if_neg hd, dif_neg hd]
    by_cases hl : d.val - 128 < 64
    · rw [dif_pos hl]
      exact rotary_eq x0 x1 x2 R ⟨d.val - 128, hl⟩
    · rw [dif_neg hl]
      exact rotary_dark x0 x1 x2 R _ (by show 64 ≤ d.val - 128; omega)

theorem v_eq (h : Fin 4) (i : Fin 128) : vRow (kvrow (B0 x0) (B1 x1) (wPack x2) (B5 x5) x6 R) ⟨128 * h.val + i.val, by omega⟩
    = keys x0 x1 x2 x5 x6 R ⟨256 * h.val + (128 + i.val), by omega⟩ := by
  rw [keys_eq]
  unfold vRow
  exact congrArg _ (Fin.ext (by show 256 * ((128 * h.val + i.val) / 128) + 128 + (128 * h.val + i.val) % 128 = 256 * h.val + (128 + i.val); omega))

theorem qRow_at (q : Fin 1536 → EReal) (co si : Fin 128 → EReal) (s : EReal) (h : Fin 4) (d : Fin 256) :
    qRow q co si s ⟨256 * h.val + d.val, by omega⟩ = if d.val < 128 then q ⟨256 * h.val + d.val, by omega⟩ * s
      else (q ⟨256 * h.val + d.val, by omega⟩ * co ⟨d.val - 128, by omega⟩ + q ⟨1024 + 128 * h.val + (d.val - 128), by omega⟩ * si ⟨d.val - 128, by omega⟩) * s := by
  have hm : (256 * h.val + d.val) % 256 = d.val := by omega
  have hd : (256 * h.val + d.val) / 256 = h.val := by omega
  unfold qRow
  simp only [hm, hd]

theorem q_eq (h : Fin 4) (d : Fin 256) : qrow (B0 x0) (B1 x1) (wPack x2) (B3 x3) (wqPack x4) cosT sinT R ⟨256 * h.val + d.val, by omega⟩
    = Ideal.div (three (cols 128 (192 * h.val) (by omega) (query x0 x1 x2 x3 x4 R)) (turned x0 x1 x2 x3 x4 R h) d) scale := by
  unfold qrow
  rw [qRow_at, ← scaled]
  unfold three
  by_cases hd : d.val < 128
  · rw [if_pos hd, dif_pos hd]
    refine congrArg (· * qs) (qlin_of x0 x1 x2 x3 x4 R _ _ fun k => ?_)
    rw [wqPack_left x4 k h d _ rfl, dif_pos (by omega)]
  · rw [if_neg hd, dif_neg hd]
    refine congrArg (· * qs) ?_
    by_cases hl : d.val - 128 < 64
    · rw [dif_pos hl]
      unfold turned
      refine rotates R _ _ _ _ ⟨d.val - 128, hl⟩ ?_ ?_
      · refine (qlin_of x0 x1 x2 x3 x4 R _ ⟨192 * h.val + d.val, by omega⟩ fun k => ?_).trans ?_
        · rw [wqPack_left x4 k h d _ rfl, dif_pos (by omega)]
        · split
          · exact congrArg (query x0 x1 x2 x3 x4 R) (Fin.ext (by show 192 * h.val + d.val = 192 * h.val + 128 + (d.val - 128); omega))
          · rename_i hh
            have hh' : ¬ d.val - 128 < 32 := hh
            exact congrArg (query x0 x1 x2 x3 x4 R) (Fin.ext (by show 192 * h.val + d.val = 192 * h.val + 160 + (d.val - 128 - 32); omega))
      · split
        · rename_i hh
          have hh' : d.val - 128 < 32 := hh
          refine qlin_of x0 x1 x2 x3 x4 R _ _ fun k => ?_
          rw [wqPack_right x4 k h ⟨d.val - 128, hl⟩ _ rfl, dif_pos hh']
        · rename_i hh
          have hh' : ¬ d.val - 128 < 32 := hh
          refine qlin_of x0 x1 x2 x3 x4 R _ _ fun k => ?_
          rw [wqPack_right x4 k h ⟨d.val - 128, hl⟩ _ rfl, dif_neg hh']
    · rw [dif_neg hl]
      exact dark R _ _ _ (by show 64 ≤ d.val - 128; omega)
end

/-! ## The six arrays -/

section
variable (m : (ℓ : Loc nD τ sig) → Buf (Elt Ideal) ℓ) (c : Dev nD)

abbrev a0 : S2x8192x1024.Idx → EReal := m ((c : Thread nD τ).loc main_arg0)
abbrev a1 : S8x32x1024.Idx → EReal := m ((c : Thread nD τ).loc main_arg1)
abbrev a2 : S1024x1216.Idx → EReal := m ((c : Thread nD τ).loc main_arg2)
abbrev a3 : S256.Idx → EReal := m ((c : Thread nD τ).loc main_arg3)
abbrev a4 : S256x768.Idx → EReal := m ((c : Thread nD τ).loc main_arg4)
abbrev a5 : S128.Idx → EReal := m ((c : Thread nD τ).loc main_arg5)
abbrev a6 : S128x1024.Idx → EReal := m ((c : Thread nD τ).loc main_arg6)

open Cert.Reference3Ideal.Read

theorem out_q : res14 m c = val_main_v117 (F := Ideal) (a0 m c) (a1 m c) (a2 m c) (a3 m c) (a4 m c) := by
  funext y
  obtain ⟨R, C, rfl⟩ := pair y
  obtain ⟨h, d, hC⟩ : ∃ (h : Fin 4) (d : Fin 256), C = ⟨256 * h.val + d.val, by omega⟩ :=
    ⟨⟨C.val / 256, by omega⟩, ⟨C.val % 256, by omega⟩, Fin.ext (by show C.val = 256 * (C.val / 256) + C.val % 256; omega)⟩
  subst hC
  refine Eq.trans ?_ (Reference3Ideal.Hand.v117_apply _ _ _ _ _ R h d).symm
  refine Eq.trans ?_ (q_eq _ _ _ _ _ R h d)
  show qrow (A0 m c) (A1 m c) (A2 m c) (A3 m c) (A4 m c) (A7 m c) (A8 m c) R _ = _
  rw [show A0 m c = B0 (a0 m c) from V_v59 m c, show A1 m c = B1 (a1 m c) from V_v60 m c, show A2 m c = wPack (a2 m c) from V_v33 m c,
    show A3 m c = B3 (a3 m c) from V_v45 m c, show A4 m c = wqPack (a4 m c) from V_v44 m c, show A7 m c = cosT from V_v23 m c, show A8 m c = sinT from V_v25 m c]
  rfl

theorem out_k : res15 m c = val_main_v119 (F := Ideal) (a0 m c) (a1 m c) (a2 m c) (a5 m c) (a6 m c) := by
  funext y
  obtain ⟨R, C, rfl⟩ := pair y
  obtain ⟨h, d, hC⟩ : ∃ (h : Fin 4) (d : Fin 256), C = ⟨256 * h.val + d.val, by omega⟩ :=
    ⟨⟨C.val / 256, by omega⟩, ⟨C.val % 256, by omega⟩, Fin.ext (by show C.val = 256 * (C.val / 256) + C.val % 256; omega)⟩
  subst hC
  refine Eq.trans ?_ (Reference3Ideal.Hand.v119_apply _ _ _ _ _ R h d).symm
  refine Eq.trans ?_ (k_eq _ _ _ _ _ R h d)
  show kRow (kvrow (A0 m c) (A1 m c) (A2 m c) (A5 m c) (A6 m c) R) (krrow (A0 m c) (A1 m c) (A2 m c) (A7 m c) (A8 m c) R) _ = _
  rw [show A0 m c = B0 (a0 m c) from V_v59 m c, show A1 m c = B1 (a1 m c) from V_v60 m c, show A2 m c = wPack (a2 m c) from V_v33 m c,
    show A5 m c = B5 (a5 m c) from V_v46 m c, show A6 m c = a6 m c from V_v47 m c, show A7 m c = cosT from V_v23 m c, show A8 m c = sinT from V_v25 m c]
  rfl

theorem out_v : res16 m c = val_main_v121 (F := Ideal) (a0 m c) (a1 m c) (a2 m c) (a5 m c) (a6 m c) := by
  funext y
  obtain ⟨R, C, rfl⟩ := pair y
  obtain ⟨h, i, hC⟩ : ∃ (h : Fin 4) (i : Fin 128), C = ⟨128 * h.val + i.val, by omega⟩ :=
    ⟨⟨C.val / 128, by omega⟩, ⟨C.val % 128, by omega⟩, Fin.ext (by show C.val = 128 * (C.val / 128) + C.val % 128; omega)⟩
  subst hC
  refine Eq.trans ?_ (Reference3Ideal.Hand.v121_apply _ _ _ _ _ R h i).symm
  refine Eq.trans ?_ (v_eq _ _ _ _ _ R h i)
  show vRow (kvrow (A0 m c) (A1 m c) (A2 m c) (A5 m c) (A6 m c) R) _ = _
  rw [show A0 m c = B0 (a0 m c) from V_v59 m c, show A1 m c = B1 (a1 m c) from V_v60 m c, show A2 m c = wPack (a2 m c) from V_v33 m c,
    show A5 m c = B5 (a5 m c) from V_v46 m c, show A6 m c = a6 m c from V_v47 m c]
  rfl

theorem out_lat : res17 m c = val_main_v75 (F := Ideal) (a0 m c) (a1 m c) (a2 m c) (a5 m c) := by
  funext y
  obtain ⟨R, C, rfl⟩ := pair y
  refine Eq.trans ?_ (Reference3Ideal.Hand.v75_apply _ _ _ _ R C).symm
  refine Eq.trans ?_ (congrFun (latent_eq _ _ _ _ R) C)
  show lrow (A0 m c) (A1 m c) (A2 m c) (A5 m c) R C = _
  rw [show A0 m c = B0 (a0 m c) from V_v59 m c, show A1 m c = B1 (a1 m c) from V_v60 m c, show A2 m c = wPack (a2 m c) from V_v33 m c,
    show A5 m c = B5 (a5 m c) from V_v46 m c]

theorem out_kr : res18 m c = val_main_v122 (F := Ideal) (a0 m c) (a1 m c) (a2 m c) := by
  funext y
  obtain ⟨R, C, rfl⟩ := pair y
  refine Eq.trans ?_ (Reference3Ideal.Hand.v122_apply _ _ _ R C).symm
  refine Eq.trans ?_ (rotary_eq _ _ _ R C)
  show krrow (A0 m c) (A1 m c) (A2 m c) (A7 m c) (A8 m c) R ⟨C.val, _⟩ = _
  rw [show A0 m c = B0 (a0 m c) from V_v59 m c, show A1 m c = B1 (a1 m c) from V_v60 m c, show A2 m c = wPack (a2 m c) from V_v33 m c,
    show A7 m c = cosT from V_v23 m c, show A8 m c = sinT from V_v25 m c]

theorem out_u : res19 m c = val_main_v123 (F := Ideal) (a0 m c) (a1 m c) (a2 m c) := by
  funext y
  obtain ⟨R, C, rfl⟩ := pair y
  refine Eq.trans ?_ (Reference3Ideal.Hand.v123_apply _ _ _ R C).symm
  refine Eq.trans ?_ (congrFun (gate_eq _ _ _ R) C)
  show cols 256 640 _ (prow (A0 m c) (A1 m c) (A2 m c) R) C = _
  rw [show A0 m c = B0 (a0 m c) from V_v59 m c, show A1 m c = B1 (a1 m c) from V_v60 m c, show A2 m c = wPack (a2 m c) from V_v33 m c]
end

end Cert.Kernel3Ideal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tables_ok
public import proofs.«01_k».proof.Proof.Gen.Pre_reals
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Proj.Frame
public import proofs.«01_k».proof.Proof.Proj.FrameIdeal
public import proofs.«01_k».proof.Proof.Proj.Value
public import proofs.«01_k».proof.Proof.Gen.Reference3Ideal
public import proofs.«01_k».proof.Proof.Gen.Reference3Ideal.Run
public import proofs.«01_k».proof.Proof.Gen.Reference3Ideal.Read
public import proofs.«01_k».proof.Proof.Run
public import proofs.«01_k».proof.Proof.Same
public import proofs.«01_k».proof.Proof.Pre
public import proofs.«01_k».proof.Proof.Array
public import proofs.«01_k».proof.Proof.Plain
public import proofs.«01_k».proof.Proof.Attn.Meet
public import proofs.«01_k».proof.Proof.Attn.Reals
public import proofs.«01_k».proof.Proof.Proj.Meet

@[expose] public section

noncomputable section

namespace Cert.Proof

open Idealize.ShloMosaic Idealize.ShloMosaic.TcCoe Idealize.SL.Sem

open Cert.KernelIdeal.Hand in
/-- Tables the precondition admits name experts in order when the kernel starts. -/
theorem tabled {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_tables_ok.fn (F := F)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) (m ((c : Thread Cert.KernelIdeal.nD Cert.KernelIdeal.τ).loc Cert.KernelIdeal.main_arg7))
      = fun _ => 1#1) : Tabled m := fun c => by
  rw [V_of m c Cert.KernelIdeal.main_arg0 (by decide), V_of m c Cert.KernelIdeal.main_arg1 (by decide), V_of m c Cert.KernelIdeal.main_arg2 (by decide)]
  exact sched_of_pre _ _ _ _ _ _ _ _ (h c)

theorem frame_kernelIdeal : Cert.quiescent_KernelIdeal := fun m ρ h => Cert.KernelIdeal.Hand.frame m ρ (tabled m h)

set_option maxHeartbeats 2000000 in
theorem frame_kernel : Cert.quiescent_Kernel := fun m ρ h =>
  Cert.KernelIdeal.Hand.of_same _ _ (Cert.KernelIdeal.Hand.frame (F := Bits) m ρ (tabled (F := Bits) m h))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at the kernel's arguments is the array the kernel leaves. -/
theorem meets (m : (ℓ : Loc Cert.KernelIdeal.nD Cert.KernelIdeal.τ Cert.KernelIdeal.sig) → Buf (Elt Ideal) ℓ) (hs : Cert.KernelIdeal.Hand.Tabled m) (c : Dev Cert.KernelIdeal.nD) :
    Cert.ReferenceIdeal.Read.val_main_v85 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      = Cert.KernelIdeal.Hand.res m c :=
  funext fun i => Cert.ReferenceIdeal.Hand.plain _ _ _ _ _ _ _ (fun t => by
    have h := (hs c).be_lt t.val t.isLt
    rw [Cert.KernelIdeal.Hand.V_of m c Cert.KernelIdeal.main_arg0 (by decide), Cert.KernelIdeal.Hand.J_eq] at h
    exact h) i

theorem agree : Cert.algebraic_KernelIdeal_ReferenceIdeal := fun m g m' g' hp hag =>
  ⟨fun c => Cert.KernelIdeal.Hand.res m c, Cert.KernelIdeal.Hand.value m g (tabled m hp),
    (θ_run Cert.ReferenceIdeal.defs _ _).mono (fun r h c => ⟨by
      obtain ⟨h0, h1, _, h3, h4, h5, h6, h7⟩ := hag c
      refine (h c).1.trans ((Cert.ReferenceIdeal.Read.val_main_v85_eq m' c).trans ?_)
      rw [h0, h1, h3, h4, h5, h6, h7]
      exact meets m (tabled m hp) c, (h c).2⟩)
      (Cert.ReferenceIdeal.Value.run (F := Ideal) m' g')⟩

/-! ## The attention call -/

theorem frame_kernel2 : Cert.quiescent_Kernel2 := fun m ρ _ => Cert.Kernel2.Gen.frame (F := Bits) m ρ
theorem frame_kernel2Ideal : Cert.quiescent_Kernel2Ideal := fun m ρ _ => Cert.Kernel2Ideal.Gen.frame (F := Ideal) m ρ
theorem frame_kernel2Ideal_reals : Cert.quiescent_Kernel2Ideal_pre_reals := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_reference2_reals : Cert.quiescent_Reference2Ideal_pre_reals := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result at the kernel's arguments is the array the kernel leaves. -/
theorem meets2 (m : (ℓ : Loc Cert.Kernel2Ideal.nD Cert.Kernel2Ideal.τ Cert.Kernel2Ideal.sig) → Buf (Elt Ideal) ℓ) (hp : Cert.Pre_Kernel2Ideal_reals m) (c : Dev Cert.Kernel2Ideal.nD) :
    Cert.Reference2Ideal.Read.val_main_v30 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
      = Cert.Kernel2Ideal.Hand.res m c := by
  obtain ⟨h0, h1, h2, h3⟩ := hp c
  obtain ⟨a0, e0⟩ := Cert.Pre_reals.Hand.real0 _ _ _ _ _ h0
  obtain ⟨a1, e1⟩ := Cert.Pre_reals.Hand.real1 _ _ _ _ _ h1
  obtain ⟨a2, e2⟩ := Cert.Pre_reals.Hand.real2 _ _ _ _ _ h2
  obtain ⟨a3, e3⟩ := Cert.Pre_reals.Hand.real3 _ _ _ _ _ h3
  funext y
  obtain ⟨R, C, rfl⟩ := Cert.Kernel2Ideal.Hand.pair y
  refine (Cert.Reference2Ideal.Hand.mix_eq _ _ _ _ _ R C).trans (Eq.trans ?_ (congrArg₂ (fun Q K => Cert.Kernel2Ideal.Hand.entry Q K
    (Cert.Kernel2Ideal.Hand.vPack (m ((c : Thread Cert.Kernel2Ideal.nD Cert.Kernel2Ideal.τ).loc Cert.Kernel2Ideal.main_arg4))) R C)
    (congrArg₂ Cert.Kernel2Ideal.Hand.qPack e0 e1) (congrArg₂ Cert.Kernel2Ideal.Hand.kPack e2 e3)).symm)
  refine Eq.trans ?_ (Cert.Kernel2Ideal.Hand.entry_real a0 a2 a1 a3 _ R C).symm
  rw [← e0, ← e1, ← e2, ← e3]

theorem agree2 : Cert.algebraic_Kernel2Ideal_Reference2Ideal_pre_reals := fun m g m' g' hp hag =>
  ⟨fun c => Cert.Kernel2Ideal.Hand.res m c,
    (θ_run Cert.Kernel2Ideal.defs _ _).mono (fun r h c => ⟨(h c).1.trans (Cert.Kernel2Ideal.Hand.final m c), (h c).2⟩)
      (Cert.Kernel2Ideal.Value.run_blocks (F := Ideal) m g),
    (θ_run Cert.Reference2Ideal.defs _ _).mono (fun r h c => ⟨by
      obtain ⟨h0, h1, h2, h3, h4⟩ := hag c
      refine (h c).1.trans ((Cert.Reference2Ideal.Read.val_main_v30_eq m' c).trans ?_)
      rw [h0, h1, h2, h3, h4]
      exact meets2 m hp c, (h c).2⟩)
      (Cert.Reference2Ideal.Value.run (F := Ideal) m' g')⟩

/-! ## The projection call -/

theorem frame_kernel3 : Cert.quiescent_Kernel3 := fun m ρ _ => Cert.Kernel3.Gen.frame (F := Bits) m ρ
theorem frame_kernel3Ideal : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem preserved3 : Cert.preserves_Kernel3_Kernel3Ideal := IdealRules.named_const.statement _ _ _ _ _ rfl

open Cert.Kernel3Ideal.Hand Cert.Reference3Ideal.Read in
theorem agree3 : Cert.algebraic_Kernel3Ideal_Reference3Ideal := fun m g m' g' _ hag =>
  ⟨fun c => res14 m c, fun c => res15 m c, fun c => res16 m c, fun c => res17 m c, fun c => res18 m c, fun c => res19 m c,
    (θ_run Cert.Kernel3Ideal.defs _ _).mono (fun r h c => by
      obtain ⟨hq, hk, hv, hl, hr, hu, _, _, hargs⟩ := h c
      exact ⟨hq.trans (final14 m c), hk.trans (final15 m c), hv.trans (final16 m c), hl.trans (final17 m c), hr.trans (final18 m c), hu.trans (final19 m c), hargs⟩)
      (Cert.Kernel3Ideal.Value.run_blocks (F := Ideal) m g),
    (θ_run Cert.Reference3Ideal.defs _ _).mono (fun r h c => by
      obtain ⟨hq, hk, hv, hl, hr, hu, hargs⟩ := h c
      obtain ⟨h0, h1, h2, h3, h4, h5, h6, _⟩ := hag c
      refine ⟨hq.trans ((val_main_v117_eq m' c).trans ?_), hk.trans ((val_main_v119_eq m' c).trans ?_), hv.trans ((val_main_v121_eq _ _ _ _ _).trans ?_),
        hl.trans ((val_main_v75_eq _ _ _ _).trans ?_), hr.trans ((val_main_v122_eq m' c).trans ?_), hu.trans ((val_main_v123_eq _ _ _).trans ?_), hargs⟩
      · rw [h0, h1, h2, h3, h4]; exact (out_q m c).symm
      · rw [h0, h1, h2, h5, h6]; exact (out_k m c).symm
      · rw [h0, h1, h2, h5, h6]; exact (out_v m c).symm
      · rw [h0, h1, h2, h5]; exact (out_lat m c).symm
      · rw [h0, h1, h2]; exact (out_kr m c).symm
      · rw [h0, h1, h2]; exact (out_u m c).symm)
      (Cert.Reference3Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_tables_ok.Gen.facts, Cert.Pre_reals.Gen.facts,
    frame_kernel, frame_kernelIdeal, frame_reference, frame_kernel2, frame_kernel2Ideal, frame_kernel2Ideal_reals, frame_reference2, frame_reference2_reals,
    frame_kernel3, frame_kernel3Ideal, frame_reference3,
    trivial, agree, trivial, agree2, preserved3, agree3⟩

end Cert.Proof

end
